-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelOY (m : (ℓ : Loc Cert.KernelOY.nD Cert.KernelOY.τ Cert.KernelOY.sig) → Buf (Elt Bits) ℓ) : Prop :=
  True

def Pre_KernelOYIdeal (m : (ℓ : Loc Cert.KernelOYIdeal.nD Cert.KernelOYIdeal.τ Cert.KernelOYIdeal.sig) → Buf (Elt Ideal) ℓ) : Prop :=
  True

def Pre_ReferenceOYIdeal (m : (ℓ : Loc Cert.ReferenceOYIdeal.nD Cert.ReferenceOYIdeal.τ Cert.ReferenceOYIdeal.sig) → Buf (Elt Ideal) ℓ) : Prop :=
  True

def Pre_KernelOW (m : (ℓ : Loc Cert.KernelOW.nD Cert.KernelOW.τ Cert.KernelOW.sig) → Buf (Elt Bits) ℓ) : Prop :=
  True

def Pre_KernelOWIdeal (m : (ℓ : Loc Cert.KernelOWIdeal.nD Cert.KernelOWIdeal.τ Cert.KernelOWIdeal.sig) → Buf (Elt Ideal) ℓ) : Prop :=
  True

def Pre_ReferenceOWIdeal (m : (ℓ : Loc Cert.ReferenceOWIdeal.nD Cert.ReferenceOWIdeal.τ Cert.ReferenceOWIdeal.sig) → Buf (Elt Ideal) ℓ) : Prop :=
  True

def Pre_KernelOF (m : (ℓ : Loc Cert.KernelOF.nD Cert.KernelOF.τ Cert.KernelOF.sig) → Buf (Elt Bits) ℓ) : Prop :=
  True

def Pre_KernelOFIdeal (m : (ℓ : Loc Cert.KernelOFIdeal.nD Cert.KernelOFIdeal.τ Cert.KernelOFIdeal.sig) → Buf (Elt Ideal) ℓ) : Prop :=
  True

def Pre_ReferenceOFIdeal (m : (ℓ : Loc Cert.ReferenceOFIdeal.nD Cert.ReferenceOFIdeal.τ Cert.ReferenceOFIdeal.sig) → Buf (Elt Ideal) ℓ) : Prop :=
  True

def Pre_KernelUI (m : (ℓ : Loc Cert.KernelUI.nD Cert.KernelUI.τ Cert.KernelUI.sig) → Buf (Elt Bits) ℓ) : Prop :=
  True

def Pre_KernelUIIdeal (m : (ℓ : Loc Cert.KernelUIIdeal.nD Cert.KernelUIIdeal.τ Cert.KernelUIIdeal.sig) → Buf (Elt Ideal) ℓ) : Prop :=
  True

def Pre_ReferenceUIIdeal (m : (ℓ : Loc Cert.ReferenceUIIdeal.nD Cert.ReferenceUIIdeal.τ Cert.ReferenceUIIdeal.sig) → Buf (Elt Ideal) ℓ) : Prop :=
  True

def Pre_KernelUO (m : (ℓ : Loc Cert.KernelUO.nD Cert.KernelUO.τ Cert.KernelUO.sig) → Buf (Elt Bits) ℓ) : Prop :=
  True

def Pre_KernelUOIdeal (m : (ℓ : Loc Cert.KernelUOIdeal.nD Cert.KernelUOIdeal.τ Cert.KernelUOIdeal.sig) → Buf (Elt Ideal) ℓ) : Prop :=
  True

def Pre_ReferenceUOIdeal (m : (ℓ : Loc Cert.ReferenceUOIdeal.nD Cert.ReferenceUOIdeal.τ Cert.ReferenceUOIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelFO (m : (ℓ : Loc Cert.KernelFO.nD Cert.KernelFO.τ Cert.KernelFO.sig) → Buf (Elt Bits) ℓ) : Prop :=
  True

def Pre_KernelFOIdeal (m : (ℓ : Loc Cert.KernelFOIdeal.nD Cert.KernelFOIdeal.τ Cert.KernelFOIdeal.sig) → Buf (Elt Ideal) ℓ) : Prop :=
  True

def Pre_ReferenceFOIdeal (m : (ℓ : Loc Cert.ReferenceFOIdeal.nD Cert.ReferenceFOIdeal.τ Cert.ReferenceFOIdeal.sig) → Buf (Elt Ideal) ℓ) : Prop :=
  True

def Pre_KernelFN (m : (ℓ : Loc Cert.KernelFN.nD Cert.KernelFN.τ Cert.KernelFN.sig) → Buf (Elt Bits) ℓ) : Prop :=
  True

def Pre_KernelFNIdeal (m : (ℓ : Loc Cert.KernelFNIdeal.nD Cert.KernelFNIdeal.τ Cert.KernelFNIdeal.sig) → Buf (Elt Ideal) ℓ) : Prop :=
  True

def Pre_ReferenceFNIdeal (m : (ℓ : Loc Cert.ReferenceFNIdeal.nD Cert.ReferenceFNIdeal.τ Cert.ReferenceFNIdeal.sig) → Buf (Elt Ideal) ℓ) : Prop :=
  True

def Pre_KernelFD (m : (ℓ : Loc Cert.KernelFD.nD Cert.KernelFD.τ Cert.KernelFD.sig) → Buf (Elt Bits) ℓ) : Prop :=
  True

def Pre_KernelFDIdeal (m : (ℓ : Loc Cert.KernelFDIdeal.nD Cert.KernelFDIdeal.τ Cert.KernelFDIdeal.sig) → Buf (Elt Ideal) ℓ) : Prop :=
  True

def Pre_ReferenceFDIdeal (m : (ℓ : Loc Cert.ReferenceFDIdeal.nD Cert.ReferenceFDIdeal.τ Cert.ReferenceFDIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_ReferenceLIdeal (m : (ℓ : Loc Cert.ReferenceLIdeal.nD Cert.ReferenceLIdeal.τ Cert.ReferenceLIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_ReferenceCIdeal (m : (ℓ : Loc Cert.ReferenceCIdeal.nD Cert.ReferenceCIdeal.τ Cert.ReferenceCIdeal.sig) → Buf (Elt Ideal) ℓ) : Prop :=
  True

def Pre_KernelCO (m : (ℓ : Loc Cert.KernelCO.nD Cert.KernelCO.τ Cert.KernelCO.sig) → Buf (Elt Bits) ℓ) : Prop :=
  True

def Pre_KernelCOIdeal (m : (ℓ : Loc Cert.KernelCOIdeal.nD Cert.KernelCOIdeal.τ Cert.KernelCOIdeal.sig) → Buf (Elt Ideal) ℓ) : Prop :=
  True

def Pre_ReferenceCOIdeal (m : (ℓ : Loc Cert.ReferenceCOIdeal.nD Cert.ReferenceCOIdeal.τ Cert.ReferenceCOIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1))
      ∧ r.2.sem = fun _ => 0)

def quiescent_KernelOY [hKernelOY : Cert.KernelOY.Facts] : Prop :=
  ∀ (m : (ℓ : Loc Cert.KernelOY.nD Cert.KernelOY.τ Cert.KernelOY.sig) → Buf (Elt Bits) ℓ) (g : Dev Cert.KernelOY.nD → PrngReg), Pre_KernelOY m →
    θ_run (Cert.KernelOY.defs (F := Bits)) (onTc (τ := Cert.KernelOY.τ) (Cert.KernelOY.main (F := Bits))) ⟨m, fun _ => 0, g⟩ (fun r => (∀ c : Dev Cert.KernelOY.nD,
      r.2.mem ((c.tc : Thread Cert.KernelOY.nD Cert.KernelOY.τ).loc Cert.KernelOY.main_arg0) = m ((c.tc : Thread Cert.KernelOY.nD Cert.KernelOY.τ).loc Cert.KernelOY.main_arg0)
      ∧ r.2.mem ((c.tc : Thread Cert.KernelOY.nD Cert.KernelOY.τ).loc Cert.KernelOY.main_arg1) = m ((c.tc : Thread Cert.KernelOY.nD Cert.KernelOY.τ).loc Cert.KernelOY.main_arg1))
      ∧ r.2.sem = fun _ => 0)

def quiescent_KernelOYIdeal [hKernelOYIdeal : Cert.KernelOYIdeal.Facts] : Prop :=
  ∀ (m : (ℓ : Loc Cert.KernelOYIdeal.nD Cert.KernelOYIdeal.τ Cert.KernelOYIdeal.sig) → Buf (Elt Ideal) ℓ) (g : Dev Cert.KernelOYIdeal.nD → PrngReg), Pre_KernelOYIdeal m →
    θ_run (Cert.KernelOYIdeal.defs (F := Ideal)) (onTc (τ := Cert.KernelOYIdeal.τ) (Cert.KernelOYIdeal.main (F := Ideal))) ⟨m, fun _ => 0, g⟩ (fun r => (∀ c : Dev Cert.KernelOYIdeal.nD,
      r.2.mem ((c.tc : Thread Cert.KernelOYIdeal.nD Cert.KernelOYIdeal.τ).loc Cert.KernelOYIdeal.main_arg0) = m ((c.tc : Thread Cert.KernelOYIdeal.nD Cert.KernelOYIdeal.τ).loc Cert.KernelOYIdeal.main_arg0)
      ∧ r.2.mem ((c.tc : Thread Cert.KernelOYIdeal.nD Cert.KernelOYIdeal.τ).loc Cert.KernelOYIdeal.main_arg1) = m ((c.tc : Thread Cert.KernelOYIdeal.nD Cert.KernelOYIdeal.τ).loc Cert.KernelOYIdeal.main_arg1))
      ∧ r.2.sem = fun _ => 0)

def quiescent_ReferenceOYIdeal [hReferenceOYIdeal : Cert.ReferenceOYIdeal.Facts] : Prop :=
  ∀ (m : (ℓ : Loc Cert.ReferenceOYIdeal.nD Cert.ReferenceOYIdeal.τ Cert.ReferenceOYIdeal.sig) → Buf (Elt Ideal) ℓ) (g : Dev Cert.ReferenceOYIdeal.nD → PrngReg), Pre_ReferenceOYIdeal m →
    θ_run (Cert.ReferenceOYIdeal.defs (F := Ideal)) (onTc (τ := Cert.ReferenceOYIdeal.τ) (Cert.ReferenceOYIdeal.main (F := Ideal))) ⟨m, fun _ => 0, g⟩ (fun r => (∀ c : Dev Cert.ReferenceOYIdeal.nD,
      r.2.mem ((c.tc : Thread Cert.ReferenceOYIdeal.nD Cert.ReferenceOYIdeal.τ).loc Cert.ReferenceOYIdeal.main_arg0) = m ((c.tc : Thread Cert.ReferenceOYIdeal.nD Cert.ReferenceOYIdeal.τ).loc Cert.ReferenceOYIdeal.main_arg0)
      ∧ r.2.mem ((c.tc : Thread Cert.ReferenceOYIdeal.nD Cert.ReferenceOYIdeal.τ).loc Cert.ReferenceOYIdeal.main_arg1) = m ((c.tc : Thread Cert.ReferenceOYIdeal.nD Cert.ReferenceOYIdeal.τ).loc Cert.ReferenceOYIdeal.main_arg1))
      ∧ r.2.sem = fun _ => 0)

def quiescent_KernelOW [hKernelOW : Cert.KernelOW.Facts] : Prop :=
  ∀ (m : (ℓ : Loc Cert.KernelOW.nD Cert.KernelOW.τ Cert.KernelOW.sig) → Buf (Elt Bits) ℓ) (g : Dev Cert.KernelOW.nD → PrngReg), Pre_KernelOW m →
    θ_run (Cert.KernelOW.defs (F := Bits)) (onTc (τ := Cert.KernelOW.τ) (Cert.KernelOW.main (F := Bits))) ⟨m, fun _ => 0, g⟩ (fun r => (∀ c : Dev Cert.KernelOW.nD,
      r.2.mem ((c.tc : Thread Cert.KernelOW.nD Cert.KernelOW.τ).loc Cert.KernelOW.main_arg0) = m ((c.tc : Thread Cert.KernelOW.nD Cert.KernelOW.τ).loc Cert.KernelOW.main_arg0)
      ∧ r.2.mem ((c.tc : Thread Cert.KernelOW.nD Cert.KernelOW.τ).loc Cert.KernelOW.main_arg1) = m ((c.tc : Thread Cert.KernelOW.nD Cert.KernelOW.τ).loc Cert.KernelOW.main_arg1))
      ∧ r.2.sem = fun _ => 0)

def quiescent_KernelOWIdeal [hKernelOWIdeal : Cert.KernelOWIdeal.Facts] : Prop :=
  ∀ (m : (ℓ : Loc Cert.KernelOWIdeal.nD Cert.KernelOWIdeal.τ Cert.KernelOWIdeal.sig) → Buf (Elt Ideal) ℓ) (g : Dev Cert.KernelOWIdeal.nD → PrngReg), Pre_KernelOWIdeal m →
    θ_run (Cert.KernelOWIdeal.defs (F := Ideal)) (onTc (τ := Cert.KernelOWIdeal.τ) (Cert.KernelOWIdeal.main (F := Ideal))) ⟨m, fun _ => 0, g⟩ (fun r => (∀ c : Dev Cert.KernelOWIdeal.nD,
      r.2.mem ((c.tc : Thread Cert.KernelOWIdeal.nD Cert.KernelOWIdeal.τ).loc Cert.KernelOWIdeal.main_arg0) = m ((c.tc : Thread Cert.KernelOWIdeal.nD Cert.KernelOWIdeal.τ).loc Cert.KernelOWIdeal.main_arg0)
      ∧ r.2.mem ((c.tc : Thread Cert.KernelOWIdeal.nD Cert.KernelOWIdeal.τ).loc Cert.KernelOWIdeal.main_arg1) = m ((c.tc : Thread Cert.KernelOWIdeal.nD Cert.KernelOWIdeal.τ).loc Cert.KernelOWIdeal.main_arg1))
      ∧ r.2.sem = fun _ => 0)

def quiescent_ReferenceOWIdeal [hReferenceOWIdeal : Cert.ReferenceOWIdeal.Facts] : Prop :=
  ∀ (m : (ℓ : Loc Cert.ReferenceOWIdeal.nD Cert.ReferenceOWIdeal.τ Cert.ReferenceOWIdeal.sig) → Buf (Elt Ideal) ℓ) (g : Dev Cert.ReferenceOWIdeal.nD → PrngReg), Pre_ReferenceOWIdeal m →
    θ_run (Cert.ReferenceOWIdeal.defs (F := Ideal)) (onTc (τ := Cert.ReferenceOWIdeal.τ) (Cert.ReferenceOWIdeal.main (F := Ideal))) ⟨m, fun _ => 0, g⟩ (fun r => (∀ c : Dev Cert.ReferenceOWIdeal.nD,
      r.2.mem ((c.tc : Thread Cert.ReferenceOWIdeal.nD Cert.ReferenceOWIdeal.τ).loc Cert.ReferenceOWIdeal.main_arg0) = m ((c.tc : Thread Cert.ReferenceOWIdeal.nD Cert.ReferenceOWIdeal.τ).loc Cert.ReferenceOWIdeal.main_arg0)
      ∧ r.2.mem ((c.tc : Thread Cert.ReferenceOWIdeal.nD Cert.ReferenceOWIdeal.τ).loc Cert.ReferenceOWIdeal.main_arg1) = m ((c.tc : Thread Cert.ReferenceOWIdeal.nD Cert.ReferenceOWIdeal.τ).loc Cert.ReferenceOWIdeal.main_arg1))
      ∧ r.2.sem = fun _ => 0)

def quiescent_KernelOF [hKernelOF : Cert.KernelOF.Facts] : Prop :=
  ∀ (m : (ℓ : Loc Cert.KernelOF.nD Cert.KernelOF.τ Cert.KernelOF.sig) → Buf (Elt Bits) ℓ) (g : Dev Cert.KernelOF.nD → PrngReg), Pre_KernelOF m →
    θ_run (Cert.KernelOF.defs (F := Bits)) (onTc (τ := Cert.KernelOF.τ) (Cert.KernelOF.main (F := Bits))) ⟨m, fun _ => 0, g⟩ (fun r => (∀ c : Dev Cert.KernelOF.nD,
      r.2.mem ((c.tc : Thread Cert.KernelOF.nD Cert.KernelOF.τ).loc Cert.KernelOF.main_arg0) = m ((c.tc : Thread Cert.KernelOF.nD Cert.KernelOF.τ).loc Cert.KernelOF.main_arg0)
      ∧ r.2.mem ((c.tc : Thread Cert.KernelOF.nD Cert.KernelOF.τ).loc Cert.KernelOF.main_arg1) = m ((c.tc : Thread Cert.KernelOF.nD Cert.KernelOF.τ).loc Cert.KernelOF.main_arg1))
      ∧ r.2.sem = fun _ => 0)

def quiescent_KernelOFIdeal [hKernelOFIdeal : Cert.KernelOFIdeal.Facts] : Prop :=
  ∀ (m : (ℓ : Loc Cert.KernelOFIdeal.nD Cert.KernelOFIdeal.τ Cert.KernelOFIdeal.sig) → Buf (Elt Ideal) ℓ) (g : Dev Cert.KernelOFIdeal.nD → PrngReg), Pre_KernelOFIdeal m →
    θ_run (Cert.KernelOFIdeal.defs (F := Ideal)) (onTc (τ := Cert.KernelOFIdeal.τ) (Cert.KernelOFIdeal.main (F := Ideal))) ⟨m, fun _ => 0, g⟩ (fun r => (∀ c : Dev Cert.KernelOFIdeal.nD,
      r.2.mem ((c.tc : Thread Cert.KernelOFIdeal.nD Cert.KernelOFIdeal.τ).loc Cert.KernelOFIdeal.main_arg0) = m ((c.tc : Thread Cert.KernelOFIdeal.nD Cert.KernelOFIdeal.τ).loc Cert.KernelOFIdeal.main_arg0)
      ∧ r.2.mem ((c.tc : Thread Cert.KernelOFIdeal.nD Cert.KernelOFIdeal.τ).loc Cert.KernelOFIdeal.main_arg1) = m ((c.tc : Thread Cert.KernelOFIdeal.nD Cert.KernelOFIdeal.τ).loc Cert.KernelOFIdeal.main_arg1))
      ∧ r.2.sem = fun _ => 0)

def quiescent_ReferenceOFIdeal [hReferenceOFIdeal : Cert.ReferenceOFIdeal.Facts] : Prop :=
  ∀ (m : (ℓ : Loc Cert.ReferenceOFIdeal.nD Cert.ReferenceOFIdeal.τ Cert.ReferenceOFIdeal.sig) → Buf (Elt Ideal) ℓ) (g : Dev Cert.ReferenceOFIdeal.nD → PrngReg), Pre_ReferenceOFIdeal m →
    θ_run (Cert.ReferenceOFIdeal.defs (F := Ideal)) (onTc (τ := Cert.ReferenceOFIdeal.τ) (Cert.ReferenceOFIdeal.main (F := Ideal))) ⟨m, fun _ => 0, g⟩ (fun r => (∀ c : Dev Cert.ReferenceOFIdeal.nD,
      r.2.mem ((c.tc : Thread Cert.ReferenceOFIdeal.nD Cert.ReferenceOFIdeal.τ).loc Cert.ReferenceOFIdeal.main_arg0) = m ((c.tc : Thread Cert.ReferenceOFIdeal.nD Cert.ReferenceOFIdeal.τ).loc Cert.ReferenceOFIdeal.main_arg0)
      ∧ r.2.mem ((c.tc : Thread Cert.ReferenceOFIdeal.nD Cert.ReferenceOFIdeal.τ).loc Cert.ReferenceOFIdeal.main_arg1) = m ((c.tc : Thread Cert.ReferenceOFIdeal.nD Cert.ReferenceOFIdeal.τ).loc Cert.ReferenceOFIdeal.main_arg1))
      ∧ r.2.sem = fun _ => 0)

def quiescent_KernelUI [hKernelUI : Cert.KernelUI.Facts] : Prop :=
  ∀ (m : (ℓ : Loc Cert.KernelUI.nD Cert.KernelUI.τ Cert.KernelUI.sig) → Buf (Elt Bits) ℓ) (g : Dev Cert.KernelUI.nD → PrngReg), Pre_KernelUI m →
    θ_run (Cert.KernelUI.defs (F := Bits)) (onTc (τ := Cert.KernelUI.τ) (Cert.KernelUI.main (F := Bits))) ⟨m, fun _ => 0, g⟩ (fun r => (∀ c : Dev Cert.KernelUI.nD,
      r.2.mem ((c.tc : Thread Cert.KernelUI.nD Cert.KernelUI.τ).loc Cert.KernelUI.main_arg0) = m ((c.tc : Thread Cert.KernelUI.nD Cert.KernelUI.τ).loc Cert.KernelUI.main_arg0)
      ∧ r.2.mem ((c.tc : Thread Cert.KernelUI.nD Cert.KernelUI.τ).loc Cert.KernelUI.main_arg1) = m ((c.tc : Thread Cert.KernelUI.nD Cert.KernelUI.τ).loc Cert.KernelUI.main_arg1)
      ∧ r.2.mem ((c.tc : Thread Cert.KernelUI.nD Cert.KernelUI.τ).loc Cert.KernelUI.main_arg2) = m ((c.tc : Thread Cert.KernelUI.nD Cert.KernelUI.τ).loc Cert.KernelUI.main_arg2)
      ∧ r.2.mem ((c.tc : Thread Cert.KernelUI.nD Cert.KernelUI.τ).loc Cert.KernelUI.main_arg3) = m ((c.tc : Thread Cert.KernelUI.nD Cert.KernelUI.τ).loc Cert.KernelUI.main_arg3))
      ∧ r.2.sem = fun _ => 0)

def quiescent_KernelUIIdeal [hKernelUIIdeal : Cert.KernelUIIdeal.Facts] : Prop :=
  ∀ (m : (ℓ : Loc Cert.KernelUIIdeal.nD Cert.KernelUIIdeal.τ Cert.KernelUIIdeal.sig) → Buf (Elt Ideal) ℓ) (g : Dev Cert.KernelUIIdeal.nD → PrngReg), Pre_KernelUIIdeal m →
    θ_run (Cert.KernelUIIdeal.defs (F := Ideal)) (onTc (τ := Cert.KernelUIIdeal.τ) (Cert.KernelUIIdeal.main (F := Ideal))) ⟨m, fun _ => 0, g⟩ (fun r => (∀ c : Dev Cert.KernelUIIdeal.nD,
      r.2.mem ((c.tc : Thread Cert.KernelUIIdeal.nD Cert.KernelUIIdeal.τ).loc Cert.KernelUIIdeal.main_arg0) = m ((c.tc : Thread Cert.KernelUIIdeal.nD Cert.KernelUIIdeal.τ).loc Cert.KernelUIIdeal.main_arg0)
      ∧ r.2.mem ((c.tc : Thread Cert.KernelUIIdeal.nD Cert.KernelUIIdeal.τ).loc Cert.KernelUIIdeal.main_arg1) = m ((c.tc : Thread Cert.KernelUIIdeal.nD Cert.KernelUIIdeal.τ).loc Cert.KernelUIIdeal.main_arg1)
      ∧ r.2.mem ((c.tc : Thread Cert.KernelUIIdeal.nD Cert.KernelUIIdeal.τ).loc Cert.KernelUIIdeal.main_arg2) = m ((c.tc : Thread Cert.KernelUIIdeal.nD Cert.KernelUIIdeal.τ).loc Cert.KernelUIIdeal.main_arg2)
      ∧ r.2.mem ((c.tc : Thread Cert.KernelUIIdeal.nD Cert.KernelUIIdeal.τ).loc Cert.KernelUIIdeal.main_arg3) = m ((c.tc : Thread Cert.KernelUIIdeal.nD Cert.KernelUIIdeal.τ).loc Cert.KernelUIIdeal.main_arg3))
      ∧ r.2.sem = fun _ => 0)

def quiescent_ReferenceUIIdeal [hReferenceUIIdeal : Cert.ReferenceUIIdeal.Facts] : Prop :=
  ∀ (m : (ℓ : Loc Cert.ReferenceUIIdeal.nD Cert.ReferenceUIIdeal.τ Cert.ReferenceUIIdeal.sig) → Buf (Elt Ideal) ℓ) (g : Dev Cert.ReferenceUIIdeal.nD → PrngReg), Pre_ReferenceUIIdeal m →
    θ_run (Cert.ReferenceUIIdeal.defs (F := Ideal)) (onTc (τ := Cert.ReferenceUIIdeal.τ) (Cert.ReferenceUIIdeal.main (F := Ideal))) ⟨m, fun _ => 0, g⟩ (fun r => (∀ c : Dev Cert.ReferenceUIIdeal.nD,
      r.2.mem ((c.tc : Thread Cert.ReferenceUIIdeal.nD Cert.ReferenceUIIdeal.τ).loc Cert.ReferenceUIIdeal.main_arg0) = m ((c.tc : Thread Cert.ReferenceUIIdeal.nD Cert.ReferenceUIIdeal.τ).loc Cert.ReferenceUIIdeal.main_arg0)
      ∧ r.2.mem ((c.tc : Thread Cert.ReferenceUIIdeal.nD Cert.ReferenceUIIdeal.τ).loc Cert.ReferenceUIIdeal.main_arg1) = m ((c.tc : Thread Cert.ReferenceUIIdeal.nD Cert.ReferenceUIIdeal.τ).loc Cert.ReferenceUIIdeal.main_arg1)
      ∧ r.2.mem ((c.tc : Thread Cert.ReferenceUIIdeal.nD Cert.ReferenceUIIdeal.τ).loc Cert.ReferenceUIIdeal.main_arg2) = m ((c.tc : Thread Cert.ReferenceUIIdeal.nD Cert.ReferenceUIIdeal.τ).loc Cert.ReferenceUIIdeal.main_arg2)
      ∧ r.2.mem ((c.tc : Thread Cert.ReferenceUIIdeal.nD Cert.ReferenceUIIdeal.τ).loc Cert.ReferenceUIIdeal.main_arg3) = m ((c.tc : Thread Cert.ReferenceUIIdeal.nD Cert.ReferenceUIIdeal.τ).loc Cert.ReferenceUIIdeal.main_arg3))
      ∧ r.2.sem = fun _ => 0)

def quiescent_KernelUO [hKernelUO : Cert.KernelUO.Facts] : Prop :=
  ∀ (m : (ℓ : Loc Cert.KernelUO.nD Cert.KernelUO.τ Cert.KernelUO.sig) → Buf (Elt Bits) ℓ) (g : Dev Cert.KernelUO.nD → PrngReg), Pre_KernelUO m →
    θ_run (Cert.KernelUO.defs (F := Bits)) (onTc (τ := Cert.KernelUO.τ) (Cert.KernelUO.main (F := Bits))) ⟨m, fun _ => 0, g⟩ (fun r => (∀ c : Dev Cert.KernelUO.nD,
      r.2.mem ((c.tc : Thread Cert.KernelUO.nD Cert.KernelUO.τ).loc Cert.KernelUO.main_arg0) = m ((c.tc : Thread Cert.KernelUO.nD Cert.KernelUO.τ).loc Cert.KernelUO.main_arg0)
      ∧ r.2.mem ((c.tc : Thread Cert.KernelUO.nD Cert.KernelUO.τ).loc Cert.KernelUO.main_arg1) = m ((c.tc : Thread Cert.KernelUO.nD Cert.KernelUO.τ).loc Cert.KernelUO.main_arg1)
      ∧ r.2.mem ((c.tc : Thread Cert.KernelUO.nD Cert.KernelUO.τ).loc Cert.KernelUO.main_arg2) = m ((c.tc : Thread Cert.KernelUO.nD Cert.KernelUO.τ).loc Cert.KernelUO.main_arg2)
      ∧ r.2.mem ((c.tc : Thread Cert.KernelUO.nD Cert.KernelUO.τ).loc Cert.KernelUO.main_arg3) = m ((c.tc : Thread Cert.KernelUO.nD Cert.KernelUO.τ).loc Cert.KernelUO.main_arg3))
      ∧ r.2.sem = fun _ => 0)

def quiescent_KernelUOIdeal [hKernelUOIdeal : Cert.KernelUOIdeal.Facts] : Prop :=
  ∀ (m : (ℓ : Loc Cert.KernelUOIdeal.nD Cert.KernelUOIdeal.τ Cert.KernelUOIdeal.sig) → Buf (Elt Ideal) ℓ) (g : Dev Cert.KernelUOIdeal.nD → PrngReg), Pre_KernelUOIdeal m →
    θ_run (Cert.KernelUOIdeal.defs (F := Ideal)) (onTc (τ := Cert.KernelUOIdeal.τ) (Cert.KernelUOIdeal.main (F := Ideal))) ⟨m, fun _ => 0, g⟩ (fun r => (∀ c : Dev Cert.KernelUOIdeal.nD,
      r.2.mem ((c.tc : Thread Cert.KernelUOIdeal.nD Cert.KernelUOIdeal.τ).loc Cert.KernelUOIdeal.main_arg0) = m ((c.tc : Thread Cert.KernelUOIdeal.nD Cert.KernelUOIdeal.τ).loc Cert.KernelUOIdeal.main_arg0)
      ∧ r.2.mem ((c.tc : Thread Cert.KernelUOIdeal.nD Cert.KernelUOIdeal.τ).loc Cert.KernelUOIdeal.main_arg1) = m ((c.tc : Thread Cert.KernelUOIdeal.nD Cert.KernelUOIdeal.τ).loc Cert.KernelUOIdeal.main_arg1)
      ∧ r.2.mem ((c.tc : Thread Cert.KernelUOIdeal.nD Cert.KernelUOIdeal.τ).loc Cert.KernelUOIdeal.main_arg2) = m ((c.tc : Thread Cert.KernelUOIdeal.nD Cert.KernelUOIdeal.τ).loc Cert.KernelUOIdeal.main_arg2)
      ∧ r.2.mem ((c.tc : Thread Cert.KernelUOIdeal.nD Cert.KernelUOIdeal.τ).loc Cert.KernelUOIdeal.main_arg3) = m ((c.tc : Thread Cert.KernelUOIdeal.nD Cert.KernelUOIdeal.τ).loc Cert.KernelUOIdeal.main_arg3))
      ∧ r.2.sem = fun _ => 0)

def quiescent_ReferenceUOIdeal [hReferenceUOIdeal : Cert.ReferenceUOIdeal.Facts] : Prop :=
  ∀ (m : (ℓ : Loc Cert.ReferenceUOIdeal.nD Cert.ReferenceUOIdeal.τ Cert.ReferenceUOIdeal.sig) → Buf (Elt Ideal) ℓ) (g : Dev Cert.ReferenceUOIdeal.nD → PrngReg), Pre_ReferenceUOIdeal m →
    θ_run (Cert.ReferenceUOIdeal.defs (F := Ideal)) (onTc (τ := Cert.ReferenceUOIdeal.τ) (Cert.ReferenceUOIdeal.main (F := Ideal))) ⟨m, fun _ => 0, g⟩ (fun r => (∀ c : Dev Cert.ReferenceUOIdeal.nD,
      r.2.mem ((c.tc : Thread Cert.ReferenceUOIdeal.nD Cert.ReferenceUOIdeal.τ).loc Cert.ReferenceUOIdeal.main_arg0) = m ((c.tc : Thread Cert.ReferenceUOIdeal.nD Cert.ReferenceUOIdeal.τ).loc Cert.ReferenceUOIdeal.main_arg0)
      ∧ r.2.mem ((c.tc : Thread Cert.ReferenceUOIdeal.nD Cert.ReferenceUOIdeal.τ).loc Cert.ReferenceUOIdeal.main_arg1) = m ((c.tc : Thread Cert.ReferenceUOIdeal.nD Cert.ReferenceUOIdeal.τ).loc Cert.ReferenceUOIdeal.main_arg1)
      ∧ r.2.mem ((c.tc : Thread Cert.ReferenceUOIdeal.nD Cert.ReferenceUOIdeal.τ).loc Cert.ReferenceUOIdeal.main_arg2) = m ((c.tc : Thread Cert.ReferenceUOIdeal.nD Cert.ReferenceUOIdeal.τ).loc Cert.ReferenceUOIdeal.main_arg2)
      ∧ r.2.mem ((c.tc : Thread Cert.ReferenceUOIdeal.nD Cert.ReferenceUOIdeal.τ).loc Cert.ReferenceUOIdeal.main_arg3) = m ((c.tc : Thread Cert.ReferenceUOIdeal.nD Cert.ReferenceUOIdeal.τ).loc Cert.ReferenceUOIdeal.main_arg3))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def quiescent_KernelFO [hKernelFO : Cert.KernelFO.Facts] : Prop :=
  ∀ (m : (ℓ : Loc Cert.KernelFO.nD Cert.KernelFO.τ Cert.KernelFO.sig) → Buf (Elt Bits) ℓ) (g : Dev Cert.KernelFO.nD → PrngReg), Pre_KernelFO m →
    θ_run (Cert.KernelFO.defs (F := Bits)) (onTc (τ := Cert.KernelFO.τ) (Cert.KernelFO.main (F := Bits))) ⟨m, fun _ => 0, g⟩ (fun r => (∀ c : Dev Cert.KernelFO.nD,
      r.2.mem ((c.tc : Thread Cert.KernelFO.nD Cert.KernelFO.τ).loc Cert.KernelFO.main_arg0) = m ((c.tc : Thread Cert.KernelFO.nD Cert.KernelFO.τ).loc Cert.KernelFO.main_arg0)
      ∧ r.2.mem ((c.tc : Thread Cert.KernelFO.nD Cert.KernelFO.τ).loc Cert.KernelFO.main_arg1) = m ((c.tc : Thread Cert.KernelFO.nD Cert.KernelFO.τ).loc Cert.KernelFO.main_arg1))
      ∧ r.2.sem = fun _ => 0)

def quiescent_KernelFOIdeal [hKernelFOIdeal : Cert.KernelFOIdeal.Facts] : Prop :=
  ∀ (m : (ℓ : Loc Cert.KernelFOIdeal.nD Cert.KernelFOIdeal.τ Cert.KernelFOIdeal.sig) → Buf (Elt Ideal) ℓ) (g : Dev Cert.KernelFOIdeal.nD → PrngReg), Pre_KernelFOIdeal m →
    θ_run (Cert.KernelFOIdeal.defs (F := Ideal)) (onTc (τ := Cert.KernelFOIdeal.τ) (Cert.KernelFOIdeal.main (F := Ideal))) ⟨m, fun _ => 0, g⟩ (fun r => (∀ c : Dev Cert.KernelFOIdeal.nD,
      r.2.mem ((c.tc : Thread Cert.KernelFOIdeal.nD Cert.KernelFOIdeal.τ).loc Cert.KernelFOIdeal.main_arg0) = m ((c.tc : Thread Cert.KernelFOIdeal.nD Cert.KernelFOIdeal.τ).loc Cert.KernelFOIdeal.main_arg0)
      ∧ r.2.mem ((c.tc : Thread Cert.KernelFOIdeal.nD Cert.KernelFOIdeal.τ).loc Cert.KernelFOIdeal.main_arg1) = m ((c.tc : Thread Cert.KernelFOIdeal.nD Cert.KernelFOIdeal.τ).loc Cert.KernelFOIdeal.main_arg1))
      ∧ r.2.sem = fun _ => 0)

def quiescent_ReferenceFOIdeal [hReferenceFOIdeal : Cert.ReferenceFOIdeal.Facts] : Prop :=
  ∀ (m : (ℓ : Loc Cert.ReferenceFOIdeal.nD Cert.ReferenceFOIdeal.τ Cert.ReferenceFOIdeal.sig) → Buf (Elt Ideal) ℓ) (g : Dev Cert.ReferenceFOIdeal.nD → PrngReg), Pre_ReferenceFOIdeal m →
    θ_run (Cert.ReferenceFOIdeal.defs (F := Ideal)) (onTc (τ := Cert.ReferenceFOIdeal.τ) (Cert.ReferenceFOIdeal.main (F := Ideal))) ⟨m, fun _ => 0, g⟩ (fun r => (∀ c : Dev Cert.ReferenceFOIdeal.nD,
      r.2.mem ((c.tc : Thread Cert.ReferenceFOIdeal.nD Cert.ReferenceFOIdeal.τ).loc Cert.ReferenceFOIdeal.main_arg0) = m ((c.tc : Thread Cert.ReferenceFOIdeal.nD Cert.ReferenceFOIdeal.τ).loc Cert.ReferenceFOIdeal.main_arg0)
      ∧ r.2.mem ((c.tc : Thread Cert.ReferenceFOIdeal.nD Cert.ReferenceFOIdeal.τ).loc Cert.ReferenceFOIdeal.main_arg1) = m ((c.tc : Thread Cert.ReferenceFOIdeal.nD Cert.ReferenceFOIdeal.τ).loc Cert.ReferenceFOIdeal.main_arg1))
      ∧ r.2.sem = fun _ => 0)

def quiescent_KernelFN [hKernelFN : Cert.KernelFN.Facts] : Prop :=
  ∀ (m : (ℓ : Loc Cert.KernelFN.nD Cert.KernelFN.τ Cert.KernelFN.sig) → Buf (Elt Bits) ℓ) (g : Dev Cert.KernelFN.nD → PrngReg), Pre_KernelFN m →
    θ_run (Cert.KernelFN.defs (F := Bits)) (onTc (τ := Cert.KernelFN.τ) (Cert.KernelFN.main (F := Bits))) ⟨m, fun _ => 0, g⟩ (fun r => (∀ c : Dev Cert.KernelFN.nD,
      r.2.mem ((c.tc : Thread Cert.KernelFN.nD Cert.KernelFN.τ).loc Cert.KernelFN.main_arg0) = m ((c.tc : Thread Cert.KernelFN.nD Cert.KernelFN.τ).loc Cert.KernelFN.main_arg0)
      ∧ r.2.mem ((c.tc : Thread Cert.KernelFN.nD Cert.KernelFN.τ).loc Cert.KernelFN.main_arg1) = m ((c.tc : Thread Cert.KernelFN.nD Cert.KernelFN.τ).loc Cert.KernelFN.main_arg1)
      ∧ r.2.mem ((c.tc : Thread Cert.KernelFN.nD Cert.KernelFN.τ).loc Cert.KernelFN.main_arg2) = m ((c.tc : Thread Cert.KernelFN.nD Cert.KernelFN.τ).loc Cert.KernelFN.main_arg2))
      ∧ r.2.sem = fun _ => 0)

def quiescent_KernelFNIdeal [hKernelFNIdeal : Cert.KernelFNIdeal.Facts] : Prop :=
  ∀ (m : (ℓ : Loc Cert.KernelFNIdeal.nD Cert.KernelFNIdeal.τ Cert.KernelFNIdeal.sig) → Buf (Elt Ideal) ℓ) (g : Dev Cert.KernelFNIdeal.nD → PrngReg), Pre_KernelFNIdeal m →
    θ_run (Cert.KernelFNIdeal.defs (F := Ideal)) (onTc (τ := Cert.KernelFNIdeal.τ) (Cert.KernelFNIdeal.main (F := Ideal))) ⟨m, fun _ => 0, g⟩ (fun r => (∀ c : Dev Cert.KernelFNIdeal.nD,
      r.2.mem ((c.tc : Thread Cert.KernelFNIdeal.nD Cert.KernelFNIdeal.τ).loc Cert.KernelFNIdeal.main_arg0) = m ((c.tc : Thread Cert.KernelFNIdeal.nD Cert.KernelFNIdeal.τ).loc Cert.KernelFNIdeal.main_arg0)
      ∧ r.2.mem ((c.tc : Thread Cert.KernelFNIdeal.nD Cert.KernelFNIdeal.τ).loc Cert.KernelFNIdeal.main_arg1) = m ((c.tc : Thread Cert.KernelFNIdeal.nD Cert.KernelFNIdeal.τ).loc Cert.KernelFNIdeal.main_arg1)
      ∧ r.2.mem ((c.tc : Thread Cert.KernelFNIdeal.nD Cert.KernelFNIdeal.τ).loc Cert.KernelFNIdeal.main_arg2) = m ((c.tc : Thread Cert.KernelFNIdeal.nD Cert.KernelFNIdeal.τ).loc Cert.KernelFNIdeal.main_arg2))
      ∧ r.2.sem = fun _ => 0)

def quiescent_ReferenceFNIdeal [hReferenceFNIdeal : Cert.ReferenceFNIdeal.Facts] : Prop :=
  ∀ (m : (ℓ : Loc Cert.ReferenceFNIdeal.nD Cert.ReferenceFNIdeal.τ Cert.ReferenceFNIdeal.sig) → Buf (Elt Ideal) ℓ) (g : Dev Cert.ReferenceFNIdeal.nD → PrngReg), Pre_ReferenceFNIdeal m →
    θ_run (Cert.ReferenceFNIdeal.defs (F := Ideal)) (onTc (τ := Cert.ReferenceFNIdeal.τ) (Cert.ReferenceFNIdeal.main (F := Ideal))) ⟨m, fun _ => 0, g⟩ (fun r => (∀ c : Dev Cert.ReferenceFNIdeal.nD,
      r.2.mem ((c.tc : Thread Cert.ReferenceFNIdeal.nD Cert.ReferenceFNIdeal.τ).loc Cert.ReferenceFNIdeal.main_arg0) = m ((c.tc : Thread Cert.ReferenceFNIdeal.nD Cert.ReferenceFNIdeal.τ).loc Cert.ReferenceFNIdeal.main_arg0)
      ∧ r.2.mem ((c.tc : Thread Cert.ReferenceFNIdeal.nD Cert.ReferenceFNIdeal.τ).loc Cert.ReferenceFNIdeal.main_arg1) = m ((c.tc : Thread Cert.ReferenceFNIdeal.nD Cert.ReferenceFNIdeal.τ).loc Cert.ReferenceFNIdeal.main_arg1)
      ∧ r.2.mem ((c.tc : Thread Cert.ReferenceFNIdeal.nD Cert.ReferenceFNIdeal.τ).loc Cert.ReferenceFNIdeal.main_arg2) = m ((c.tc : Thread Cert.ReferenceFNIdeal.nD Cert.ReferenceFNIdeal.τ).loc Cert.ReferenceFNIdeal.main_arg2))
      ∧ r.2.sem = fun _ => 0)

def quiescent_KernelFD [hKernelFD : Cert.KernelFD.Facts] : Prop :=
  ∀ (m : (ℓ : Loc Cert.KernelFD.nD Cert.KernelFD.τ Cert.KernelFD.sig) → Buf (Elt Bits) ℓ) (g : Dev Cert.KernelFD.nD → PrngReg), Pre_KernelFD m →
    θ_run (Cert.KernelFD.defs (F := Bits)) (onTc (τ := Cert.KernelFD.τ) (Cert.KernelFD.main (F := Bits))) ⟨m, fun _ => 0, g⟩ (fun r => (∀ c : Dev Cert.KernelFD.nD,
      r.2.mem ((c.tc : Thread Cert.KernelFD.nD Cert.KernelFD.τ).loc Cert.KernelFD.main_arg0) = m ((c.tc : Thread Cert.KernelFD.nD Cert.KernelFD.τ).loc Cert.KernelFD.main_arg0)
      ∧ r.2.mem ((c.tc : Thread Cert.KernelFD.nD Cert.KernelFD.τ).loc Cert.KernelFD.main_arg1) = m ((c.tc : Thread Cert.KernelFD.nD Cert.KernelFD.τ).loc Cert.KernelFD.main_arg1)
      ∧ r.2.mem ((c.tc : Thread Cert.KernelFD.nD Cert.KernelFD.τ).loc Cert.KernelFD.main_arg2) = m ((c.tc : Thread Cert.KernelFD.nD Cert.KernelFD.τ).loc Cert.KernelFD.main_arg2))
      ∧ r.2.sem = fun _ => 0)

def quiescent_KernelFDIdeal [hKernelFDIdeal : Cert.KernelFDIdeal.Facts] : Prop :=
  ∀ (m : (ℓ : Loc Cert.KernelFDIdeal.nD Cert.KernelFDIdeal.τ Cert.KernelFDIdeal.sig) → Buf (Elt Ideal) ℓ) (g : Dev Cert.KernelFDIdeal.nD → PrngReg), Pre_KernelFDIdeal m →
    θ_run (Cert.KernelFDIdeal.defs (F := Ideal)) (onTc (τ := Cert.KernelFDIdeal.τ) (Cert.KernelFDIdeal.main (F := Ideal))) ⟨m, fun _ => 0, g⟩ (fun r => (∀ c : Dev Cert.KernelFDIdeal.nD,
      r.2.mem ((c.tc : Thread Cert.KernelFDIdeal.nD Cert.KernelFDIdeal.τ).loc Cert.KernelFDIdeal.main_arg0) = m ((c.tc : Thread Cert.KernelFDIdeal.nD Cert.KernelFDIdeal.τ).loc Cert.KernelFDIdeal.main_arg0)
      ∧ r.2.mem ((c.tc : Thread Cert.KernelFDIdeal.nD Cert.KernelFDIdeal.τ).loc Cert.KernelFDIdeal.main_arg1) = m ((c.tc : Thread Cert.KernelFDIdeal.nD Cert.KernelFDIdeal.τ).loc Cert.KernelFDIdeal.main_arg1)
      ∧ r.2.mem ((c.tc : Thread Cert.KernelFDIdeal.nD Cert.KernelFDIdeal.τ).loc Cert.KernelFDIdeal.main_arg2) = m ((c.tc : Thread Cert.KernelFDIdeal.nD Cert.KernelFDIdeal.τ).loc Cert.KernelFDIdeal.main_arg2))
      ∧ r.2.sem = fun _ => 0)

def quiescent_ReferenceFDIdeal [hReferenceFDIdeal : Cert.ReferenceFDIdeal.Facts] : Prop :=
  ∀ (m : (ℓ : Loc Cert.ReferenceFDIdeal.nD Cert.ReferenceFDIdeal.τ Cert.ReferenceFDIdeal.sig) → Buf (Elt Ideal) ℓ) (g : Dev Cert.ReferenceFDIdeal.nD → PrngReg), Pre_ReferenceFDIdeal m →
    θ_run (Cert.ReferenceFDIdeal.defs (F := Ideal)) (onTc (τ := Cert.ReferenceFDIdeal.τ) (Cert.ReferenceFDIdeal.main (F := Ideal))) ⟨m, fun _ => 0, g⟩ (fun r => (∀ c : Dev Cert.ReferenceFDIdeal.nD,
      r.2.mem ((c.tc : Thread Cert.ReferenceFDIdeal.nD Cert.ReferenceFDIdeal.τ).loc Cert.ReferenceFDIdeal.main_arg0) = m ((c.tc : Thread Cert.ReferenceFDIdeal.nD Cert.ReferenceFDIdeal.τ).loc Cert.ReferenceFDIdeal.main_arg0)
      ∧ r.2.mem ((c.tc : Thread Cert.ReferenceFDIdeal.nD Cert.ReferenceFDIdeal.τ).loc Cert.ReferenceFDIdeal.main_arg1) = m ((c.tc : Thread Cert.ReferenceFDIdeal.nD Cert.ReferenceFDIdeal.τ).loc Cert.ReferenceFDIdeal.main_arg1)
      ∧ r.2.mem ((c.tc : Thread Cert.ReferenceFDIdeal.nD Cert.ReferenceFDIdeal.τ).loc Cert.ReferenceFDIdeal.main_arg2) = m ((c.tc : Thread Cert.ReferenceFDIdeal.nD Cert.ReferenceFDIdeal.τ).loc Cert.ReferenceFDIdeal.main_arg2))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3)
      ∧ r.2.mem ((c.tc : Thread Cert.KernelG.nD Cert.KernelG.τ).loc Cert.KernelG.main_arg4) = m ((c.tc : Thread Cert.KernelG.nD Cert.KernelG.τ).loc Cert.KernelG.main_arg4))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
      ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
      ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2)
      ∧ r.2.mem ((c.tc : Thread Cert.ReferenceGIdeal.nD Cert.ReferenceGIdeal.τ).loc Cert.ReferenceGIdeal.main_arg3) = m ((c.tc : Thread Cert.ReferenceGIdeal.nD Cert.ReferenceGIdeal.τ).loc Cert.ReferenceGIdeal.main_arg3)
      ∧ r.2.mem ((c.tc : Thread Cert.ReferenceGIdeal.nD Cert.ReferenceGIdeal.τ).loc Cert.ReferenceGIdeal.main_arg4) = m ((c.tc : Thread Cert.ReferenceGIdeal.nD Cert.ReferenceGIdeal.τ).loc Cert.ReferenceGIdeal.main_arg4))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1))
      ∧ r.2.sem = fun _ => 0)

def quiescent_KernelCO [hKernelCO : Cert.KernelCO.Facts] : Prop :=
  ∀ (m : (ℓ : Loc Cert.KernelCO.nD Cert.KernelCO.τ Cert.KernelCO.sig) → Buf (Elt Bits) ℓ) (g : Dev Cert.KernelCO.nD → PrngReg), Pre_KernelCO m →
    θ_run (Cert.KernelCO.defs (F := Bits)) (onTc (τ := Cert.KernelCO.τ) (Cert.KernelCO.main (F := Bits))) ⟨m, fun _ => 0, g⟩ (fun r => (∀ c : Dev Cert.KernelCO.nD,
      r.2.mem ((c.tc : Thread Cert.KernelCO.nD Cert.KernelCO.τ).loc Cert.KernelCO.main_arg0) = m ((c.tc : Thread Cert.KernelCO.nD Cert.KernelCO.τ).loc Cert.KernelCO.main_arg0)
      ∧ r.2.mem ((c.tc : Thread Cert.KernelCO.nD Cert.KernelCO.τ).loc Cert.KernelCO.main_arg1) = m ((c.tc : Thread Cert.KernelCO.nD Cert.KernelCO.τ).loc Cert.KernelCO.main_arg1))
      ∧ r.2.sem = fun _ => 0)

def quiescent_KernelCOIdeal [hKernelCOIdeal : Cert.KernelCOIdeal.Facts] : Prop :=
  ∀ (m : (ℓ : Loc Cert.KernelCOIdeal.nD Cert.KernelCOIdeal.τ Cert.KernelCOIdeal.sig) → Buf (Elt Ideal) ℓ) (g : Dev Cert.KernelCOIdeal.nD → PrngReg), Pre_KernelCOIdeal m →
    θ_run (Cert.KernelCOIdeal.defs (F := Ideal)) (onTc (τ := Cert.KernelCOIdeal.τ) (Cert.KernelCOIdeal.main (F := Ideal))) ⟨m, fun _ => 0, g⟩ (fun r => (∀ c : Dev Cert.KernelCOIdeal.nD,
      r.2.mem ((c.tc : Thread Cert.KernelCOIdeal.nD Cert.KernelCOIdeal.τ).loc Cert.KernelCOIdeal.main_arg0) = m ((c.tc : Thread Cert.KernelCOIdeal.nD Cert.KernelCOIdeal.τ).loc Cert.KernelCOIdeal.main_arg0)
      ∧ r.2.mem ((c.tc : Thread Cert.KernelCOIdeal.nD Cert.KernelCOIdeal.τ).loc Cert.KernelCOIdeal.main_arg1) = m ((c.tc : Thread Cert.KernelCOIdeal.nD Cert.KernelCOIdeal.τ).loc Cert.KernelCOIdeal.main_arg1))
      ∧ r.2.sem = fun _ => 0)

def quiescent_ReferenceCOIdeal [hReferenceCOIdeal : Cert.ReferenceCOIdeal.Facts] : Prop :=
  ∀ (m : (ℓ : Loc Cert.ReferenceCOIdeal.nD Cert.ReferenceCOIdeal.τ Cert.ReferenceCOIdeal.sig) → Buf (Elt Ideal) ℓ) (g : Dev Cert.ReferenceCOIdeal.nD → PrngReg), Pre_ReferenceCOIdeal m →
    θ_run (Cert.ReferenceCOIdeal.defs (F := Ideal)) (onTc (τ := Cert.ReferenceCOIdeal.τ) (Cert.ReferenceCOIdeal.main (F := Ideal))) ⟨m, fun _ => 0, g⟩ (fun r => (∀ c : Dev Cert.ReferenceCOIdeal.nD,
      r.2.mem ((c.tc : Thread Cert.ReferenceCOIdeal.nD Cert.ReferenceCOIdeal.τ).loc Cert.ReferenceCOIdeal.main_arg0) = m ((c.tc : Thread Cert.ReferenceCOIdeal.nD Cert.ReferenceCOIdeal.τ).loc Cert.ReferenceCOIdeal.main_arg0)
      ∧ r.2.mem ((c.tc : Thread Cert.ReferenceCOIdeal.nD Cert.ReferenceCOIdeal.τ).loc Cert.ReferenceCOIdeal.main_arg1) = m ((c.tc : Thread Cert.ReferenceCOIdeal.nD Cert.ReferenceCOIdeal.τ).loc Cert.ReferenceCOIdeal.main_arg1))
      ∧ r.2.sem = fun _ => 0)

def preserves_Kernel_KernelIdeal : Prop :=
  IdealRules.named_const.Statement Cert.KernelIdeal.κ "logit_scale" .f32 0x3E0293EE#32 (((Real.log 2)⁻¹ * (Real.sqrt 128)⁻¹ : ℝ) : EReal)
  ∧ IdealRules.named_const.Statement Cert.KernelIdeal.κ "masked" .f32 0xF149F2CA#32 ⊥
  ∧ IdealRules.named_const.Statement Cert.KernelIdeal.κ "inv_ln_2" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)) →
    ∃ (v0 : (c : Dev Cert.KernelWIdeal.nD) → Buf (Elt Ideal) ((c.tc : Thread Cert.KernelWIdeal.nD Cert.KernelWIdeal.τ).loc Cert.KernelWIdeal.main_v0)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v0) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v12) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)) →
    ∃ (v0 : (c : Dev Cert.KernelXIdeal.nD) → Buf (Elt Ideal) ((c.tc : Thread Cert.KernelXIdeal.nD Cert.KernelXIdeal.τ).loc Cert.KernelXIdeal.main_v0)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0) = v0 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v10) = v0 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1))

def preserves_KernelOY_KernelOYIdeal : Prop :=
  True

def algebraic_KernelOYIdeal_ReferenceOYIdeal [hKernelOYIdeal : Cert.KernelOYIdeal.Facts] [hReferenceOYIdeal : Cert.ReferenceOYIdeal.Facts] : Prop :=
  ∀ (m : (ℓ : Loc Cert.KernelOYIdeal.nD Cert.KernelOYIdeal.τ Cert.KernelOYIdeal.sig) → Buf (Elt Ideal) ℓ) (g : Dev Cert.KernelOYIdeal.nD → PrngReg)
    (m' : (ℓ : Loc Cert.ReferenceOYIdeal.nD Cert.ReferenceOYIdeal.τ Cert.ReferenceOYIdeal.sig) → Buf (Elt Ideal) ℓ) (g' : Dev Cert.ReferenceOYIdeal.nD → PrngReg), Pre_KernelOYIdeal m →
    (∀ c : Dev Cert.KernelOYIdeal.nD,
      m' ((c.tc : Thread Cert.ReferenceOYIdeal.nD Cert.ReferenceOYIdeal.τ).loc Cert.ReferenceOYIdeal.main_arg0) = m ((c.tc : Thread Cert.KernelOYIdeal.nD Cert.KernelOYIdeal.τ).loc Cert.KernelOYIdeal.main_arg0)
      ∧ m' ((c.tc : Thread Cert.ReferenceOYIdeal.nD Cert.ReferenceOYIdeal.τ).loc Cert.ReferenceOYIdeal.main_arg1) = m ((c.tc : Thread Cert.KernelOYIdeal.nD Cert.KernelOYIdeal.τ).loc Cert.KernelOYIdeal.main_arg1)) →
    ∃ (v0 : (c : Dev Cert.KernelOYIdeal.nD) → Buf (Elt Ideal) ((c.tc : Thread Cert.KernelOYIdeal.nD Cert.KernelOYIdeal.τ).loc Cert.KernelOYIdeal.main_v0)),
      θ_run (Cert.KernelOYIdeal.defs (F := Ideal)) (onTc (τ := Cert.KernelOYIdeal.τ) (Cert.KernelOYIdeal.main (F := Ideal))) ⟨m, fun _ => 0, g⟩ (fun r => ∀ c : Dev Cert.KernelOYIdeal.nD,
          r.2.mem ((c.tc : Thread Cert.KernelOYIdeal.nD Cert.KernelOYIdeal.τ).loc Cert.KernelOYIdeal.main_v0) = v0 c
          ∧ r.2.mem ((c.tc : Thread Cert.KernelOYIdeal.nD Cert.KernelOYIdeal.τ).loc Cert.KernelOYIdeal.main_arg0) = m ((c.tc : Thread Cert.KernelOYIdeal.nD Cert.KernelOYIdeal.τ).loc Cert.KernelOYIdeal.main_arg0)
          ∧ r.2.mem ((c.tc : Thread Cert.KernelOYIdeal.nD Cert.KernelOYIdeal.τ).loc Cert.KernelOYIdeal.main_arg1) = m ((c.tc : Thread Cert.KernelOYIdeal.nD Cert.KernelOYIdeal.τ).loc Cert.KernelOYIdeal.main_arg1))
      ∧ θ_run (Cert.ReferenceOYIdeal.defs (F := Ideal)) (onTc (τ := Cert.ReferenceOYIdeal.τ) (Cert.ReferenceOYIdeal.main (F := Ideal))) ⟨m', fun _ => 0, g'⟩ (fun r => ∀ c : Dev Cert.ReferenceOYIdeal.nD,
          r.2.mem ((c.tc : Thread Cert.ReferenceOYIdeal.nD Cert.ReferenceOYIdeal.τ).loc Cert.ReferenceOYIdeal.main_v10) = v0 c
          ∧ r.2.mem ((c.tc : Thread Cert.ReferenceOYIdeal.nD Cert.ReferenceOYIdeal.τ).loc Cert.ReferenceOYIdeal.main_arg0) = m' ((c.tc : Thread Cert.ReferenceOYIdeal.nD Cert.ReferenceOYIdeal.τ).loc Cert.ReferenceOYIdeal.main_arg0)
          ∧ r.2.mem ((c.tc : Thread Cert.ReferenceOYIdeal.nD Cert.ReferenceOYIdeal.τ).loc Cert.ReferenceOYIdeal.main_arg1) = m' ((c.tc : Thread Cert.ReferenceOYIdeal.nD Cert.ReferenceOYIdeal.τ).loc Cert.ReferenceOYIdeal.main_arg1))

def preserves_KernelOW_KernelOWIdeal : Prop :=
  True

def algebraic_KernelOWIdeal_ReferenceOWIdeal [hKernelOWIdeal : Cert.KernelOWIdeal.Facts] [hReferenceOWIdeal : Cert.ReferenceOWIdeal.Facts] : Prop :=
  ∀ (m : (ℓ : Loc Cert.KernelOWIdeal.nD Cert.KernelOWIdeal.τ Cert.KernelOWIdeal.sig) → Buf (Elt Ideal) ℓ) (g : Dev Cert.KernelOWIdeal.nD → PrngReg)
    (m' : (ℓ : Loc Cert.ReferenceOWIdeal.nD Cert.ReferenceOWIdeal.τ Cert.ReferenceOWIdeal.sig) → Buf (Elt Ideal) ℓ) (g' : Dev Cert.ReferenceOWIdeal.nD → PrngReg), Pre_KernelOWIdeal m →
    (∀ c : Dev Cert.KernelOWIdeal.nD,
      m' ((c.tc : Thread Cert.ReferenceOWIdeal.nD Cert.ReferenceOWIdeal.τ).loc Cert.ReferenceOWIdeal.main_arg0) = m ((c.tc : Thread Cert.KernelOWIdeal.nD Cert.KernelOWIdeal.τ).loc Cert.KernelOWIdeal.main_arg0)
      ∧ m' ((c.tc : Thread Cert.ReferenceOWIdeal.nD Cert.ReferenceOWIdeal.τ).loc Cert.ReferenceOWIdeal.main_arg1) = m ((c.tc : Thread Cert.KernelOWIdeal.nD Cert.KernelOWIdeal.τ).loc Cert.KernelOWIdeal.main_arg1)) →
    ∃ (v0 : (c : Dev Cert.KernelOWIdeal.nD) → Buf (Elt Ideal) ((c.tc : Thread Cert.KernelOWIdeal.nD Cert.KernelOWIdeal.τ).loc Cert.KernelOWIdeal.main_v0)),
      θ_run (Cert.KernelOWIdeal.defs (F := Ideal)) (onTc (τ := Cert.KernelOWIdeal.τ) (Cert.KernelOWIdeal.main (F := Ideal))) ⟨m, fun _ => 0, g⟩ (fun r => ∀ c : Dev Cert.KernelOWIdeal.nD,
          r.2.mem ((c.tc : Thread Cert.KernelOWIdeal.nD Cert.KernelOWIdeal.τ).loc Cert.KernelOWIdeal.main_v0) = v0 c
          ∧ r.2.mem ((c.tc : Thread Cert.KernelOWIdeal.nD Cert.KernelOWIdeal.τ).loc Cert.KernelOWIdeal.main_arg0) = m ((c.tc : Thread Cert.KernelOWIdeal.nD Cert.KernelOWIdeal.τ).loc Cert.KernelOWIdeal.main_arg0)
          ∧ r.2.mem ((c.tc : Thread Cert.KernelOWIdeal.nD Cert.KernelOWIdeal.τ).loc Cert.KernelOWIdeal.main_arg1) = m ((c.tc : Thread Cert.KernelOWIdeal.nD Cert.KernelOWIdeal.τ).loc Cert.KernelOWIdeal.main_arg1))
      ∧ θ_run (Cert.ReferenceOWIdeal.defs (F := Ideal)) (onTc (τ := Cert.ReferenceOWIdeal.τ) (Cert.ReferenceOWIdeal.main (F := Ideal))) ⟨m', fun _ => 0, g'⟩ (fun r => ∀ c : Dev Cert.ReferenceOWIdeal.nD,
          r.2.mem ((c.tc : Thread Cert.ReferenceOWIdeal.nD Cert.ReferenceOWIdeal.τ).loc Cert.ReferenceOWIdeal.main_v12) = v0 c
          ∧ r.2.mem ((c.tc : Thread Cert.ReferenceOWIdeal.nD Cert.ReferenceOWIdeal.τ).loc Cert.ReferenceOWIdeal.main_arg0) = m' ((c.tc : Thread Cert.ReferenceOWIdeal.nD Cert.ReferenceOWIdeal.τ).loc Cert.ReferenceOWIdeal.main_arg0)
          ∧ r.2.mem ((c.tc : Thread Cert.ReferenceOWIdeal.nD Cert.ReferenceOWIdeal.τ).loc Cert.ReferenceOWIdeal.main_arg1) = m' ((c.tc : Thread Cert.ReferenceOWIdeal.nD Cert.ReferenceOWIdeal.τ).loc Cert.ReferenceOWIdeal.main_arg1))

def preserves_KernelOF_KernelOFIdeal : Prop :=
  True

def algebraic_KernelOFIdeal_ReferenceOFIdeal [hKernelOFIdeal : Cert.KernelOFIdeal.Facts] [hReferenceOFIdeal : Cert.ReferenceOFIdeal.Facts] : Prop :=
  ∀ (m : (ℓ : Loc Cert.KernelOFIdeal.nD Cert.KernelOFIdeal.τ Cert.KernelOFIdeal.sig) → Buf (Elt Ideal) ℓ) (g : Dev Cert.KernelOFIdeal.nD → PrngReg)
    (m' : (ℓ : Loc Cert.ReferenceOFIdeal.nD Cert.ReferenceOFIdeal.τ Cert.ReferenceOFIdeal.sig) → Buf (Elt Ideal) ℓ) (g' : Dev Cert.ReferenceOFIdeal.nD → PrngReg), Pre_KernelOFIdeal m →
    (∀ c : Dev Cert.KernelOFIdeal.nD,
      m' ((c.tc : Thread Cert.ReferenceOFIdeal.nD Cert.ReferenceOFIdeal.τ).loc Cert.ReferenceOFIdeal.main_arg0) = m ((c.tc : Thread Cert.KernelOFIdeal.nD Cert.KernelOFIdeal.τ).loc Cert.KernelOFIdeal.main_arg0)
      ∧ m' ((c.tc : Thread Cert.ReferenceOFIdeal.nD Cert.ReferenceOFIdeal.τ).loc Cert.ReferenceOFIdeal.main_arg1) = m ((c.tc : Thread Cert.KernelOFIdeal.nD Cert.KernelOFIdeal.τ).loc Cert.KernelOFIdeal.main_arg1)) →
    ∃ (v0 : (c : Dev Cert.KernelOFIdeal.nD) → Buf (Elt Ideal) ((c.tc : Thread Cert.KernelOFIdeal.nD Cert.KernelOFIdeal.τ).loc Cert.KernelOFIdeal.main_v0)),
      θ_run (Cert.KernelOFIdeal.defs (F := Ideal)) (onTc (τ := Cert.KernelOFIdeal.τ) (Cert.KernelOFIdeal.main (F := Ideal))) ⟨m, fun _ => 0, g⟩ (fun r => ∀ c : Dev Cert.KernelOFIdeal.nD,
          r.2.mem ((c.tc : Thread Cert.KernelOFIdeal.nD Cert.KernelOFIdeal.τ).loc Cert.KernelOFIdeal.main_v0) = v0 c
          ∧ r.2.mem ((c.tc : Thread Cert.KernelOFIdeal.nD Cert.KernelOFIdeal.τ).loc Cert.KernelOFIdeal.main_arg0) = m ((c.tc : Thread Cert.KernelOFIdeal.nD Cert.KernelOFIdeal.τ).loc Cert.KernelOFIdeal.main_arg0)
          ∧ r.2.mem ((c.tc : Thread Cert.KernelOFIdeal.nD Cert.KernelOFIdeal.τ).loc Cert.KernelOFIdeal.main_arg1) = m ((c.tc : Thread Cert.KernelOFIdeal.nD Cert.KernelOFIdeal.τ).loc Cert.KernelOFIdeal.main_arg1))
      ∧ θ_run (Cert.ReferenceOFIdeal.defs (F := Ideal)) (onTc (τ := Cert.ReferenceOFIdeal.τ) (Cert.ReferenceOFIdeal.main (F := Ideal))) ⟨m', fun _ => 0, g'⟩ (fun r => ∀ c : Dev Cert.ReferenceOFIdeal.nD,
          r.2.mem ((c.tc : Thread Cert.ReferenceOFIdeal.nD Cert.ReferenceOFIdeal.τ).loc Cert.ReferenceOFIdeal.main_v8) = v0 c
          ∧ r.2.mem ((c.tc : Thread Cert.ReferenceOFIdeal.nD Cert.ReferenceOFIdeal.τ).loc Cert.ReferenceOFIdeal.main_arg0) = m' ((c.tc : Thread Cert.ReferenceOFIdeal.nD Cert.ReferenceOFIdeal.τ).loc Cert.ReferenceOFIdeal.main_arg0)
          ∧ r.2.mem ((c.tc : Thread Cert.ReferenceOFIdeal.nD Cert.ReferenceOFIdeal.τ).loc Cert.ReferenceOFIdeal.main_arg1) = m' ((c.tc : Thread Cert.ReferenceOFIdeal.nD Cert.ReferenceOFIdeal.τ).loc Cert.ReferenceOFIdeal.main_arg1))

def preserves_KernelUI_KernelUIIdeal : Prop :=
  True

def algebraic_KernelUIIdeal_ReferenceUIIdeal [hKernelUIIdeal : Cert.KernelUIIdeal.Facts] [hReferenceUIIdeal : Cert.ReferenceUIIdeal.Facts] : Prop :=
  ∀ (m : (ℓ : Loc Cert.KernelUIIdeal.nD Cert.KernelUIIdeal.τ Cert.KernelUIIdeal.sig) → Buf (Elt Ideal) ℓ) (g : Dev Cert.KernelUIIdeal.nD → PrngReg)
    (m' : (ℓ : Loc Cert.ReferenceUIIdeal.nD Cert.ReferenceUIIdeal.τ Cert.ReferenceUIIdeal.sig) → Buf (Elt Ideal) ℓ) (g' : Dev Cert.ReferenceUIIdeal.nD → PrngReg), Pre_KernelUIIdeal m →
    (∀ c : Dev Cert.KernelUIIdeal.nD,
      m' ((c.tc : Thread Cert.ReferenceUIIdeal.nD Cert.ReferenceUIIdeal.τ).loc Cert.ReferenceUIIdeal.main_arg0) = m ((c.tc : Thread Cert.KernelUIIdeal.nD Cert.KernelUIIdeal.τ).loc Cert.KernelUIIdeal.main_arg0)
      ∧ m' ((c.tc : Thread Cert.ReferenceUIIdeal.nD Cert.ReferenceUIIdeal.τ).loc Cert.ReferenceUIIdeal.main_arg1) = m ((c.tc : Thread Cert.KernelUIIdeal.nD Cert.KernelUIIdeal.τ).loc Cert.KernelUIIdeal.main_arg1)
      ∧ m' ((c.tc : Thread Cert.ReferenceUIIdeal.nD Cert.ReferenceUIIdeal.τ).loc Cert.ReferenceUIIdeal.main_arg2) = m ((c.tc : Thread Cert.KernelUIIdeal.nD Cert.KernelUIIdeal.τ).loc Cert.KernelUIIdeal.main_arg2)
      ∧ m' ((c.tc : Thread Cert.ReferenceUIIdeal.nD Cert.ReferenceUIIdeal.τ).loc Cert.ReferenceUIIdeal.main_arg3) = m ((c.tc : Thread Cert.KernelUIIdeal.nD Cert.KernelUIIdeal.τ).loc Cert.KernelUIIdeal.main_arg3)) →
    ∃ (v0 : (c : Dev Cert.KernelUIIdeal.nD) → Buf (Elt Ideal) ((c.tc : Thread Cert.KernelUIIdeal.nD Cert.KernelUIIdeal.τ).loc Cert.KernelUIIdeal.main_v0_0)) (v1 : (c : Dev Cert.KernelUIIdeal.nD) → Buf (Elt Ideal) ((c.tc : Thread Cert.KernelUIIdeal.nD Cert.KernelUIIdeal.τ).loc Cert.KernelUIIdeal.main_v0_1)) (v2 : (c : Dev Cert.KernelUIIdeal.nD) → Buf (Elt Ideal) ((c.tc : Thread Cert.KernelUIIdeal.nD Cert.KernelUIIdeal.τ).loc Cert.KernelUIIdeal.main_v0_2)) (v3 : (c : Dev Cert.KernelUIIdeal.nD) → Buf (Elt Ideal) ((c.tc : Thread Cert.KernelUIIdeal.nD Cert.KernelUIIdeal.τ).loc Cert.KernelUIIdeal.main_v0_3)),
      θ_run (Cert.KernelUIIdeal.defs (F := Ideal)) (onTc (τ := Cert.KernelUIIdeal.τ) (Cert.KernelUIIdeal.main (F := Ideal))) ⟨m, fun _ => 0, g⟩ (fun r => ∀ c : Dev Cert.KernelUIIdeal.nD,
          r.2.mem ((c.tc : Thread Cert.KernelUIIdeal.nD Cert.KernelUIIdeal.τ).loc Cert.KernelUIIdeal.main_v0_0) = v0 c
          ∧ r.2.mem ((c.tc : Thread Cert.KernelUIIdeal.nD Cert.KernelUIIdeal.τ).loc Cert.KernelUIIdeal.main_v0_1) = v1 c
          ∧ r.2.mem ((c.tc : Thread Cert.KernelUIIdeal.nD Cert.KernelUIIdeal.τ).loc Cert.KernelUIIdeal.main_v0_2) = v2 c
          ∧ r.2.mem ((c.tc : Thread Cert.KernelUIIdeal.nD Cert.KernelUIIdeal.τ).loc Cert.KernelUIIdeal.main_v0_3) = v3 c
          ∧ r.2.mem ((c.tc : Thread Cert.KernelUIIdeal.nD Cert.KernelUIIdeal.τ).loc Cert.KernelUIIdeal.main_arg0) = m ((c.tc : Thread Cert.KernelUIIdeal.nD Cert.KernelUIIdeal.τ).loc Cert.KernelUIIdeal.main_arg0)
          ∧ r.2.mem ((c.tc : Thread Cert.KernelUIIdeal.nD Cert.KernelUIIdeal.τ).loc Cert.KernelUIIdeal.main_arg1) = m ((c.tc : Thread Cert.KernelUIIdeal.nD Cert.KernelUIIdeal.τ).loc Cert.KernelUIIdeal.main_arg1)
          ∧ r.2.mem ((c.tc : Thread Cert.KernelUIIdeal.nD Cert.KernelUIIdeal.τ).loc Cert.KernelUIIdeal.main_arg2) = m ((c.tc : Thread Cert.KernelUIIdeal.nD Cert.KernelUIIdeal.τ).loc Cert.KernelUIIdeal.main_arg2)
          ∧ r.2.mem ((c.tc : Thread Cert.KernelUIIdeal.nD Cert.KernelUIIdeal.τ).loc Cert.KernelUIIdeal.main_arg3) = m ((c.tc : Thread Cert.KernelUIIdeal.nD Cert.KernelUIIdeal.τ).loc Cert.KernelUIIdeal.main_arg3))
      ∧ θ_run (Cert.ReferenceUIIdeal.defs (F := Ideal)) (onTc (τ := Cert.ReferenceUIIdeal.τ) (Cert.ReferenceUIIdeal.main (F := Ideal))) ⟨m', fun _ => 0, g'⟩ (fun r => ∀ c : Dev Cert.ReferenceUIIdeal.nD,
          r.2.mem ((c.tc : Thread Cert.ReferenceUIIdeal.nD Cert.ReferenceUIIdeal.τ).loc Cert.ReferenceUIIdeal.main_arg1) = v0 c
          ∧ r.2.mem ((c.tc : Thread Cert.ReferenceUIIdeal.nD Cert.ReferenceUIIdeal.τ).loc Cert.ReferenceUIIdeal.main_v23) = v1 c
          ∧ r.2.mem ((c.tc : Thread Cert.ReferenceUIIdeal.nD Cert.ReferenceUIIdeal.τ).loc Cert.ReferenceUIIdeal.main_v4) = v2 c
          ∧ r.2.mem ((c.tc : Thread Cert.ReferenceUIIdeal.nD Cert.ReferenceUIIdeal.τ).loc Cert.ReferenceUIIdeal.main_v10) = v3 c
          ∧ r.2.mem ((c.tc : Thread Cert.ReferenceUIIdeal.nD Cert.ReferenceUIIdeal.τ).loc Cert.ReferenceUIIdeal.main_arg0) = m' ((c.tc : Thread Cert.ReferenceUIIdeal.nD Cert.ReferenceUIIdeal.τ).loc Cert.ReferenceUIIdeal.main_arg0)
          ∧ r.2.mem ((c.tc : Thread Cert.ReferenceUIIdeal.nD Cert.ReferenceUIIdeal.τ).loc Cert.ReferenceUIIdeal.main_arg1) = m' ((c.tc : Thread Cert.ReferenceUIIdeal.nD Cert.ReferenceUIIdeal.τ).loc Cert.ReferenceUIIdeal.main_arg1)
          ∧ r.2.mem ((c.tc : Thread Cert.ReferenceUIIdeal.nD Cert.ReferenceUIIdeal.τ).loc Cert.ReferenceUIIdeal.main_arg2) = m' ((c.tc : Thread Cert.ReferenceUIIdeal.nD Cert.ReferenceUIIdeal.τ).loc Cert.ReferenceUIIdeal.main_arg2)
          ∧ r.2.mem ((c.tc : Thread Cert.ReferenceUIIdeal.nD Cert.ReferenceUIIdeal.τ).loc Cert.ReferenceUIIdeal.main_arg3) = m' ((c.tc : Thread Cert.ReferenceUIIdeal.nD Cert.ReferenceUIIdeal.τ).loc Cert.ReferenceUIIdeal.main_arg3))

def preserves_KernelUO_KernelUOIdeal : Prop :=
  True

def algebraic_KernelUOIdeal_ReferenceUOIdeal [hKernelUOIdeal : Cert.KernelUOIdeal.Facts] [hReferenceUOIdeal : Cert.ReferenceUOIdeal.Facts] : Prop :=
  ∀ (m : (ℓ : Loc Cert.KernelUOIdeal.nD Cert.KernelUOIdeal.τ Cert.KernelUOIdeal.sig) → Buf (Elt Ideal) ℓ) (g : Dev Cert.KernelUOIdeal.nD → PrngReg)
    (m' : (ℓ : Loc Cert.ReferenceUOIdeal.nD Cert.ReferenceUOIdeal.τ Cert.ReferenceUOIdeal.sig) → Buf (Elt Ideal) ℓ) (g' : Dev Cert.ReferenceUOIdeal.nD → PrngReg), Pre_KernelUOIdeal m →
    (∀ c : Dev Cert.KernelUOIdeal.nD,
      m' ((c.tc : Thread Cert.ReferenceUOIdeal.nD Cert.ReferenceUOIdeal.τ).loc Cert.ReferenceUOIdeal.main_arg0) = m ((c.tc : Thread Cert.KernelUOIdeal.nD Cert.KernelUOIdeal.τ).loc Cert.KernelUOIdeal.main_arg0)
      ∧ m' ((c.tc : Thread Cert.ReferenceUOIdeal.nD Cert.ReferenceUOIdeal.τ).loc Cert.ReferenceUOIdeal.main_arg1) = m ((c.tc : Thread Cert.KernelUOIdeal.nD Cert.KernelUOIdeal.τ).loc Cert.KernelUOIdeal.main_arg1)
      ∧ m' ((c.tc : Thread Cert.ReferenceUOIdeal.nD Cert.ReferenceUOIdeal.τ).loc Cert.ReferenceUOIdeal.main_arg2) = m ((c.tc : Thread Cert.KernelUOIdeal.nD Cert.KernelUOIdeal.τ).loc Cert.KernelUOIdeal.main_arg2)
      ∧ m' ((c.tc : Thread Cert.ReferenceUOIdeal.nD Cert.ReferenceUOIdeal.τ).loc Cert.ReferenceUOIdeal.main_arg3) = m ((c.tc : Thread Cert.KernelUOIdeal.nD Cert.KernelUOIdeal.τ).loc Cert.KernelUOIdeal.main_arg3)) →
    ∃ (v0 : (c : Dev Cert.KernelUOIdeal.nD) → Buf (Elt Ideal) ((c.tc : Thread Cert.KernelUOIdeal.nD Cert.KernelUOIdeal.τ).loc Cert.KernelUOIdeal.main_v0_0)) (v1 : (c : Dev Cert.KernelUOIdeal.nD) → Buf (Elt Ideal) ((c.tc : Thread Cert.KernelUOIdeal.nD Cert.KernelUOIdeal.τ).loc Cert.KernelUOIdeal.main_v0_1)) (v2 : (c : Dev Cert.KernelUOIdeal.nD) → Buf (Elt Ideal) ((c.tc : Thread Cert.KernelUOIdeal.nD Cert.KernelUOIdeal.τ).loc Cert.KernelUOIdeal.main_v0_2)) (v3 : (c : Dev Cert.KernelUOIdeal.nD) → Buf (Elt Ideal) ((c.tc : Thread Cert.KernelUOIdeal.nD Cert.KernelUOIdeal.τ).loc Cert.KernelUOIdeal.main_v0_3)),
      θ_run (Cert.KernelUOIdeal.defs (F := Ideal)) (onTc (τ := Cert.KernelUOIdeal.τ) (Cert.KernelUOIdeal.main (F := Ideal))) ⟨m, fun _ => 0, g⟩ (fun r => ∀ c : Dev Cert.KernelUOIdeal.nD,
          r.2.mem ((c.tc : Thread Cert.KernelUOIdeal.nD Cert.KernelUOIdeal.τ).loc Cert.KernelUOIdeal.main_v0_0) = v0 c
          ∧ r.2.mem ((c.tc : Thread Cert.KernelUOIdeal.nD Cert.KernelUOIdeal.τ).loc Cert.KernelUOIdeal.main_v0_1) = v1 c
          ∧ r.2.mem ((c.tc : Thread Cert.KernelUOIdeal.nD Cert.KernelUOIdeal.τ).loc Cert.KernelUOIdeal.main_v0_2) = v2 c
          ∧ r.2.mem ((c.tc : Thread Cert.KernelUOIdeal.nD Cert.KernelUOIdeal.τ).loc Cert.KernelUOIdeal.main_v0_3) = v3 c
          ∧ r.2.mem ((c.tc : Thread Cert.KernelUOIdeal.nD Cert.KernelUOIdeal.τ).loc Cert.KernelUOIdeal.main_arg0) = m ((c.tc : Thread Cert.KernelUOIdeal.nD Cert.KernelUOIdeal.τ).loc Cert.KernelUOIdeal.main_arg0)
          ∧ r.2.mem ((c.tc : Thread Cert.KernelUOIdeal.nD Cert.KernelUOIdeal.τ).loc Cert.KernelUOIdeal.main_arg1) = m ((c.tc : Thread Cert.KernelUOIdeal.nD Cert.KernelUOIdeal.τ).loc Cert.KernelUOIdeal.main_arg1)
          ∧ r.2.mem ((c.tc : Thread Cert.KernelUOIdeal.nD Cert.KernelUOIdeal.τ).loc Cert.KernelUOIdeal.main_arg2) = m ((c.tc : Thread Cert.KernelUOIdeal.nD Cert.KernelUOIdeal.τ).loc Cert.KernelUOIdeal.main_arg2)
          ∧ r.2.mem ((c.tc : Thread Cert.KernelUOIdeal.nD Cert.KernelUOIdeal.τ).loc Cert.KernelUOIdeal.main_arg3) = m ((c.tc : Thread Cert.KernelUOIdeal.nD Cert.KernelUOIdeal.τ).loc Cert.KernelUOIdeal.main_arg3))
      ∧ θ_run (Cert.ReferenceUOIdeal.defs (F := Ideal)) (onTc (τ := Cert.ReferenceUOIdeal.τ) (Cert.ReferenceUOIdeal.main (F := Ideal))) ⟨m', fun _ => 0, g'⟩ (fun r => ∀ c : Dev Cert.ReferenceUOIdeal.nD,
          r.2.mem ((c.tc : Thread Cert.ReferenceUOIdeal.nD Cert.ReferenceUOIdeal.τ).loc Cert.ReferenceUOIdeal.main_arg1) = v0 c
          ∧ r.2.mem ((c.tc : Thread Cert.ReferenceUOIdeal.nD Cert.ReferenceUOIdeal.τ).loc Cert.ReferenceUOIdeal.main_v23) = v1 c
          ∧ r.2.mem ((c.tc : Thread Cert.ReferenceUOIdeal.nD Cert.ReferenceUOIdeal.τ).loc Cert.ReferenceUOIdeal.main_v4) = v2 c
          ∧ r.2.mem ((c.tc : Thread Cert.ReferenceUOIdeal.nD Cert.ReferenceUOIdeal.τ).loc Cert.ReferenceUOIdeal.main_v10) = v3 c
          ∧ r.2.mem ((c.tc : Thread Cert.ReferenceUOIdeal.nD Cert.ReferenceUOIdeal.τ).loc Cert.ReferenceUOIdeal.main_arg0) = m' ((c.tc : Thread Cert.ReferenceUOIdeal.nD Cert.ReferenceUOIdeal.τ).loc Cert.ReferenceUOIdeal.main_arg0)
          ∧ r.2.mem ((c.tc : Thread Cert.ReferenceUOIdeal.nD Cert.ReferenceUOIdeal.τ).loc Cert.ReferenceUOIdeal.main_arg1) = m' ((c.tc : Thread Cert.ReferenceUOIdeal.nD Cert.ReferenceUOIdeal.τ).loc Cert.ReferenceUOIdeal.main_arg1)
          ∧ r.2.mem ((c.tc : Thread Cert.ReferenceUOIdeal.nD Cert.ReferenceUOIdeal.τ).loc Cert.ReferenceUOIdeal.main_arg2) = m' ((c.tc : Thread Cert.ReferenceUOIdeal.nD Cert.ReferenceUOIdeal.τ).loc Cert.ReferenceUOIdeal.main_arg2)
          ∧ r.2.mem ((c.tc : Thread Cert.ReferenceUOIdeal.nD Cert.ReferenceUOIdeal.τ).loc Cert.ReferenceUOIdeal.main_arg3) = m' ((c.tc : Thread Cert.ReferenceUOIdeal.nD Cert.ReferenceUOIdeal.τ).loc Cert.ReferenceUOIdeal.main_arg3))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)) →
    ∃ (v0 : (c : Dev Cert.KernelSIdeal.nD) → Buf (Elt Ideal) ((c.tc : Thread Cert.KernelSIdeal.nD Cert.KernelSIdeal.τ).loc Cert.KernelSIdeal.main_v0_0)) (v1 : (c : Dev Cert.KernelSIdeal.nD) → Buf (Elt Ideal) ((c.tc : Thread Cert.KernelSIdeal.nD Cert.KernelSIdeal.τ).loc Cert.KernelSIdeal.main_v0_1)) (v2 : (c : Dev Cert.KernelSIdeal.nD) → Buf (Elt Ideal) ((c.tc : Thread Cert.KernelSIdeal.nD Cert.KernelSIdeal.τ).loc Cert.KernelSIdeal.main_v0_2)) (v3 : (c : Dev Cert.KernelSIdeal.nD) → Buf (Elt Ideal) ((c.tc : Thread Cert.KernelSIdeal.nD Cert.KernelSIdeal.τ).loc Cert.KernelSIdeal.main_v0_3)) (v4 : (c : Dev Cert.KernelSIdeal.nD) → Buf (Elt Ideal) ((c.tc : Thread Cert.KernelSIdeal.nD Cert.KernelSIdeal.τ).loc Cert.KernelSIdeal.main_v0_4)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v0_0) = v0 c
          ∧ r.2.mem ((c.tc : Thread Cert.KernelSIdeal.nD Cert.KernelSIdeal.τ).loc Cert.KernelSIdeal.main_v0_1) = v1 c
          ∧ r.2.mem ((c.tc : Thread Cert.KernelSIdeal.nD Cert.KernelSIdeal.τ).loc Cert.KernelSIdeal.main_v0_2) = v2 c
          ∧ r.2.mem ((c.tc : Thread Cert.KernelSIdeal.nD Cert.KernelSIdeal.τ).loc Cert.KernelSIdeal.main_v0_3) = v3 c
          ∧ r.2.mem ((c.tc : Thread Cert.KernelSIdeal.nD Cert.KernelSIdeal.τ).loc Cert.KernelSIdeal.main_v0_4) = v4 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v8) = v0 c
          ∧ r.2.mem ((c.tc : Thread Cert.ReferenceSIdeal.nD Cert.ReferenceSIdeal.τ).loc Cert.ReferenceSIdeal.main_v32) = v1 c
          ∧ r.2.mem ((c.tc : Thread Cert.ReferenceSIdeal.nD Cert.ReferenceSIdeal.τ).loc Cert.ReferenceSIdeal.main_v13) = v2 c
          ∧ r.2.mem ((c.tc : Thread Cert.ReferenceSIdeal.nD Cert.ReferenceSIdeal.τ).loc Cert.ReferenceSIdeal.main_v19) = v3 c
          ∧ r.2.mem ((c.tc : Thread Cert.ReferenceSIdeal.nD Cert.ReferenceSIdeal.τ).loc Cert.ReferenceSIdeal.main_v34) = v4 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)) →
    ∃ (v0 : (c : Dev Cert.KernelAIdeal.nD) → Buf (Elt Ideal) ((c.tc : Thread Cert.KernelAIdeal.nD Cert.KernelAIdeal.τ).loc Cert.KernelAIdeal.main_v0_0)) (v1 : (c : Dev Cert.KernelAIdeal.nD) → Buf (Elt Ideal) ((c.tc : Thread Cert.KernelAIdeal.nD Cert.KernelAIdeal.τ).loc Cert.KernelAIdeal.main_v0_1)) (v2 : (c : Dev Cert.KernelAIdeal.nD) → Buf (Elt Ideal) ((c.tc : Thread Cert.KernelAIdeal.nD Cert.KernelAIdeal.τ).loc Cert.KernelAIdeal.main_v0_2)) (v3 : (c : Dev Cert.KernelAIdeal.nD) → Buf (Elt Ideal) ((c.tc : Thread Cert.KernelAIdeal.nD Cert.KernelAIdeal.τ).loc Cert.KernelAIdeal.main_v0_3)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v0_0) = v0 c
          ∧ r.2.mem ((c.tc : Thread Cert.KernelAIdeal.nD Cert.KernelAIdeal.τ).loc Cert.KernelAIdeal.main_v0_1) = v1 c
          ∧ r.2.mem ((c.tc : Thread Cert.KernelAIdeal.nD Cert.KernelAIdeal.τ).loc Cert.KernelAIdeal.main_v0_2) = v2 c
          ∧ r.2.mem ((c.tc : Thread Cert.KernelAIdeal.nD Cert.KernelAIdeal.τ).loc Cert.KernelAIdeal.main_v0_3) = v3 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v4) = v0 c
          ∧ r.2.mem ((c.tc : Thread Cert.ReferenceAIdeal.nD Cert.ReferenceAIdeal.τ).loc Cert.ReferenceAIdeal.main_v28) = v1 c
          ∧ r.2.mem ((c.tc : Thread Cert.ReferenceAIdeal.nD Cert.ReferenceAIdeal.τ).loc Cert.ReferenceAIdeal.main_v9) = v2 c
          ∧ r.2.mem ((c.tc : Thread Cert.ReferenceAIdeal.nD Cert.ReferenceAIdeal.τ).loc Cert.ReferenceAIdeal.main_v15) = v3 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4))

def preserves_KernelFO_KernelFOIdeal : Prop :=
  True

def algebraic_KernelFOIdeal_ReferenceFOIdeal [hKernelFOIdeal : Cert.KernelFOIdeal.Facts] [hReferenceFOIdeal : Cert.ReferenceFOIdeal.Facts] : Prop :=
  ∀ (m : (ℓ : Loc Cert.KernelFOIdeal.nD Cert.KernelFOIdeal.τ Cert.KernelFOIdeal.sig) → Buf (Elt Ideal) ℓ) (g : Dev Cert.KernelFOIdeal.nD → PrngReg)
    (m' : (ℓ : Loc Cert.ReferenceFOIdeal.nD Cert.ReferenceFOIdeal.τ Cert.ReferenceFOIdeal.sig) → Buf (Elt Ideal) ℓ) (g' : Dev Cert.ReferenceFOIdeal.nD → PrngReg), Pre_KernelFOIdeal m →
    (∀ c : Dev Cert.KernelFOIdeal.nD,
      m' ((c.tc : Thread Cert.ReferenceFOIdeal.nD Cert.ReferenceFOIdeal.τ).loc Cert.ReferenceFOIdeal.main_arg0) = m ((c.tc : Thread Cert.KernelFOIdeal.nD Cert.KernelFOIdeal.τ).loc Cert.KernelFOIdeal.main_arg0)
      ∧ m' ((c.tc : Thread Cert.ReferenceFOIdeal.nD Cert.ReferenceFOIdeal.τ).loc Cert.ReferenceFOIdeal.main_arg1) = m ((c.tc : Thread Cert.KernelFOIdeal.nD Cert.KernelFOIdeal.τ).loc Cert.KernelFOIdeal.main_arg1)) →
    ∃ (v0 : (c : Dev Cert.KernelFOIdeal.nD) → Buf (Elt Ideal) ((c.tc : Thread Cert.KernelFOIdeal.nD Cert.KernelFOIdeal.τ).loc Cert.KernelFOIdeal.main_v2)),
      θ_run (Cert.KernelFOIdeal.defs (F := Ideal)) (onTc (τ := Cert.KernelFOIdeal.τ) (Cert.KernelFOIdeal.main (F := Ideal))) ⟨m, fun _ => 0, g⟩ (fun r => ∀ c : Dev Cert.KernelFOIdeal.nD,
          r.2.mem ((c.tc : Thread Cert.KernelFOIdeal.nD Cert.KernelFOIdeal.τ).loc Cert.KernelFOIdeal.main_v2) = v0 c
          ∧ r.2.mem ((c.tc : Thread Cert.KernelFOIdeal.nD Cert.KernelFOIdeal.τ).loc Cert.KernelFOIdeal.main_arg0) = m ((c.tc : Thread Cert.KernelFOIdeal.nD Cert.KernelFOIdeal.τ).loc Cert.KernelFOIdeal.main_arg0)
          ∧ r.2.mem ((c.tc : Thread Cert.KernelFOIdeal.nD Cert.KernelFOIdeal.τ).loc Cert.KernelFOIdeal.main_arg1) = m ((c.tc : Thread Cert.KernelFOIdeal.nD Cert.KernelFOIdeal.τ).loc Cert.KernelFOIdeal.main_arg1))
      ∧ θ_run (Cert.ReferenceFOIdeal.defs (F := Ideal)) (onTc (τ := Cert.ReferenceFOIdeal.τ) (Cert.ReferenceFOIdeal.main (F := Ideal))) ⟨m', fun _ => 0, g'⟩ (fun r => ∀ c : Dev Cert.ReferenceFOIdeal.nD,
          r.2.mem ((c.tc : Thread Cert.ReferenceFOIdeal.nD Cert.ReferenceFOIdeal.τ).loc Cert.ReferenceFOIdeal.main_v4) = v0 c
          ∧ r.2.mem ((c.tc : Thread Cert.ReferenceFOIdeal.nD Cert.ReferenceFOIdeal.τ).loc Cert.ReferenceFOIdeal.main_arg0) = m' ((c.tc : Thread Cert.ReferenceFOIdeal.nD Cert.ReferenceFOIdeal.τ).loc Cert.ReferenceFOIdeal.main_arg0)
          ∧ r.2.mem ((c.tc : Thread Cert.ReferenceFOIdeal.nD Cert.ReferenceFOIdeal.τ).loc Cert.ReferenceFOIdeal.main_arg1) = m' ((c.tc : Thread Cert.ReferenceFOIdeal.nD Cert.ReferenceFOIdeal.τ).loc Cert.ReferenceFOIdeal.main_arg1))

def preserves_KernelFN_KernelFNIdeal : Prop :=
  True

def algebraic_KernelFNIdeal_ReferenceFNIdeal [hKernelFNIdeal : Cert.KernelFNIdeal.Facts] [hReferenceFNIdeal : Cert.ReferenceFNIdeal.Facts] : Prop :=
  ∀ (m : (ℓ : Loc Cert.KernelFNIdeal.nD Cert.KernelFNIdeal.τ Cert.KernelFNIdeal.sig) → Buf (Elt Ideal) ℓ) (g : Dev Cert.KernelFNIdeal.nD → PrngReg)
    (m' : (ℓ : Loc Cert.ReferenceFNIdeal.nD Cert.ReferenceFNIdeal.τ Cert.ReferenceFNIdeal.sig) → Buf (Elt Ideal) ℓ) (g' : Dev Cert.ReferenceFNIdeal.nD → PrngReg), Pre_KernelFNIdeal m →
    (∀ c : Dev Cert.KernelFNIdeal.nD,
      m' ((c.tc : Thread Cert.ReferenceFNIdeal.nD Cert.ReferenceFNIdeal.τ).loc Cert.ReferenceFNIdeal.main_arg0) = m ((c.tc : Thread Cert.KernelFNIdeal.nD Cert.KernelFNIdeal.τ).loc Cert.KernelFNIdeal.main_arg0)
      ∧ m' ((c.tc : Thread Cert.ReferenceFNIdeal.nD Cert.ReferenceFNIdeal.τ).loc Cert.ReferenceFNIdeal.main_arg1) = m ((c.tc : Thread Cert.KernelFNIdeal.nD Cert.KernelFNIdeal.τ).loc Cert.KernelFNIdeal.main_arg1)
      ∧ m' ((c.tc : Thread Cert.ReferenceFNIdeal.nD Cert.ReferenceFNIdeal.τ).loc Cert.ReferenceFNIdeal.main_arg2) = m ((c.tc : Thread Cert.KernelFNIdeal.nD Cert.KernelFNIdeal.τ).loc Cert.KernelFNIdeal.main_arg2)) →
    ∃ (v0 : (c : Dev Cert.KernelFNIdeal.nD) → Buf (Elt Ideal) ((c.tc : Thread Cert.KernelFNIdeal.nD Cert.KernelFNIdeal.τ).loc Cert.KernelFNIdeal.main_v1)),
      θ_run (Cert.KernelFNIdeal.defs (F := Ideal)) (onTc (τ := Cert.KernelFNIdeal.τ) (Cert.KernelFNIdeal.main (F := Ideal))) ⟨m, fun _ => 0, g⟩ (fun r => ∀ c : Dev Cert.KernelFNIdeal.nD,
          r.2.mem ((c.tc : Thread Cert.KernelFNIdeal.nD Cert.KernelFNIdeal.τ).loc Cert.KernelFNIdeal.main_v1) = v0 c
          ∧ r.2.mem ((c.tc : Thread Cert.KernelFNIdeal.nD Cert.KernelFNIdeal.τ).loc Cert.KernelFNIdeal.main_arg0) = m ((c.tc : Thread Cert.KernelFNIdeal.nD Cert.KernelFNIdeal.τ).loc Cert.KernelFNIdeal.main_arg0)
          ∧ r.2.mem ((c.tc : Thread Cert.KernelFNIdeal.nD Cert.KernelFNIdeal.τ).loc Cert.KernelFNIdeal.main_arg1) = m ((c.tc : Thread Cert.KernelFNIdeal.nD Cert.KernelFNIdeal.τ).loc Cert.KernelFNIdeal.main_arg1)
          ∧ r.2.mem ((c.tc : Thread Cert.KernelFNIdeal.nD Cert.KernelFNIdeal.τ).loc Cert.KernelFNIdeal.main_arg2) = m ((c.tc : Thread Cert.KernelFNIdeal.nD Cert.KernelFNIdeal.τ).loc Cert.KernelFNIdeal.main_arg2))
      ∧ θ_run (Cert.ReferenceFNIdeal.defs (F := Ideal)) (onTc (τ := Cert.ReferenceFNIdeal.τ) (Cert.ReferenceFNIdeal.main (F := Ideal))) ⟨m', fun _ => 0, g'⟩ (fun r => ∀ c : Dev Cert.ReferenceFNIdeal.nD,
          r.2.mem ((c.tc : Thread Cert.ReferenceFNIdeal.nD Cert.ReferenceFNIdeal.τ).loc Cert.ReferenceFNIdeal.main_v10) = v0 c
          ∧ r.2.mem ((c.tc : Thread Cert.ReferenceFNIdeal.nD Cert.ReferenceFNIdeal.τ).loc Cert.ReferenceFNIdeal.main_arg0) = m' ((c.tc : Thread Cert.ReferenceFNIdeal.nD Cert.ReferenceFNIdeal.τ).loc Cert.ReferenceFNIdeal.main_arg0)
          ∧ r.2.mem ((c.tc : Thread Cert.ReferenceFNIdeal.nD Cert.ReferenceFNIdeal.τ).loc Cert.ReferenceFNIdeal.main_arg1) = m' ((c.tc : Thread Cert.ReferenceFNIdeal.nD Cert.ReferenceFNIdeal.τ).loc Cert.ReferenceFNIdeal.main_arg1)
          ∧ r.2.mem ((c.tc : Thread Cert.ReferenceFNIdeal.nD Cert.ReferenceFNIdeal.τ).loc Cert.ReferenceFNIdeal.main_arg2) = m' ((c.tc : Thread Cert.ReferenceFNIdeal.nD Cert.ReferenceFNIdeal.τ).loc Cert.ReferenceFNIdeal.main_arg2))

def preserves_KernelFD_KernelFDIdeal : Prop :=
  True

def algebraic_KernelFDIdeal_ReferenceFDIdeal [hKernelFDIdeal : Cert.KernelFDIdeal.Facts] [hReferenceFDIdeal : Cert.ReferenceFDIdeal.Facts] : Prop :=
  ∀ (m : (ℓ : Loc Cert.KernelFDIdeal.nD Cert.KernelFDIdeal.τ Cert.KernelFDIdeal.sig) → Buf (Elt Ideal) ℓ) (g : Dev Cert.KernelFDIdeal.nD → PrngReg)
    (m' : (ℓ : Loc Cert.ReferenceFDIdeal.nD Cert.ReferenceFDIdeal.τ Cert.ReferenceFDIdeal.sig) → Buf (Elt Ideal) ℓ) (g' : Dev Cert.ReferenceFDIdeal.nD → PrngReg), Pre_KernelFDIdeal m →
    (∀ c : Dev Cert.KernelFDIdeal.nD,
      m' ((c.tc : Thread Cert.ReferenceFDIdeal.nD Cert.ReferenceFDIdeal.τ).loc Cert.ReferenceFDIdeal.main_arg0) = m ((c.tc : Thread Cert.KernelFDIdeal.nD Cert.KernelFDIdeal.τ).loc Cert.KernelFDIdeal.main_arg0)
      ∧ m' ((c.tc : Thread Cert.ReferenceFDIdeal.nD Cert.ReferenceFDIdeal.τ).loc Cert.ReferenceFDIdeal.main_arg1) = m ((c.tc : Thread Cert.KernelFDIdeal.nD Cert.KernelFDIdeal.τ).loc Cert.KernelFDIdeal.main_arg1)
      ∧ m' ((c.tc : Thread Cert.ReferenceFDIdeal.nD Cert.ReferenceFDIdeal.τ).loc Cert.ReferenceFDIdeal.main_arg2) = m ((c.tc : Thread Cert.KernelFDIdeal.nD Cert.KernelFDIdeal.τ).loc Cert.KernelFDIdeal.main_arg2)) →
    ∃ (v0 : (c : Dev Cert.KernelFDIdeal.nD) → Buf (Elt Ideal) ((c.tc : Thread Cert.KernelFDIdeal.nD Cert.KernelFDIdeal.τ).loc Cert.KernelFDIdeal.main_v1)),
      θ_run (Cert.KernelFDIdeal.defs (F := Ideal)) (onTc (τ := Cert.KernelFDIdeal.τ) (Cert.KernelFDIdeal.main (F := Ideal))) ⟨m, fun _ => 0, g⟩ (fun r => ∀ c : Dev Cert.KernelFDIdeal.nD,
          r.2.mem ((c.tc : Thread Cert.KernelFDIdeal.nD Cert.KernelFDIdeal.τ).loc Cert.KernelFDIdeal.main_v1) = v0 c
          ∧ r.2.mem ((c.tc : Thread Cert.KernelFDIdeal.nD Cert.KernelFDIdeal.τ).loc Cert.KernelFDIdeal.main_arg0) = m ((c.tc : Thread Cert.KernelFDIdeal.nD Cert.KernelFDIdeal.τ).loc Cert.KernelFDIdeal.main_arg0)
          ∧ r.2.mem ((c.tc : Thread Cert.KernelFDIdeal.nD Cert.KernelFDIdeal.τ).loc Cert.KernelFDIdeal.main_arg1) = m ((c.tc : Thread Cert.KernelFDIdeal.nD Cert.KernelFDIdeal.τ).loc Cert.KernelFDIdeal.main_arg1)
          ∧ r.2.mem ((c.tc : Thread Cert.KernelFDIdeal.nD Cert.KernelFDIdeal.τ).loc Cert.KernelFDIdeal.main_arg2) = m ((c.tc : Thread Cert.KernelFDIdeal.nD Cert.KernelFDIdeal.τ).loc Cert.KernelFDIdeal.main_arg2))
      ∧ θ_run (Cert.ReferenceFDIdeal.defs (F := Ideal)) (onTc (τ := Cert.ReferenceFDIdeal.τ) (Cert.ReferenceFDIdeal.main (F := Ideal))) ⟨m', fun _ => 0, g'⟩ (fun r => ∀ c : Dev Cert.ReferenceFDIdeal.nD,
          r.2.mem ((c.tc : Thread Cert.ReferenceFDIdeal.nD Cert.ReferenceFDIdeal.τ).loc Cert.ReferenceFDIdeal.main_v6) = v0 c
          ∧ r.2.mem ((c.tc : Thread Cert.ReferenceFDIdeal.nD Cert.ReferenceFDIdeal.τ).loc Cert.ReferenceFDIdeal.main_arg0) = m' ((c.tc : Thread Cert.ReferenceFDIdeal.nD Cert.ReferenceFDIdeal.τ).loc Cert.ReferenceFDIdeal.main_arg0)
          ∧ r.2.mem ((c.tc : Thread Cert.ReferenceFDIdeal.nD Cert.ReferenceFDIdeal.τ).loc Cert.ReferenceFDIdeal.main_arg1) = m' ((c.tc : Thread Cert.ReferenceFDIdeal.nD Cert.ReferenceFDIdeal.τ).loc Cert.ReferenceFDIdeal.main_arg1)
          ∧ r.2.mem ((c.tc : Thread Cert.ReferenceFDIdeal.nD Cert.ReferenceFDIdeal.τ).loc Cert.ReferenceFDIdeal.main_arg2) = m' ((c.tc : Thread Cert.ReferenceFDIdeal.nD Cert.ReferenceFDIdeal.τ).loc Cert.ReferenceFDIdeal.main_arg2))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)) →
    ∃ (v0 : (c : Dev Cert.KernelMIdeal.nD) → Buf (Elt Ideal) ((c.tc : Thread Cert.KernelMIdeal.nD Cert.KernelMIdeal.τ).loc Cert.KernelMIdeal.main_v0)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v0) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v3) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)) →
    ∃ (v0 : (c : Dev Cert.KernelNIdeal.nD) → Buf (Elt Ideal) ((c.tc : Thread Cert.KernelNIdeal.nD Cert.KernelNIdeal.τ).loc Cert.KernelNIdeal.main_v0)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v0) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v19) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)
      ∧ m' ((c.tc : Thread Cert.ReferenceGIdeal.nD Cert.ReferenceGIdeal.τ).loc Cert.ReferenceGIdeal.main_arg3) = m ((c.tc : Thread Cert.KernelGIdeal.nD Cert.KernelGIdeal.τ).loc Cert.KernelGIdeal.main_arg3)
      ∧ m' ((c.tc : Thread Cert.ReferenceGIdeal.nD Cert.ReferenceGIdeal.τ).loc Cert.ReferenceGIdeal.main_arg4) = m ((c.tc : Thread Cert.KernelGIdeal.nD Cert.KernelGIdeal.τ).loc Cert.KernelGIdeal.main_arg4)) →
    ∃ (v0 : (c : Dev Cert.KernelGIdeal.nD) → Buf (Elt Ideal) ((c.tc : Thread Cert.KernelGIdeal.nD Cert.KernelGIdeal.τ).loc Cert.KernelGIdeal.main_v0_0)) (v1 : (c : Dev Cert.KernelGIdeal.nD) → Buf (Elt Ideal) ((c.tc : Thread Cert.KernelGIdeal.nD Cert.KernelGIdeal.τ).loc Cert.KernelGIdeal.main_v0_1)) (v2 : (c : Dev Cert.KernelGIdeal.nD) → Buf (Elt Ideal) ((c.tc : Thread Cert.KernelGIdeal.nD Cert.KernelGIdeal.τ).loc Cert.KernelGIdeal.main_v0_2)) (v3 : (c : Dev Cert.KernelGIdeal.nD) → Buf (Elt Ideal) ((c.tc : Thread Cert.KernelGIdeal.nD Cert.KernelGIdeal.τ).loc Cert.KernelGIdeal.main_v0_3)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v0_0) = v0 c
          ∧ r.2.mem ((c.tc : Thread Cert.KernelGIdeal.nD Cert.KernelGIdeal.τ).loc Cert.KernelGIdeal.main_v0_1) = v1 c
          ∧ r.2.mem ((c.tc : Thread Cert.KernelGIdeal.nD Cert.KernelGIdeal.τ).loc Cert.KernelGIdeal.main_v0_2) = v2 c
          ∧ r.2.mem ((c.tc : Thread Cert.KernelGIdeal.nD Cert.KernelGIdeal.τ).loc Cert.KernelGIdeal.main_v0_3) = v3 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
          ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
          ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v52) = v0 c
          ∧ r.2.mem ((c.tc : Thread Cert.ReferenceGIdeal.nD Cert.ReferenceGIdeal.τ).loc Cert.ReferenceGIdeal.main_v25) = v1 c
          ∧ r.2.mem ((c.tc : Thread Cert.ReferenceGIdeal.nD Cert.ReferenceGIdeal.τ).loc Cert.ReferenceGIdeal.main_v28) = v2 c
          ∧ r.2.mem ((c.tc : Thread Cert.ReferenceGIdeal.nD Cert.ReferenceGIdeal.τ).loc Cert.ReferenceGIdeal.main_v37) = v3 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2)
          ∧ r.2.mem ((c.tc : Thread Cert.ReferenceGIdeal.nD Cert.ReferenceGIdeal.τ).loc Cert.ReferenceGIdeal.main_arg3) = m' ((c.tc : Thread Cert.ReferenceGIdeal.nD Cert.ReferenceGIdeal.τ).loc Cert.ReferenceGIdeal.main_arg3)
          ∧ r.2.mem ((c.tc : Thread Cert.ReferenceGIdeal.nD Cert.ReferenceGIdeal.τ).loc Cert.ReferenceGIdeal.main_arg4) = m' ((c.tc : Thread Cert.ReferenceGIdeal.nD Cert.ReferenceGIdeal.τ).loc Cert.ReferenceGIdeal.main_arg4))

def preserves_KernelL_KernelLIdeal : Prop :=
  True

def algebraic_KernelLIdeal_ReferenceLIdeal [hKernelLIdeal : Cert.KernelLIdeal.Facts] [hReferenceLIdeal : Cert.ReferenceLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)) →
    ∃ (v0 : (c : Dev Cert.KernelLIdeal.nD) → Buf (Elt Ideal) ((c.tc : Thread Cert.KernelLIdeal.nD Cert.KernelLIdeal.τ).loc Cert.KernelLIdeal.main_v0_0)) (v1 : (c : Dev Cert.KernelLIdeal.nD) → Buf (Elt Ideal) ((c.tc : Thread Cert.KernelLIdeal.nD Cert.KernelLIdeal.τ).loc Cert.KernelLIdeal.main_v0_1)) (v2 : (c : Dev Cert.KernelLIdeal.nD) → Buf (Elt Ideal) ((c.tc : Thread Cert.KernelLIdeal.nD Cert.KernelLIdeal.τ).loc Cert.KernelLIdeal.main_v0_2)) (v3 : (c : Dev Cert.KernelLIdeal.nD) → Buf (Elt Ideal) ((c.tc : Thread Cert.KernelLIdeal.nD Cert.KernelLIdeal.τ).loc Cert.KernelLIdeal.main_v0_3)) (v4 : (c : Dev Cert.KernelLIdeal.nD) → Buf (Elt Ideal) ((c.tc : Thread Cert.KernelLIdeal.nD Cert.KernelLIdeal.τ).loc Cert.KernelLIdeal.main_v0_4)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v0_0) = v0 c
          ∧ r.2.mem ((c.tc : Thread Cert.KernelLIdeal.nD Cert.KernelLIdeal.τ).loc Cert.KernelLIdeal.main_v0_1) = v1 c
          ∧ r.2.mem ((c.tc : Thread Cert.KernelLIdeal.nD Cert.KernelLIdeal.τ).loc Cert.KernelLIdeal.main_v0_2) = v2 c
          ∧ r.2.mem ((c.tc : Thread Cert.KernelLIdeal.nD Cert.KernelLIdeal.τ).loc Cert.KernelLIdeal.main_v0_3) = v3 c
          ∧ r.2.mem ((c.tc : Thread Cert.KernelLIdeal.nD Cert.KernelLIdeal.τ).loc Cert.KernelLIdeal.main_v0_4) = v4 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v54) = v0 c
          ∧ r.2.mem ((c.tc : Thread Cert.ReferenceLIdeal.nD Cert.ReferenceLIdeal.τ).loc Cert.ReferenceLIdeal.main_v60) = v1 c
          ∧ r.2.mem ((c.tc : Thread Cert.ReferenceLIdeal.nD Cert.ReferenceLIdeal.τ).loc Cert.ReferenceLIdeal.main_v59) = v2 c
          ∧ r.2.mem ((c.tc : Thread Cert.ReferenceLIdeal.nD Cert.ReferenceLIdeal.τ).loc Cert.ReferenceLIdeal.main_v40) = v3 c
          ∧ r.2.mem ((c.tc : Thread Cert.ReferenceLIdeal.nD Cert.ReferenceLIdeal.τ).loc Cert.ReferenceLIdeal.main_v61) = v4 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4))

def preserves_KernelC_KernelCIdeal : Prop :=
  True

def algebraic_KernelCIdeal_ReferenceCIdeal [hKernelCIdeal : Cert.KernelCIdeal.Facts] [hReferenceCIdeal : Cert.ReferenceCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)) →
    ∃ (v0 : (c : Dev Cert.KernelCIdeal.nD) → Buf (Elt Ideal) ((c.tc : Thread Cert.KernelCIdeal.nD Cert.KernelCIdeal.τ).loc Cert.KernelCIdeal.main_v2)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v2) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v3) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1))

def preserves_KernelCO_KernelCOIdeal : Prop :=
  True

def algebraic_KernelCOIdeal_ReferenceCOIdeal [hKernelCOIdeal : Cert.KernelCOIdeal.Facts] [hReferenceCOIdeal : Cert.ReferenceCOIdeal.Facts] : Prop :=
  ∀ (m : (ℓ : Loc Cert.KernelCOIdeal.nD Cert.KernelCOIdeal.τ Cert.KernelCOIdeal.sig) → Buf (Elt Ideal) ℓ) (g : Dev Cert.KernelCOIdeal.nD → PrngReg)
    (m' : (ℓ : Loc Cert.ReferenceCOIdeal.nD Cert.ReferenceCOIdeal.τ Cert.ReferenceCOIdeal.sig) → Buf (Elt Ideal) ℓ) (g' : Dev Cert.ReferenceCOIdeal.nD → PrngReg), Pre_KernelCOIdeal m →
    (∀ c : Dev Cert.KernelCOIdeal.nD,
      m' ((c.tc : Thread Cert.ReferenceCOIdeal.nD Cert.ReferenceCOIdeal.τ).loc Cert.ReferenceCOIdeal.main_arg0) = m ((c.tc : Thread Cert.KernelCOIdeal.nD Cert.KernelCOIdeal.τ).loc Cert.KernelCOIdeal.main_arg0)
      ∧ m' ((c.tc : Thread Cert.ReferenceCOIdeal.nD Cert.ReferenceCOIdeal.τ).loc Cert.ReferenceCOIdeal.main_arg1) = m ((c.tc : Thread Cert.KernelCOIdeal.nD Cert.KernelCOIdeal.τ).loc Cert.KernelCOIdeal.main_arg1)) →
    ∃ (v0 : (c : Dev Cert.KernelCOIdeal.nD) → Buf (Elt Ideal) ((c.tc : Thread Cert.KernelCOIdeal.nD Cert.KernelCOIdeal.τ).loc Cert.KernelCOIdeal.main_v2)),
      θ_run (Cert.KernelCOIdeal.defs (F := Ideal)) (onTc (τ := Cert.KernelCOIdeal.τ) (Cert.KernelCOIdeal.main (F := Ideal))) ⟨m, fun _ => 0, g⟩ (fun r => ∀ c : Dev Cert.KernelCOIdeal.nD,
          r.2.mem ((c.tc : Thread Cert.KernelCOIdeal.nD Cert.KernelCOIdeal.τ).loc Cert.KernelCOIdeal.main_v2) = v0 c
          ∧ r.2.mem ((c.tc : Thread Cert.KernelCOIdeal.nD Cert.KernelCOIdeal.τ).loc Cert.KernelCOIdeal.main_arg0) = m ((c.tc : Thread Cert.KernelCOIdeal.nD Cert.KernelCOIdeal.τ).loc Cert.KernelCOIdeal.main_arg0)
          ∧ r.2.mem ((c.tc : Thread Cert.KernelCOIdeal.nD Cert.KernelCOIdeal.τ).loc Cert.KernelCOIdeal.main_arg1) = m ((c.tc : Thread Cert.KernelCOIdeal.nD Cert.KernelCOIdeal.τ).loc Cert.KernelCOIdeal.main_arg1))
      ∧ θ_run (Cert.ReferenceCOIdeal.defs (F := Ideal)) (onTc (τ := Cert.ReferenceCOIdeal.τ) (Cert.ReferenceCOIdeal.main (F := Ideal))) ⟨m', fun _ => 0, g'⟩ (fun r => ∀ c : Dev Cert.ReferenceCOIdeal.nD,
          r.2.mem ((c.tc : Thread Cert.ReferenceCOIdeal.nD Cert.ReferenceCOIdeal.τ).loc Cert.ReferenceCOIdeal.main_v3) = v0 c
          ∧ r.2.mem ((c.tc : Thread Cert.ReferenceCOIdeal.nD Cert.ReferenceCOIdeal.τ).loc Cert.ReferenceCOIdeal.main_arg0) = m' ((c.tc : Thread Cert.ReferenceCOIdeal.nD Cert.ReferenceCOIdeal.τ).loc Cert.ReferenceCOIdeal.main_arg0)
          ∧ r.2.mem ((c.tc : Thread Cert.ReferenceCOIdeal.nD Cert.ReferenceCOIdeal.τ).loc Cert.ReferenceCOIdeal.main_arg1) = m' ((c.tc : Thread Cert.ReferenceCOIdeal.nD Cert.ReferenceCOIdeal.τ).loc Cert.ReferenceCOIdeal.main_arg1))

def Claim : Prop :=
  ∃ (hKernel : Cert.Kernel.Facts) (hKernelIdeal : Cert.KernelIdeal.Facts) (hReferenceIdeal : Cert.ReferenceIdeal.Facts) (hKernelW : Cert.KernelW.Facts) (hKernelWIdeal : Cert.KernelWIdeal.Facts) (hReferenceWIdeal : Cert.ReferenceWIdeal.Facts) (hKernelX : Cert.KernelX.Facts) (hKernelXIdeal : Cert.KernelXIdeal.Facts) (hReferenceXIdeal : Cert.ReferenceXIdeal.Facts) (hKernelOY : Cert.KernelOY.Facts) (hKernelOYIdeal : Cert.KernelOYIdeal.Facts) (hReferenceOYIdeal : Cert.ReferenceOYIdeal.Facts) (hKernelOW : Cert.KernelOW.Facts) (hKernelOWIdeal : Cert.KernelOWIdeal.Facts) (hReferenceOWIdeal : Cert.ReferenceOWIdeal.Facts) (hKernelOF : Cert.KernelOF.Facts) (hKernelOFIdeal : Cert.KernelOFIdeal.Facts) (hReferenceOFIdeal : Cert.ReferenceOFIdeal.Facts) (hKernelUI : Cert.KernelUI.Facts) (hKernelUIIdeal : Cert.KernelUIIdeal.Facts) (hReferenceUIIdeal : Cert.ReferenceUIIdeal.Facts) (hKernelUO : Cert.KernelUO.Facts) (hKernelUOIdeal : Cert.KernelUOIdeal.Facts) (hReferenceUOIdeal : Cert.ReferenceUOIdeal.Facts) (hKernelS : Cert.KernelS.Facts) (hKernelSIdeal : Cert.KernelSIdeal.Facts) (hReferenceSIdeal : Cert.ReferenceSIdeal.Facts) (hKernelA : Cert.KernelA.Facts) (hKernelAIdeal : Cert.KernelAIdeal.Facts) (hReferenceAIdeal : Cert.ReferenceAIdeal.Facts) (hKernelFO : Cert.KernelFO.Facts) (hKernelFOIdeal : Cert.KernelFOIdeal.Facts) (hReferenceFOIdeal : Cert.ReferenceFOIdeal.Facts) (hKernelFN : Cert.KernelFN.Facts) (hKernelFNIdeal : Cert.KernelFNIdeal.Facts) (hReferenceFNIdeal : Cert.ReferenceFNIdeal.Facts) (hKernelFD : Cert.KernelFD.Facts) (hKernelFDIdeal : Cert.KernelFDIdeal.Facts) (hReferenceFDIdeal : Cert.ReferenceFDIdeal.Facts) (hKernelM : Cert.KernelM.Facts) (hKernelMIdeal : Cert.KernelMIdeal.Facts) (hReferenceMIdeal : Cert.ReferenceMIdeal.Facts) (hKernelN : Cert.KernelN.Facts) (hKernelNIdeal : Cert.KernelNIdeal.Facts) (hReferenceNIdeal : Cert.ReferenceNIdeal.Facts) (hKernelG : Cert.KernelG.Facts) (hKernelGIdeal : Cert.KernelGIdeal.Facts) (hReferenceGIdeal : Cert.ReferenceGIdeal.Facts) (hKernelL : Cert.KernelL.Facts) (hKernelLIdeal : Cert.KernelLIdeal.Facts) (hReferenceLIdeal : Cert.ReferenceLIdeal.Facts) (hKernelC : Cert.KernelC.Facts) (hKernelCIdeal : Cert.KernelCIdeal.Facts) (hReferenceCIdeal : Cert.ReferenceCIdeal.Facts) (hKernelCO : Cert.KernelCO.Facts) (hKernelCOIdeal : Cert.KernelCOIdeal.Facts) (hReferenceCOIdeal : Cert.ReferenceCOIdeal.Facts),
    quiescent_Kernel (hKernel := hKernel)
    ∧ quiescent_KernelIdeal (hKernelIdeal := hKernelIdeal)
    ∧ quiescent_ReferenceIdeal (hReferenceIdeal := hReferenceIdeal)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelOY (hKernelOY := hKernelOY)
    ∧ quiescent_KernelOYIdeal (hKernelOYIdeal := hKernelOYIdeal)
    ∧ quiescent_ReferenceOYIdeal (hReferenceOYIdeal := hReferenceOYIdeal)
    ∧ quiescent_KernelOW (hKernelOW := hKernelOW)
    ∧ quiescent_KernelOWIdeal (hKernelOWIdeal := hKernelOWIdeal)
    ∧ quiescent_ReferenceOWIdeal (hReferenceOWIdeal := hReferenceOWIdeal)
    ∧ quiescent_KernelOF (hKernelOF := hKernelOF)
    ∧ quiescent_KernelOFIdeal (hKernelOFIdeal := hKernelOFIdeal)
    ∧ quiescent_ReferenceOFIdeal (hReferenceOFIdeal := hReferenceOFIdeal)
    ∧ quiescent_KernelUI (hKernelUI := hKernelUI)
    ∧ quiescent_KernelUIIdeal (hKernelUIIdeal := hKernelUIIdeal)
    ∧ quiescent_ReferenceUIIdeal (hReferenceUIIdeal := hReferenceUIIdeal)
    ∧ quiescent_KernelUO (hKernelUO := hKernelUO)
    ∧ quiescent_KernelUOIdeal (hKernelUOIdeal := hKernelUOIdeal)
    ∧ quiescent_ReferenceUOIdeal (hReferenceUOIdeal := hReferenceUOIdeal)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelFO (hKernelFO := hKernelFO)
    ∧ quiescent_KernelFOIdeal (hKernelFOIdeal := hKernelFOIdeal)
    ∧ quiescent_ReferenceFOIdeal (hReferenceFOIdeal := hReferenceFOIdeal)
    ∧ quiescent_KernelFN (hKernelFN := hKernelFN)
    ∧ quiescent_KernelFNIdeal (hKernelFNIdeal := hKernelFNIdeal)
    ∧ quiescent_ReferenceFNIdeal (hReferenceFNIdeal := hReferenceFNIdeal)
    ∧ quiescent_KernelFD (hKernelFD := hKernelFD)
    ∧ quiescent_KernelFDIdeal (hKernelFDIdeal := hKernelFDIdeal)
    ∧ quiescent_ReferenceFDIdeal (hReferenceFDIdeal := hReferenceFDIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelL (hKernelL := hKernelL)
    ∧ quiescent_KernelLIdeal (hKernelLIdeal := hKernelLIdeal)
    ∧ quiescent_ReferenceLIdeal (hReferenceLIdeal := hReferenceLIdeal)
    ∧ quiescent_KernelC (hKernelC := hKernelC)
    ∧ quiescent_KernelCIdeal (hKernelCIdeal := hKernelCIdeal)
    ∧ quiescent_ReferenceCIdeal (hReferenceCIdeal := hReferenceCIdeal)
    ∧ quiescent_KernelCO (hKernelCO := hKernelCO)
    ∧ quiescent_KernelCOIdeal (hKernelCOIdeal := hKernelCOIdeal)
    ∧ quiescent_ReferenceCOIdeal (hReferenceCOIdeal := hReferenceCOIdeal)
    ∧ preserves_Kernel_KernelIdeal
    ∧ preserves_KernelW_KernelWIdeal
    ∧ algebraic_KernelWIdeal_ReferenceWIdeal (hKernelWIdeal := hKernelWIdeal) (hReferenceWIdeal := hReferenceWIdeal)
    ∧ preserves_KernelX_KernelXIdeal
    ∧ algebraic_KernelXIdeal_ReferenceXIdeal (hKernelXIdeal := hKernelXIdeal) (hReferenceXIdeal := hReferenceXIdeal)
    ∧ preserves_KernelOY_KernelOYIdeal
    ∧ algebraic_KernelOYIdeal_ReferenceOYIdeal (hKernelOYIdeal := hKernelOYIdeal) (hReferenceOYIdeal := hReferenceOYIdeal)
    ∧ preserves_KernelOW_KernelOWIdeal
    ∧ algebraic_KernelOWIdeal_ReferenceOWIdeal (hKernelOWIdeal := hKernelOWIdeal) (hReferenceOWIdeal := hReferenceOWIdeal)
    ∧ preserves_KernelOF_KernelOFIdeal
    ∧ algebraic_KernelOFIdeal_ReferenceOFIdeal (hKernelOFIdeal := hKernelOFIdeal) (hReferenceOFIdeal := hReferenceOFIdeal)
    ∧ preserves_KernelUI_KernelUIIdeal
    ∧ algebraic_KernelUIIdeal_ReferenceUIIdeal (hKernelUIIdeal := hKernelUIIdeal) (hReferenceUIIdeal := hReferenceUIIdeal)
    ∧ preserves_KernelUO_KernelUOIdeal
    ∧ algebraic_KernelUOIdeal_ReferenceUOIdeal (hKernelUOIdeal := hKernelUOIdeal) (hReferenceUOIdeal := hReferenceUOIdeal)
    ∧ preserves_KernelS_KernelSIdeal
    ∧ algebraic_KernelSIdeal_ReferenceSIdeal (hKernelSIdeal := hKernelSIdeal) (hReferenceSIdeal := hReferenceSIdeal)
    ∧ preserves_KernelA_KernelAIdeal
    ∧ algebraic_KernelAIdeal_ReferenceAIdeal (hKernelAIdeal := hKernelAIdeal) (hReferenceAIdeal := hReferenceAIdeal)
    ∧ preserves_KernelFO_KernelFOIdeal
    ∧ algebraic_KernelFOIdeal_ReferenceFOIdeal (hKernelFOIdeal := hKernelFOIdeal) (hReferenceFOIdeal := hReferenceFOIdeal)
    ∧ preserves_KernelFN_KernelFNIdeal
    ∧ algebraic_KernelFNIdeal_ReferenceFNIdeal (hKernelFNIdeal := hKernelFNIdeal) (hReferenceFNIdeal := hReferenceFNIdeal)
    ∧ preserves_KernelFD_KernelFDIdeal
    ∧ algebraic_KernelFDIdeal_ReferenceFDIdeal (hKernelFDIdeal := hKernelFDIdeal) (hReferenceFDIdeal := hReferenceFDIdeal)
    ∧ preserves_KernelM_KernelMIdeal
    ∧ algebraic_KernelMIdeal_ReferenceMIdeal (hKernelMIdeal := hKernelMIdeal) (hReferenceMIdeal := hReferenceMIdeal)
    ∧ preserves_KernelN_KernelNIdeal
    ∧ algebraic_KernelNIdeal_ReferenceNIdeal (hKernelNIdeal := hKernelNIdeal) (hReferenceNIdeal := hReferenceNIdeal)
    ∧ preserves_KernelG_KernelGIdeal
    ∧ algebraic_KernelGIdeal_ReferenceGIdeal (hKernelGIdeal := hKernelGIdeal) (hReferenceGIdeal := hReferenceGIdeal)
    ∧ preserves_KernelL_KernelLIdeal
    ∧ algebraic_KernelLIdeal_ReferenceLIdeal (hKernelLIdeal := hKernelLIdeal) (hReferenceLIdeal := hReferenceLIdeal)
    ∧ preserves_KernelC_KernelCIdeal
    ∧ algebraic_KernelCIdeal_ReferenceCIdeal (hKernelCIdeal := hKernelCIdeal) (hReferenceCIdeal := hReferenceCIdeal)
    ∧ preserves_KernelCO_KernelCOIdeal
    ∧ algebraic_KernelCOIdeal_ReferenceCOIdeal (hKernelCOIdeal := hKernelCOIdeal) (hReferenceCOIdeal := hReferenceCOIdeal)
-- ==== Kernel.lean ====
abbrev S8x2x2048x2048 : Shape := ⟨4, ![8, 2, 2048, 2048]⟩
abbrev S2x2x2048x2048 : Shape := ⟨4, ![2, 2, 2048, 2048]⟩
abbrev S1x2048 : Shape := ⟨2, ![1, 2048]⟩
abbrev S1x2x2048x2048 : Shape := ⟨4, ![1, 2, 2048, 2048]⟩
abbrev S2x2048x2048 : Shape := ⟨3, ![2, 2048, 2048]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S4 : Shape := ⟨1, ![4]⟩
abbrev S2x16x1x4 : Shape := ⟨4, ![2, 16, 1, 4]⟩
abbrev S2x1x2048 : Shape := ⟨3, ![2, 1, 2048]⟩
abbrev S1x1x2048x128 : Shape := ⟨4, ![1, 1, 2048, 128]⟩
abbrev S1x2048x128 : Shape := ⟨3, ![1, 2048, 128]⟩
abbrev S1x128 : Shape := ⟨2, ![1, 128]⟩
abbrev S1x1x1x4 : Shape := ⟨4, ![1, 1, 1, 4]⟩
abbrev S4x1x2048x128 : Shape := ⟨4, ![4, 1, 2048, 128]⟩
abbrev S1x1x128 : Shape := ⟨3, ![1, 1, 128]⟩
abbrev S2048x128 : Shape := ⟨2, ![2048, 128]⟩
abbrev S256x256 : Shape := ⟨2, ![256, 256]⟩
abbrev S512x256 : Shape := ⟨2, ![512, 256]⟩
abbrev S1x512x128 : Shape := ⟨3, ![1, 512, 128]⟩
abbrev S512x128 : Shape := ⟨2, ![512, 128]⟩
abbrev S1x1x512x128 : Shape := ⟨4, ![1, 1, 512, 128]⟩
abbrev S512 : Shape := ⟨1, ![512]⟩
abbrev S512x1 : Shape := ⟨2, ![512, 1]⟩
abbrev S128 : Shape := ⟨1, ![128]⟩
abbrev S1x1x1x1 : Shape := ⟨4, ![1, 1, 1, 1]⟩
abbrev S1x1x256x128 : Shape := ⟨4, ![1, 1, 256, 128]⟩
abbrev S256x128 : Shape := ⟨2, ![256, 128]⟩
abbrev S4x2x2048x2048 : Shape := ⟨4, ![4, 2, 2048, 2048]⟩

abbrev nBuf : Space → Nat
  | .hbm => 98
  | .vmem => 23
  | .smem => 2
  | _ => 0

abbrev bufTy : (tb : Table) → Fin (tcTables nBuf tb) → BufTy
  | .hbm, ⟨0, _⟩ => ⟨S8x2x2048x2048, .f32⟩
  | .hbm, ⟨1, _⟩ => ⟨S2x2x2048x2048, .f32⟩
  | .hbm, ⟨2, _⟩ => ⟨S1x2048, .f32⟩
  | .hbm, ⟨3, _⟩ => ⟨S1x2x2048x2048, .f32⟩
  | .hbm, ⟨4, _⟩ => ⟨S2x2048x2048, .f32⟩
  | .hbm, ⟨5, _⟩ => ⟨S2x2048x16x128, .f32⟩
  | .hbm, ⟨6, _⟩ => ⟨S2x16x2048x128, .f32⟩
  | .hbm, ⟨7, _⟩ => ⟨S1x2x2048x2048, .f32⟩
  | .hbm, ⟨8, _⟩ => ⟨S2x2048x2048, .f32⟩
  | .hbm, ⟨9, _⟩ => ⟨S2x2048x16x128, .f32⟩
  | .hbm, ⟨10, _⟩ => ⟨S2x16x2048x128, .f32⟩
  | .hbm, ⟨11, _⟩ => ⟨S1x2x2048x2048, .f32⟩
  | .hbm, ⟨12, _⟩ => ⟨S2x2048x2048, .f32⟩
  | .hbm, ⟨13, _⟩ => ⟨S2x2048x16x128, .f32⟩
  | .hbm, ⟨14, _⟩ => ⟨S2x16x2048x128, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S2x16x2048x2048, .f32⟩
  | .hbm, ⟨28, _⟩ => ⟨S_, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .i1⟩
  | .hbm, ⟨34, _⟩ => ⟨S2x16x2048x2048, .f32⟩
  | .hbm, ⟨35, _⟩ => ⟨S2x16x2048x2048, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S2x16x2048x2048, .i1⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2x16x2048x2048, .f32⟩
  | .hbm, ⟨60, _⟩ => ⟨S_, .f32⟩
  | .hbm, ⟨61, _⟩ => ⟨S_, .f32⟩
  | .hbm, ⟨62, _⟩ => ⟨S2x16x2048x2048, .i1⟩
  | .hbm, ⟨63, _⟩ => ⟨S2x16x2048x2048, .f32⟩
  | .hbm, ⟨64, _⟩ => ⟨S2x16x2048x2048, .f32⟩
  | .hbm, ⟨65, _⟩ => ⟨S_, .f32⟩
  | .hbm, ⟨66, _⟩ => ⟨S_, .f32⟩
  | .hbm, ⟨67, _⟩ => ⟨S2x16x2048x2048, .f32⟩
  | .hbm, ⟨68, _⟩ => ⟨S2x16x2048x2048, .f32⟩
  | .hbm, ⟨69, _⟩ => ⟨S2x16x2048x2048, .f32⟩
  | .hbm, ⟨70, _⟩ => ⟨S2x16x2048x2048, .f32⟩
  | .hbm, ⟨71, _⟩ => ⟨S_, .f32⟩
  | .hbm, ⟨72, _⟩ => ⟨S_, .f32⟩
  | .hbm, ⟨73, _⟩ => ⟨S2x16x2048x2048, .i1⟩
  | .hbm, ⟨74, _⟩ => ⟨S2x16x2048x2048, .f32⟩
  | .hbm, ⟨75, _⟩ => ⟨S2x16x2048x2048, .f32⟩
  | .hbm, ⟨76, _⟩ => ⟨S2x16x2048x128, .f32⟩
  | .hbm, ⟨77, _⟩ => ⟨S2x2048x16x128, .f32⟩
  | .hbm, ⟨78, _⟩ => ⟨S2x2048x2048, .f32⟩
  | .hbm, ⟨79, _⟩ => ⟨S_, .f32⟩
  | .hbm, ⟨80, _⟩ => ⟨S2x16x2048, .f32⟩
  | .hbm, ⟨81, _⟩ => ⟨S2x16x2048x1, .f32⟩
  | .hbm, ⟨82, _⟩ => ⟨S_, .f32⟩
  | .hbm, ⟨83, _⟩ => ⟨S_, .f32⟩
  | .hbm, ⟨84, _⟩ => ⟨S2x16x2048x1, .f32⟩
  | .hbm, ⟨85, _⟩ => ⟨S2x16x2048x1, .f32⟩
  | .hbm, ⟨86, _⟩ => ⟨S2x16x2048x128, .f32⟩
  | .hbm, ⟨87, _⟩ => ⟨S2x2048x16x128, .f32⟩
  | .hbm, ⟨88, _⟩ => ⟨S2x2048x2048, .f32⟩
  | .hbm, ⟨89, _⟩ => ⟨S4, .i32⟩
  | .hbm, ⟨90, _⟩ => ⟨S_, .i32⟩
  | .hbm, ⟨91, _⟩ => ⟨S4, .i32⟩
  | .hbm, ⟨92, _⟩ => ⟨S4, .i32⟩
  | .hbm, ⟨93, _⟩ => ⟨S4, .f32⟩
  | .hbm, ⟨94, _⟩ => ⟨S2x16x1x4, .f32⟩
  | .hbm, ⟨95, _⟩ => ⟨S8x2x2048x2048, .bf16⟩
  | .hbm, ⟨96, _⟩ => ⟨S2x1x2048, .f32⟩
  | .hbm, ⟨97, _⟩ => ⟨S4x2x2048x2048, .bf16⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x1x2048x128, .f32⟩
  | .local _ .vmem, ⟨13, _⟩ => ⟨S1x1x2048x128, .f32⟩
  | .local _ .vmem, ⟨14, _⟩ => ⟨S1x128, .f32⟩
  | .local _ .vmem, ⟨15, _⟩ => ⟨S1x128, .f32⟩
  | .local _ .vmem, ⟨16, _⟩ => ⟨S4x1x2048x128, .bf16⟩
  | .local _ .vmem, ⟨17, _⟩ => ⟨S4x1x2048x128, .bf16⟩
  | .local _ .vmem, ⟨18, _⟩ => ⟨S1x1x128, .f32⟩
  | .local _ .vmem, ⟨19, _⟩ => ⟨S1x1x128, .f32⟩
  | .local _ .vmem, ⟨20, _⟩ => ⟨S2048x128, .bf16⟩
  | .local _ .vmem, ⟨21, _⟩ => ⟨S2048x128, .f32⟩
  | .local _ .vmem, ⟨22, _⟩ => ⟨S2048x128, .f32⟩
  | .local _ .smem, ⟨0, _⟩ => ⟨S1x1x1x4, .f32⟩
  | .local _ .smem, ⟨1, _⟩ => ⟨S1x1x1x4, .f32⟩
  | _, _ => ⟨S8x2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v25 : Ref sig .tc := ⟨.hbm, 59, rfl⟩
abbrev main_cst_0 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v26 : Ref sig .tc := ⟨.hbm, 64, rfl⟩
abbrev main_call3_cst : Ref sig .tc := ⟨.hbm, 65, rfl⟩
abbrev main_call3_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_2 : Ref sig .tc := ⟨.hbm, 79, rfl⟩
abbrev main_v35 : Ref sig .tc := ⟨.hbm, 80, rfl⟩
abbrev main_v36 : Ref sig .tc := ⟨.hbm, 81, rfl⟩
abbrev main_cst_3 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48_0 : Ref sig .tc := ⟨.hbm, 95, rfl⟩
abbrev main_v48_1 : Ref sig .tc := ⟨.hbm, 96, rfl⟩
abbrev main_v49 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_stg8_0 : Ref sig .tc := ⟨.smem, 0, rfl⟩
abbrev cc0_stg8_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  v39
def k0_off1 (k0_t1 : Fin k0_t1_loop.trips) : Fin 3 → Nat :=
  let c0_26 : Index := 0#32
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v41 : Index := Scalar.indexCast v40
  let c0_27 : Index := 0#32
  ![0, v41.toNat, 0]
def k0_off2 (k0_t1 : Fin k0_t1_loop.trips) : Fin 4 → Nat :=
  let c0_28 : Index := 0#32
  let c0_29 : Index := 0#32
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v44 : Index := Scalar.indexCast v40
  let c0_30 : Index := 0#32
  ![0, 0, v44.toNat, 0]
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v102 : Index := Scalar.indexCast v40
  let c0_48 : Index := 0#32
  ![v102.toNat, 0]
def k0_off4 (k0_t1 : Fin k0_t1_loop.trips) : Fin 4 → Nat :=
  let c3_i32 : BitVec 32 := 3#32
  let c0_i32_45 : BitVec 32 := 0#32
  let c0_i32 : BitVec 32 := 0#32
  let c1_i32 : BitVec 32 := 1#32
  let arg16 : BitVec 32 := Scf.iv c0_i32 c1_i32 k0_t1
  let c512_i32 : BitVec 32 := 512#32
  let v39 : BitVec 32 := Scalar.muli arg16 c512_i32
  let v40 : BitVec 32 := v39
  let v102 : Index := Scalar.indexCast v40
  let c0_i32_47 : BitVec 32 := 0#32
  ![3, 0, v102.toNat, 0]
@[reducible] def k0_t2_loop : Scf.Loop 32 :=
  let c0_i32_12 : BitVec 32 := 0#32
  let c4_i32_13 : BitVec 32 := 4#32
  let v28 : BitVec 32 := Scalar.addi c0_i32_12 c4_i32_13
  let c1_i32_14 : BitVec 32 := 1#32
  ⟨c0_i32_12, v28, c1_i32_14⟩
def k0_mult2 (k0_t2 : Fin k0_t2_loop.trips) : BitVec 32 :=
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  v39
def k0_off5 (k0_t2 : Fin k0_t2_loop.trips) : Fin 4 → Nat :=
  let c0_26 : Index := 0#32
  let c0_27 : Index := 0#32
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v41 : Index := Scalar.indexCast v40
  let c0_28 : Index := 0#32
  ![0, 0, v41.toNat, 0]
def k0_off6 (k0_t2 : Fin k0_t2_loop.trips) : Fin 2 → Nat :=
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v45 : Index := Scalar.indexCast v40
  let c0_29 : Index := 0#32
  ![v45.toNat, 0]
def k0_off7 (k0_t2 : Fin k0_t2_loop.trips) : Fin 3 → Nat :=
  let c0_30 : Index := 0#32
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v47 : Index := Scalar.indexCast v40
  let c0_31 : Index := 0#32
  ![0, v47.toNat, 0]
def k0_off8 (k0_t2 : Fin k0_t2_loop.trips) : Fin 4 → Nat :=
  let c0_33 : Index := 0#32
  let c0_34 : Index := 0#32
  let c0_35 : Index := 0#32
  let c0_i32_12 : BitVec 32 := 0#32
  let c1_i32_14 : BitVec 32 := 1#32
  let arg16 : BitVec 32 := Scf.iv c0_i32_12 c1_i32_14 k0_t2
  let v52 : Index := Scalar.indexCast arg16
  ![0, 0, 0, v52.toNat]
@[reducible] def k0_t3_loop (k0_t2 : Fin k0_t2_loop.trips) (v54 : BitVec 32) : Scf.Loop 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_42 : BitVec 32 := 1#32
  ⟨v59, v66, c1_i32_42⟩

def k0_mult3 (k0_t2 : Fin k0_t2_loop.trips) (v54 : BitVec 32) (k0_t3 : Fin (k0_t3_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32 : BitVec 32 := 2#32
  let v74 : BitVec 32 := Scalar.muli arg17 c2_i32
  let c0_i32_48 : BitVec 32 := 0#32
  let v75 : BitVec 32 := Scalar.addi v74 c0_i32_48
  let c256_i32 : BitVec 32 := 256#32
  let v78 : BitVec 32 := Scalar.muli v75 c256_i32
  v78
def k0_mult4 (k0_t2 : Fin k0_t2_loop.trips) (v54 : BitVec 32) (k0_t3 : Fin (k0_t3_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32_49 : BitVec 32 := 2#32
  let v76 : BitVec 32 := Scalar.muli arg17 c2_i32_49
  let c1_i32_50 : BitVec 32 := 1#32
  let v77 : BitVec 32 := Scalar.addi v76 c1_i32_50
  let c256_i32_51 : BitVec 32 := 256#32
  let v80 : BitVec 32 := Scalar.muli v77 c256_i32_51
  v80
def k0_off9 (k0_t2 : Fin k0_t2_loop.trips) (v54 : BitVec 32) (k0_t3 : Fin (k0_t3_loop k0_t2 v54).trips) (c0_i32_48 : BitVec 32) : Fin 4 → Nat :=
  let c0_52 : Index := 0#32
  let c0_53 : Index := 0#32
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v82 : Index := Scalar.indexCast v79
  let c0_54 : Index := 0#32
  ![0, 0, v82.toNat, 0]
def k0_off10 (k0_t2 : Fin k0_t2_loop.trips) (v54 : BitVec 32) (k0_t3 : Fin (k0_t3_loop k0_t2 v54).trips) (c0_i32_48 : BitVec 32) : Fin 2 → Nat :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_42 : BitVec 32 := 1#32
  let arg17 : BitVec 32 := Scf.iv v59 c1_i32_42 k0_t3
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v240 : Index := Scalar.indexCast v79
  let c0_108 : Index := 0#32
  ![v240.toNat, 0]
@[reducible] def k0_t4_loop (k0_t2 : Fin k0_t2_loop.trips) (v54 : BitVec 32) : Scf.Loop 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let v63 : BitVec 32 := Scalar.addi v59 v62
  let c1_i32_43 : BitVec 32 := 1#32
  ⟨v66, v63, c1_i32_43⟩
def k0_mult5 (k0_t2 : Fin k0_t2_loop.trips) (v54 : BitVec 32) (k0_t4 : Fin (k0_t4_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32 : BitVec 32 := 2#32
  let v74 : BitVec 32 := Scalar.muli arg17 c2_i32
  let c0_i32_48 : BitVec 32 := 0#32
  let v75 : BitVec 32 := Scalar.addi v74 c0_i32_48
  let c256_i32 : BitVec 32 := 256#32
  let v78 : BitVec 32 := Scalar.muli v75 c256_i32
  v78
def k0_mult6 (k0_t2 : Fin k0_t2_loop.trips) (v54 : BitVec 32) (k0_t4 : Fin (k0_t4_loop k0_t2 v54).trips) : BitVec 32 :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32_49 : BitVec 32 := 2#32
  let v76 : BitVec 32 := Scalar.muli arg17 c2_i32_49
  let c1_i32_50 : BitVec 32 := 1#32
  let v77 : BitVec 32 := Scalar.addi v76 c1_i32_50
  let c256_i32_51 : BitVec 32 := 256#32
  let v80 : BitVec 32 := Scalar.muli v77 c256_i32_51
  v80
def k0_off11 (k0_t2 : Fin k0_t2_loop.trips) (v54 : BitVec 32) (k0_t4 : Fin (k0_t4_loop k0_t2 v54).trips) (c0_i32_48 : BitVec 32) : Fin 4 → Nat :=
  let c0_52 : Index := 0#32
  let c0_53 : Index := 0#32
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v82 : Index := Scalar.indexCast v79
  let c0_54 : Index := 0#32
  ![0, 0, v82.toNat, 0]
def k0_off12 (k0_t2 : Fin k0_t2_loop.trips) (v54 : BitVec 32) (k0_t4 : Fin (k0_t4_loop k0_t2 v54).trips) (c0_i32_48 : BitVec 32) : Fin 2 → Nat :=
  let c0_i32_12 : BitVec 32 := 0#32
  let c1_i32_14 : BitVec 32 := 1#32
  let arg16 : BitVec 32 := Scf.iv c0_i32_12 c1_i32_14 k0_t2
  let c1_i32_38 : BitVec 32 := 1#32
  let v58 : BitVec 32 := Scalar.addi arg16 c1_i32_38
  let c1_i32_36 : BitVec 32 := 1#32
  let v55 : BitVec 32 := Scalar.addi arg16 c1_i32_36
  let c1_i32_37 : BitVec 32 := 1#32
  let v56 : BitVec 32 := Scalar.maxsi c1_i32_37 v54
  let v57 : BitVec 32 := Scalar.minsi v55 v56
  let v59 : BitVec 32 := Scalar.subi v58 v57
  let c1_i32_39 : BitVec 32 := 1#32
  let v60 : BitVec 32 := Scalar.addi arg16 c1_i32_39
  let v62 : BitVec 32 := Scalar.subi v60 v59
  let c1_i32_41 : BitVec 32 := 1#32
  let v64 : BitVec 32 := Scalar.divsi v62 c1_i32_41
  let v65 : BitVec 32 := Scalar.muli v64 c1_i32_41
  let v66 : BitVec 32 := Scalar.addi v59 v65
  let c1_i32_43 : BitVec 32 := 1#32
  let arg17 : BitVec 32 := Scf.iv v66 c1_i32_43 k0_t4
  let c2_i32 : BitVec 32 := 2#32
  let v74 : BitVec 32 := Scalar.muli arg17 c2_i32
  let v75 : BitVec 32 := Scalar.addi v74 c0_i32_48
  let c256_i32 : BitVec 32 := 256#32
  let v78 : BitVec 32 := Scalar.muli v75 c256_i32
  let v79 : BitVec 32 := v78
  let v240 : Index := Scalar.indexCast v79
  let c0_108 : Index := 0#32
  ![v240.toNat, 0]

def k0_chk1 (k0_t2 : Fin k0_t2_loop.trips) (v54 : BitVec 32) : Prop :=
  ((k0_t3_loop k0_t2 v54).OK) ∧
  (∀ k0_t3 : Fin (k0_t3_loop k0_t2 v54).trips, 256 ∣ (k0_mult3 k0_t2 v54 k0_t3).toNat) ∧
  (∀ k0_t3 : Fin (k0_t3_loop k0_t2 v54).trips, 256 ∣ (k0_mult4 k0_t2 v54 k0_t3).toNat) ∧
  (∀ k0_t3 : Fin (k0_t3_loop k0_t2 v54).trips, ∀ (r : Fin 2), ∀ a, (k0_off9 k0_t2 v54 k0_t3 (BitVec.ofNat 32 r.val)) a + S1x1x256x128.size a ≤ S1x1x2048x128.size a) ∧
  (∀ k0_t3 : Fin (k0_t3_loop k0_t2 v54).trips, ∀ (r : Fin 2), ∀ a, (k0_off10 k0_t2 v54 k0_t3 (BitVec.ofNat 32 r.val)) a + S256x128.size a ≤ S2048x128.size a) ∧
  ((k0_t4_loop k0_t2 v54).OK) ∧
  (∀ k0_t4 : Fin (k0_t4_loop k0_t2 v54).trips, 256 ∣ (k0_mult5 k0_t2 v54 k0_t4).toNat) ∧
  (∀ k0_t4 : Fin (k0_t4_loop k0_t2 v54).trips, 256 ∣ (k0_mult6 k0_t2 v54 k0_t4).toNat) ∧
  (∀ k0_t4 : Fin (k0_t4_loop k0_t2 v54).trips, ∀ (r : Fin 2), ∀ a, (k0_off11 k0_t2 v54 k0_t4 (BitVec.ofNat 32 r.val)) a + S1x1x256x128.size a ≤ S1x1x2048x128.size a) ∧
  (∀ k0_t4 : Fin (k0_t4_loop k0_t2 v54).trips, ∀ (r : Fin 2), ∀ a, (k0_off12 k0_t2 v54 k0_t4 (BitVec.ofNat 32 r.val)) a + S256x128.size a ≤ S2048x128.size a)
theorem k0_t3_ok : ∀ (k0_t2 : Fin k0_t2_loop.trips) (v54 : BitVec 32) (k0_hw1 : k0_chk1 k0_t2 v54), (k0_t3_loop k0_t2 v54).OK := fun k0_t2 v54 k0_hw1 => k0_hw1.1
theorem k0_mult3_dvd : ∀ (k0_t2 : Fin k0_t2_loop.trips) (v54 : BitVec 32) (k0_hw1 : k0_chk1 k0_t2 v54) (k0_t3 : Fin (k0_t3_loop k0_t2 v54).trips), 256 ∣ (k0_mult3 k0_t2 v54 k0_t3).toNat := fun k0_t2 v54 k0_hw1 k0_t3 => k0_hw1.2.1 k0_t3
theorem k0_mult4_dvd : ∀ (k0_t2 : Fin k0_t2_loop.trips) (v54 : BitVec 32) (k0_hw1 : k0_chk1 k0_t2 v54) (k0_t3 : Fin (k0_t3_loop k0_t2 v54).trips), 256 ∣ (k0_mult4 k0_t2 v54 k0_t3).toNat := fun k0_t2 v54 k0_hw1 k0_t3 => k0_hw1.2.2.1 k0_t3
theorem k0_off9_inb : ∀ (k0_t2 : Fin k0_t2_loop.trips) (v54 : BitVec 32) (k0_hw1 : k0_chk1 k0_t2 v54) (k0_t3 : Fin (k0_t3_loop k0_t2 v54).trips), ∀ (r : Fin 2), ∀ a, (k0_off9 k0_t2 v54 k0_t3 (BitVec.ofNat 32 r.val)) a + S1x1x256x128.size a ≤ S1x1x2048x128.size a := fun k0_t2 v54 k0_hw1 k0_t3 r => k0_hw1.2.2.2.1 k0_t3 r
theorem k0_off10_inb : ∀ (k0_t2 : Fin k0_t2_loop.trips) (v54 : BitVec 32) (k0_hw1 : k0_chk1 k0_t2 v54) (k0_t3 : Fin (k0_t3_loop k0_t2 v54).trips), ∀ (r : Fin 2), ∀ a, (k0_off10 k0_t2 v54 k0_t3 (BitVec.ofNat 32 r.val)) a + S256x128.size a ≤ S2048x128.size a := fun k0_t2 v54 k0_hw1 k0_t3 r => k0_hw1.2.2.2.2.1 k0_t3 r
theorem k0_t4_ok : ∀ (k0_t2 : Fin k0_t2_loop.trips) (v54 : BitVec 32) (k0_hw1 : k0_chk1 k0_t2 v54), (k0_t4_loop k0_t2 v54).OK := fun k0_t2 v54 k0_hw1 => k0_hw1.2.2.2.2.2.1
theorem k0_mult5_dvd : ∀ (k0_t2 : Fin k0_t2_loop.trips) (v54 : BitVec 32) (k0_hw1 : k0_chk1 k0_t2 v54) (k0_t4 : Fin (k0_t4_loop k0_t2 v54).trips), 256 ∣ (k0_mult5 k0_t2 v54 k0_t4).toNat := fun k0_t2 v54 k0_hw1 k0_t4 => k0_hw1.2.2.2.2.2.2.1 k0_t4
theorem k0_mult6_dvd : ∀ (k0_t2 : Fin k0_t2_loop.trips) (v54 : BitVec 32) (k0_hw1 : k0_chk1 k0_t2 v54) (k0_t4 : Fin (k0_t4_loop k0_t2 v54).trips), 256 ∣ (k0_mult6 k0_t2 v54 k0_t4).toNat := fun k0_t2 v54 k0_hw1 k0_t4 => k0_hw1.2.2.2.2.2.2.2.1 k0_t4
theorem k0_off11_inb : ∀ (k0_t2 : Fin k0_t2_loop.trips) (v54 : BitVec 32) (k0_hw1 : k0_chk1 k0_t2 v54) (k0_t4 : Fin (k0_t4_loop k0_t2 v54).trips), ∀ (r : Fin 2), ∀ a, (k0_off11 k0_t2 v54 k0_t4 (BitVec.ofNat 32 r.val)) a + S1x1x256x128.size a ≤ S1x1x2048x128.size a := fun k0_t2 v54 k0_hw1 k0_t4 r => k0_hw1.2.2.2.2.2.2.2.2.1 k0_t4 r
theorem k0_off12_inb : ∀ (k0_t2 : Fin k0_t2_loop.trips) (v54 : BitVec 32) (k0_hw1 : k0_chk1 k0_t2 v54) (k0_t4 : Fin (k0_t4_loop k0_t2 v54).trips), ∀ (r : Fin 2), ∀ a, (k0_off12 k0_t2 v54 k0_t4 (BitVec.ofNat 32 r.val)) a + S256x128.size a ≤ S2048x128.size a := fun k0_t2 v54 k0_hw1 k0_t4 r => k0_hw1.2.2.2.2.2.2.2.2.2 k0_t4 r

def k0_off13 (k0_t2 : Fin k0_t2_loop.trips) : Fin 2 → Nat :=
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v72 : Index := Scalar.indexCast v40
  let c0_47 : Index := 0#32
  ![v72.toNat, 0]
def k0_off14 (k0_t2 : Fin k0_t2_loop.trips) : Fin 4 → Nat :=
  let c0_i32_11 : BitVec 32 := 0#32
  let c0_i32_44 : BitVec 32 := 0#32
  let c0_i32_12 : BitVec 32 := 0#32
  let c1_i32_14 : BitVec 32 := 1#32
  let arg16 : BitVec 32 := Scf.iv c0_i32_12 c1_i32_14 k0_t2
  let c512_i32 : BitVec 32 := 512#32
  let v39 : BitVec 32 := Scalar.muli arg16 c512_i32
  let v40 : BitVec 32 := v39
  let v72 : Index := Scalar.indexCast v40
  let c0_i32_46 : BitVec 32 := 0#32
  ![0, 0, v72.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .smem S1x1x1x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_ln_2" => some (((Real.log 2)⁻¹ : ℝ) : EReal)
  | "logit_scale" => some (((Real.log 2)⁻¹ * (Real.sqrt 128)⁻¹ : ℝ) : EReal)
  | "masked" => some ⊥
  | "scale" => some (((Real.sqrt 128)⁻¹ : ℝ) : EReal)
  | _ => none
-- ==== ReferenceIdeal.lean ====
abbrev S8x2x2048x2048 : Shape := ⟨4, ![8, 2, 2048, 2048]⟩
abbrev S2x2x2048x2048 : Shape := ⟨4, ![2, 2, 2048, 2048]⟩
abbrev S1x2048 : Shape := ⟨2, ![1, 2048]⟩
abbrev S1x2x2048x2048 : Shape := ⟨4, ![1, 2, 2048, 2048]⟩
abbrev S2x2048x2048 : Shape := ⟨3, ![2, 2048, 2048]⟩
abbrev S2x1x2048 : Shape := ⟨3, ![2, 1, 2048]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2x16x2048 : Shape := ⟨3, ![2, 16, 2048]⟩
abbrev S2x16x2048x1 : Shape := ⟨4, ![2, 16, 2048, 1]⟩
abbrev S2x2048 : Shape := ⟨2, ![2, 2048]⟩
abbrev S2x16x128x2048 : Shape := ⟨4, ![2, 16, 128, 2048]⟩
abbrev S4x2x2048x2048 : Shape := ⟨4, ![4, 2, 2048, 2048]⟩

abbrev nBuf : Space → Nat
  | .hbm => 255
  | .vmem => 0
  | .smem => 0
  | _ => 0

abbrev hbmTy0_0 (i : Nat) : BufTy := match i % 128 with
  | 0 => ⟨S8x2x2048x2048, .f32⟩
  | 1 => ⟨S2x2x2048x2048, .f32⟩
  | 2 => ⟨S1x2048, .f32⟩
  | 3 => ⟨S1x2x2048x2048, .f32⟩
  | 4 => ⟨S2x2048x2048, .f32⟩
  | 5 => ⟨S1x2x2048x2048, .f32⟩
  | 6 => ⟨S2x2048x2048, .f32⟩
  | 7 => ⟨S1x2x2048x2048, .f32⟩
  | 8 => ⟨S2x2048x2048, .f32⟩
  | 9 => ⟨S1x2x2048x2048, .f32⟩
  | 10 => ⟨S2x2048x2048, .f32⟩
  | 11 => ⟨S2x1x2048, .f32⟩
  | 12 => ⟨S2x2048x16x128, .f32⟩
  | 13 => ⟨S2x16x2048x128, .f32⟩
  | 14 => ⟨S2x2048x16x128, .f32⟩
  | 15 => ⟨S2x16x2048x128, .f32⟩
  | 16 => ⟨S2x16x2048x2048, .f32⟩
  | 17 => ⟨S_, .f32⟩
  | 18 => ⟨S_, .f32⟩
  | 19 => ⟨S2x16x2048x2048, .f32⟩
  | 20 => ⟨S2x16x2048x2048, .f32⟩
  | 21 => ⟨S2048, .i32⟩
  | 22 => ⟨S1x2048, .i32⟩
  | 23 => ⟨S2048, .i32⟩
  | 24 => ⟨S2048x1, .i32⟩
  | 25 => ⟨S2048x2048, .i32⟩
  | 26 => ⟨S2048x2048, .i32⟩
  | 27 => ⟨S2048x2048, .i1⟩
  | 28 => ⟨S2x16x2048x2048, .f32⟩
  | 29 => ⟨S_, .f32⟩
  | 30 => ⟨S2x16x2048x2048, .f32⟩
  | 31 => ⟨S2x16x2048x2048, .f32⟩
  | 32 => ⟨S2x16x2048x2048, .f32⟩
  | 33 => ⟨S2x16x2048x2048, .f32⟩
  | 34 => ⟨S2x16x2048x2048, .i1⟩
  | 35 => ⟨S2x16x2048x2048, .f32⟩
  | 36 => ⟨S2x16x2048x2048, .f32⟩
  | 37 => ⟨S2x16x2048x2048, .f32⟩
  | 38 => ⟨S2x16x2048x2048, .f32⟩
  | 39 => ⟨S2x16x2048x2048, .f32⟩
  | 40 => ⟨S2x16x2048x2048, .f32⟩
  | 41 => ⟨S2x16x2048x2048, .f32⟩
  | 42 => ⟨S2x16x2048x2048, .f32⟩
  | 43 => ⟨S_, .f32⟩
  | 44 => ⟨S2x16x2048x2048, .f32⟩
  | 45 => ⟨S2x16x2048x2048, .i1⟩
  | 46 => ⟨S_, .f32⟩
  | 47 => ⟨S2x16x2048x2048, .f32⟩
  | 48 => ⟨S2x16x2048x2048, .f32⟩
  | 49 => ⟨S_, .f32⟩
  | 50 => ⟨S2x16x2048x2048, .f32⟩
  | 51 => ⟨S2x16x2048x2048, .i1⟩
  | 52 => ⟨S_, .f32⟩
  | 53 => ⟨S2x16x2048x2048, .f32⟩
  | 54 => ⟨S2x16x2048x2048, .f32⟩
  | 55 => ⟨S2x16x2048x2048, .f32⟩
  | 56 => ⟨S2x16x2048x2048, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S2x16x2048x2048, .f32⟩
  | 65 => ⟨S2x16x2048x2048, .i1⟩
  | 66 => ⟨S_, .f32⟩
  | 67 => ⟨S2x16x2048x2048, .f32⟩
  | 68 => ⟨S2x16x2048x2048, .f32⟩
  | 69 => ⟨S2x16x2048x2048, .f32⟩
  | 70 => ⟨S2x16x2048x2048, .f32⟩
  | 71 => ⟨S2x16x2048x2048, .f32⟩
  | 72 => ⟨S_, .f32⟩
  | 73 => ⟨S2x16x2048x2048, .f32⟩
  | 74 => ⟨S2x16x2048x2048, .f32⟩
  | 75 => ⟨S2x16x2048x2048, .f32⟩
  | 76 => ⟨S2x16x2048x2048, .f32⟩
  | 77 => ⟨S2x16x2048x2048, .f32⟩
  | 78 => ⟨S_, .f32⟩
  | 79 => ⟨S2x16x2048x2048, .f32⟩
  | 80 => ⟨S2x16x2048x2048, .f32⟩
  | 81 => ⟨S2x16x2048x2048, .f32⟩
  | 82 => ⟨S2x16x2048x2048, .f32⟩
  | 83 => ⟨S2x16x2048x2048, .i1⟩
  | 84 => ⟨S2x16x2048x2048, .f32⟩
  | 85 => ⟨S2x16x2048x2048, .f32⟩
  | 86 => ⟨S2x16x2048x2048, .f32⟩
  | 87 => ⟨S2x16x2048x2048, .f32⟩
  | 88 => ⟨S2x16x2048x2048, .f32⟩
  | 89 => ⟨S2x16x2048x2048, .f32⟩
  | 90 => ⟨S2x16x2048x2048, .f32⟩
  | 91 => ⟨S2x16x2048x2048, .f32⟩
  | 92 => ⟨S_, .f32⟩
  | 93 => ⟨S2x16x2048x2048, .f32⟩
  | 94 => ⟨S2x16x2048x2048, .i1⟩
  | 95 => ⟨S_, .f32⟩
  | 96 => ⟨S2x16x2048x2048, .f32⟩
  | 97 => ⟨S2x16x2048x2048, .f32⟩
  | 98 => ⟨S_, .f32⟩
  | 99 => ⟨S2x16x2048x2048, .f32⟩
  | 100 => ⟨S2x16x2048x2048, .i1⟩
  | 101 => ⟨S_, .f32⟩
  | 102 => ⟨S2x16x2048x2048, .f32⟩
  | 103 => ⟨S2x16x2048x2048, .f32⟩
  | 104 => ⟨S2x16x2048x2048, .f32⟩
  | 105 => ⟨S2x16x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S2x16x2048x2048, .f32⟩
  | 114 => ⟨S2x16x2048x2048, .i1⟩
  | 115 => ⟨S_, .f32⟩
  | 116 => ⟨S2x16x2048x2048, .f32⟩
  | 117 => ⟨S2x16x2048x2048, .f32⟩
  | 118 => ⟨S2x16x2048x2048, .f32⟩
  | 119 => ⟨S2x16x2048x2048, .f32⟩
  | 120 => ⟨S2x16x2048x2048, .f32⟩
  | 121 => ⟨S_, .f32⟩
  | 122 => ⟨S2x16x2048x2048, .f32⟩
  | 123 => ⟨S2x16x2048x2048, .f32⟩
  | 124 => ⟨S2x16x2048x2048, .f32⟩
  | 125 => ⟨S_, .f32⟩
  | 126 => ⟨S_, .f32⟩
  | 127 => ⟨S2x16x2048x2048, .i1⟩
  | _ => ⟨S8x2x2048x2048, .f32⟩

abbrev hbmTy0_1 (i : Nat) : BufTy := match i % 128 with
  | 0 => ⟨S2x16x2048x2048, .f32⟩
  | 1 => ⟨S2x16x2048x2048, .f32⟩
  | 2 => ⟨S_, .f32⟩
  | 3 => ⟨S2x16x2048x2048, .f32⟩
  | 4 => ⟨S2x2048x16x128, .f32⟩
  | 5 => ⟨S2x16x2048x128, .f32⟩
  | 6 => ⟨S_, .f32⟩
  | 7 => ⟨S_, .f32⟩
  | 8 => ⟨S2x16x2048x2048, .f32⟩
  | 9 => ⟨S2x16x2048x2048, .f32⟩
  | 10 => ⟨S2x16x2048x2048, .f32⟩
  | 11 => ⟨S2x16x2048x2048, .f32⟩
  | 12 => ⟨S_, .f32⟩
  | 13 => ⟨S_, .f32⟩
  | 14 => ⟨S2x16x2048x2048, .i1⟩
  | 15 => ⟨S2x16x2048x2048, .f32⟩
  | 16 => ⟨S2x16x2048x2048, .f32⟩
  | 17 => ⟨S_, .f32⟩
  | 18 => ⟨S2x16x2048x2048, .f32⟩
  | 19 => ⟨S2x16x2048x128, .f32⟩
  | 20 => ⟨S2x16x2048x128, .f32⟩
  | 21 => ⟨S_, .f32⟩
  | 22 => ⟨S2x16x2048, .f32⟩
  | 23 => ⟨S2x16x2048x1, .f32⟩
  | 24 => ⟨S_, .f32⟩
  | 25 => ⟨S2x16x2048x1, .f32⟩
  | 26 => ⟨S2x16x2048x1, .f32⟩
  | 27 => ⟨S_, .f32⟩
  | 28 => ⟨S2x16x2048x1, .f32⟩
  | 29 => ⟨S2x16x2048x1, .f32⟩
  | 30 => ⟨S2x16x2048x1, .f32⟩
  | 31 => ⟨S2x16x2048x1, .f32⟩
  | 32 => ⟨S_, .f32⟩
  | 33 => ⟨S2x16x2048x1, .f32⟩
  | 34 => ⟨S2x16x2048x1, .f32⟩
  | 35 => ⟨S2x16x2048x128, .f32⟩
  | 36 => ⟨S2x16x2048x128, .f32⟩
  | 37 => ⟨S2x2048x16x128, .f32⟩
  | 38 => ⟨S2x2048x2048, .f32⟩
  | 39 => ⟨S2x2048x2048, .f32⟩
  | 40 => ⟨S2x2048x2048, .f32⟩
  | 41 => ⟨S2x2048x2048, .f32⟩
  | 42 => ⟨S2x2048x2048, .f32⟩
  | 43 => ⟨S_, .f32⟩
  | 44 => ⟨S2x2048x2048, .f32⟩
  | 45 => ⟨S2x2048x2048, .f32⟩
  | 46 => ⟨S_, .f32⟩
  | 47 => ⟨S2x2048x2048, .f32⟩
  | 48 => ⟨S2x2048x2048, .f32⟩
  | 49 => ⟨S_, .f32⟩
  | 50 => ⟨S2x2048x2048, .f32⟩
  | 51 => ⟨S2x2048x2048, .f32⟩
  | 52 => ⟨S2x2048x2048, .f32⟩
  | 53 => ⟨S2x2048x2048, .f32⟩
  | 54 => ⟨S2x2048x2048, .f32⟩
  | 55 => ⟨S1x2x2048x2048, .f32⟩
  | 56 => ⟨S2x2048x2048, .f32⟩
  | 57 => ⟨S2x2048x2048, .f32⟩
  | 58 => ⟨S2x2048x2048, .f32⟩
  | 59 => ⟨S2x2048x2048, .f32⟩
  | 60 => ⟨S2x2048x2048, .f32⟩
  | 61 => ⟨S2x2048x2048, .f32⟩
  | 62 => ⟨S2x2048x2048, .f32⟩
  | 63 => ⟨S2x2048x2048, .f32⟩
  | 64 => ⟨S_, .f32⟩
  | 65 => ⟨S2x2048, .f32⟩
  | 66 => ⟨S2x1x2048, .f32⟩
  | 67 => ⟨S2x2048x2048, .f32⟩
  | 68 => ⟨S2x2048x2048, .f32⟩
  | 69 => ⟨S2x2048x16x128, .f32⟩
  | 70 => ⟨S2x16x2048x128, .f32⟩
  | 71 => ⟨S2x16x2048x128, .f32⟩
  | 72 => ⟨S_, .f32⟩
  | 73 => ⟨S2x16x2048, .f32⟩
  | 74 => ⟨S2x16x2048x1, .f32⟩
  | 75 => ⟨S2x16x2048x128, .f32⟩
  | 76 => ⟨S2x16x2048x128, .f32⟩
  | 77 => ⟨S2x16x2048x1, .f32⟩
  | 78 => ⟨S_, .f32⟩
  | 79 => ⟨S2x16x2048x1, .f32⟩
  | 80 => ⟨S2x16x2048x1, .f32⟩
  | 81 => ⟨S_, .f32⟩
  | 82 => ⟨S2x16x2048, .f32⟩
  | 83 => ⟨S2x16x2048x128, .f32⟩
  | 84 => ⟨S2x16x2048x128, .f32⟩
  | 85 => ⟨S2x16x2048x128, .f32⟩
  | 86 => ⟨S2x16x2048x128, .f32⟩
  | 87 => ⟨S2x16x2048x128, .f32⟩
  | 88 => ⟨S2x16x128x2048, .f32⟩
  | 89 => ⟨S2x16x2048x128, .f32⟩
  | 90 => ⟨S2x16x2048x2048, .f32⟩
  | 91 => ⟨S_, .f32⟩
  | 92 => ⟨S2x16x2048x2048, .f32⟩
  | 93 => ⟨S2x16x2048x2048, .f32⟩
  | 94 => ⟨S2x16x2048x2048, .f32⟩
  | 95 => ⟨S2x16x2048x2048, .f32⟩
  | 96 => ⟨S_, .f32⟩
  | 97 => ⟨S_, .f32⟩
  | 98 => ⟨S2x16x2048x2048, .f32⟩
  | 99 => ⟨S2x16x2048x2048, .f32⟩
  | 100 => ⟨S2x2048x16x128, .f32⟩
  | 101 => ⟨S2x2048x2048, .f32⟩
  | 102 => ⟨S_, .f32⟩
  | 103 => ⟨S2x16x2048x2048, .f32⟩
  | 104 => ⟨S2x16x2048x2048, .f32⟩
  | 105 => ⟨S2x16x2048x2048, .f32⟩
  | 106 => ⟨S2x16x2048x2048, .f32⟩
  | 107 => ⟨S2x16x2048x2048, .f32⟩
  | 108 => ⟨S2x16x2048x2048, .f32⟩
  | 109 => ⟨S2x16x2048x2048, .f32⟩
  | 110 => ⟨S2x16x2048x2048, .f32⟩
  | 111 => ⟨S2x16x2048x2048, .f32⟩
  | 112 => ⟨S2x16x2048x2048, .f32⟩
  | 113 => ⟨S2x16x2048x2048, .f32⟩
  | 114 => ⟨S2x16x2048x2048, .f32⟩
  | 115 => ⟨S2x16x2048x128, .f32⟩
  | 116 => ⟨S2x16x2048x128, .f32⟩
  | 117 => ⟨S2x2048x16x128, .f32⟩
  | 118 => ⟨S2x2048x2048, .f32⟩
  | 119 => ⟨S2x2048x16x128, .f32⟩
  | 120 => ⟨S2x2048x2048, .f32⟩
  | 121 => ⟨S1x2x2048x2048, .f32⟩
  | 122 => ⟨S1x2x2048x2048, .f32⟩
  | 123 => ⟨S1x2x2048x2048, .f32⟩
  | 124 => ⟨S1x2x2048x2048, .f32⟩
  | 125 => ⟨S4x2x2048x2048, .f32⟩
  | 126 => ⟨S4x2x2048x2048, .bf16⟩
  | _ => ⟨S8x2x2048x2048, .f32⟩

abbrev hbmTy (i : Nat) : BufTy := match i / 128 with
  | 0 => hbmTy0_0 i
  | 1 => hbmTy0_1 i
  | _ => ⟨S8x2x2048x2048, .f32⟩

abbrev bufTy : (tb : Table) → Fin (tcTables nBuf tb) → BufTy
  | .hbm, ⟨i, _⟩ => hbmTy i
  | _, _ => ⟨S8x2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1_0 : Ref sig .tc := ⟨.hbm, 42, rfl⟩
abbrev main_call0_call0_cst_0 : Ref sig .tc := ⟨.hbm, 43, rfl⟩
abbrev main_call0_call0_v13 : Ref sig .tc := ⟨.hbm, 44, rfl⟩
abbrev main_call0_call0_v14 : Ref sig .tc := ⟨.hbm, 45, rfl⟩
abbrev main_call0_call0_cst_1 : Ref sig .tc := ⟨.hbm, 46, rfl⟩
abbrev main_call0_call0_v15 : Ref sig .tc := ⟨.hbm, 47, rfl⟩
abbrev main_call0_call0_v16 : Ref sig .tc := ⟨.hbm, 48, rfl⟩
abbrev main_call0_call0_cst_2 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_cst_3 : Ref sig .tc := ⟨.hbm, 52, rfl⟩
abbrev main_call0_call0_v19 : Ref sig .tc := ⟨.hbm, 53, rfl⟩
abbrev main_call0_call0_v20 : Ref sig .tc := ⟨.hbm, 54, rfl⟩
abbrev main_call0_call0_v21 : Ref sig .tc := ⟨.hbm, 55, rfl⟩
abbrev main_v24_1 : Ref sig .tc := ⟨.hbm, 56, rfl⟩
abbrev main_call0_call0_cst_4 : Ref sig .tc := ⟨.hbm, 57, rfl⟩
abbrev main_call0_call0_cst_5 : Ref sig .tc := ⟨.hbm, 58, rfl⟩
abbrev main_call0_call0_v23 : Ref sig .tc := ⟨.hbm, 59, rfl⟩
abbrev main_call0_call0_cst_6 : Ref sig .tc := ⟨.hbm, 60, rfl⟩
abbrev main_call0_call0_cst_7 : Ref sig .tc := ⟨.hbm, 61, rfl⟩
abbrev main_call0_call0_v24 : Ref sig .tc := ⟨.hbm, 62, rfl⟩
abbrev main_call0_call0_cst_8 : Ref sig .tc := ⟨.hbm, 63, rfl⟩
abbrev main_call0_call0_v25 : Ref sig .tc := ⟨.hbm, 64, rfl⟩
abbrev main_call0_call0_v26 : Ref sig .tc := ⟨.hbm, 65, rfl⟩
abbrev main_call0_call0_cst_9 : Ref sig .tc := ⟨.hbm, 66, rfl⟩
abbrev main_call0_call0_v27 : Ref sig .tc := ⟨.hbm, 67, rfl⟩
abbrev main_call0_call0_v28 : Ref sig .tc := ⟨.hbm, 68, rfl⟩
abbrev main_call0_call0_v29 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_cst_10 : Ref sig .tc := ⟨.hbm, 72, rfl⟩
abbrev main_call0_call0_v32 : Ref sig .tc := ⟨.hbm, 73, rfl⟩
abbrev main_v24_2 : Ref sig .tc := ⟨.hbm, 74, rfl⟩
abbrev main_v24_0 : Ref sig .tc := ⟨.hbm, 75, rfl⟩
abbrev main_v25 : Ref sig .tc := ⟨.hbm, 76, rfl⟩
abbrev main_call1_v0 : Ref sig .tc := ⟨.hbm, 77, rfl⟩
abbrev main_call1_call0_cst : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_call0_v2 : Ref sig .tc := ⟨.hbm, 81, rfl⟩
abbrev main_call1_call0_v3 : Ref sig .tc := ⟨.hbm, 82, rfl⟩
abbrev main_call1_call0_v4 : Ref sig .tc := ⟨.hbm, 83, rfl⟩
abbrev main_call1_call0_v5 : Ref sig .tc := ⟨.hbm, 84, rfl⟩
abbrev main_call1_call0_v6 : Ref sig .tc := ⟨.hbm, 85, rfl⟩
abbrev main_call1_call0_v7 : Ref sig .tc := ⟨.hbm, 86, rfl⟩
abbrev main_call1_call0_v8 : Ref sig .tc := ⟨.hbm, 87, rfl⟩
abbrev main_call1_call0_v9 : Ref sig .tc := ⟨.hbm, 88, rfl⟩
abbrev main_call1_call0_v10 : Ref sig .tc := ⟨.hbm, 89, rfl⟩
abbrev main_call1_call0_v11 : Ref sig .tc := ⟨.hbm, 90, rfl⟩
abbrev main_call1_v1_0 : Ref sig .tc := ⟨.hbm, 91, rfl⟩
abbrev main_call1_call0_cst_0 : Ref sig .tc := ⟨.hbm, 92, rfl⟩
abbrev main_call1_call0_v13 : Ref sig .tc := ⟨.hbm, 93, rfl⟩
abbrev main_call1_call0_v14 : Ref sig .tc := ⟨.hbm, 94, rfl⟩
abbrev main_call1_call0_cst_1 : Ref sig .tc := ⟨.hbm, 95, rfl⟩
abbrev main_call1_call0_v15 : Ref sig .tc := ⟨.hbm, 96, rfl⟩
abbrev main_call1_call0_v16 : Ref sig .tc := ⟨.hbm, 97, rfl⟩
abbrev main_call1_call0_cst_2 : Ref sig .tc := ⟨.hbm, 98, rfl⟩
abbrev main_call1_call0_v17 : Ref sig .tc := ⟨.hbm, 99, rfl⟩
abbrev main_call1_call0_v18 : Ref sig .tc := ⟨.hbm, 100, rfl⟩
abbrev main_call1_call0_cst_3 : Ref sig .tc := ⟨.hbm, 101, rfl⟩
abbrev main_call1_call0_v19 : Ref sig .tc := ⟨.hbm, 102, rfl⟩
abbrev main_call1_call0_v20 : Ref sig .tc := ⟨.hbm, 103, rfl⟩
abbrev main_call1_call0_v21 : Ref sig .tc := ⟨.hbm, 104, rfl⟩
abbrev main_v26_1 : Ref sig .tc := ⟨.hbm, 105, rfl⟩
abbrev main_call1_call0_cst_4 : Ref sig .tc := ⟨.hbm, 106, rfl⟩
abbrev main_call1_call0_cst_5 : Ref sig .tc := ⟨.hbm, 107, rfl⟩
abbrev main_call1_call0_v23 : Ref sig .tc := ⟨.hbm, 108, rfl⟩
abbrev main_call1_call0_cst_6 : Ref sig .tc := ⟨.hbm, 109, rfl⟩
abbrev main_call1_call0_cst_7 : Ref sig .tc := ⟨.hbm, 110, rfl⟩
abbrev main_call1_call0_v24 : Ref sig .tc := ⟨.hbm, 111, rfl⟩
abbrev main_call1_call0_cst_8 : Ref sig .tc := ⟨.hbm, 112, rfl⟩
abbrev main_call1_call0_v25 : Ref sig .tc := ⟨.hbm, 113, rfl⟩
abbrev main_call1_call0_v26 : Ref sig .tc := ⟨.hbm, 114, rfl⟩
abbrev main_call1_call0_cst_9 : Ref sig .tc := ⟨.hbm, 115, rfl⟩
abbrev main_call1_call0_v27 : Ref sig .tc := ⟨.hbm, 116, rfl⟩
abbrev main_call1_call0_v28 : Ref sig .tc := ⟨.hbm, 117, rfl⟩
abbrev main_call1_call0_v29 : Ref sig .tc := ⟨.hbm, 118, rfl⟩
abbrev main_call1_call0_v30 : Ref sig .tc := ⟨.hbm, 119, rfl⟩
abbrev main_call1_call0_v31 : Ref sig .tc := ⟨.hbm, 120, rfl⟩
abbrev main_call1_call0_cst_10 : Ref sig .tc := ⟨.hbm, 121, rfl⟩
abbrev main_call1_call0_v32 : Ref sig .tc := ⟨.hbm, 122, rfl⟩
abbrev main_v26_2 : Ref sig .tc := ⟨.hbm, 123, rfl⟩
abbrev main_v26_0 : Ref sig .tc := ⟨.hbm, 124, rfl⟩
abbrev main_cst_0 : Ref sig .tc := ⟨.hbm, 125, rfl⟩
abbrev main_call2_v0 : Ref sig .tc := ⟨.hbm, 126, rfl⟩
abbrev main_v27_1 : Ref sig .tc := ⟨.hbm, 127, rfl⟩
abbrev main_call2_v2 : Ref sig .tc := ⟨.hbm, 128, rfl⟩
abbrev main_v27_0 : Ref sig .tc := ⟨.hbm, 129, rfl⟩
abbrev main_call2_cst : Ref sig .tc := ⟨.hbm, 130, rfl⟩
abbrev main_v27_2 : Ref sig .tc := ⟨.hbm, 131, rfl⟩
abbrev main_v28 : Ref sig .tc := ⟨.hbm, 132, rfl⟩
abbrev main_v29 : Ref sig .tc := ⟨.hbm, 133, rfl⟩
abbrev main_call3_cst : Ref sig .tc := ⟨.hbm, 134, rfl⟩
abbrev main_call3_v0 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_cst_1 : Ref sig .tc := ⟨.hbm, 140, rfl⟩
abbrev main_call4_v0 : Ref sig .tc := ⟨.hbm, 141, rfl⟩
abbrev main_v34_1 : Ref sig .tc := ⟨.hbm, 142, rfl⟩
abbrev main_call4_v2 : Ref sig .tc := ⟨.hbm, 143, rfl⟩
abbrev main_v34_0 : Ref sig .tc := ⟨.hbm, 144, rfl⟩
abbrev main_call4_cst : Ref sig .tc := ⟨.hbm, 145, rfl⟩
abbrev main_v34_2 : Ref sig .tc := ⟨.hbm, 146, rfl⟩
abbrev main_v35 : Ref sig .tc := ⟨.hbm, 147, rfl⟩
abbrev main_v36 : Ref sig .tc := ⟨.hbm, 148, rfl⟩
abbrev main_cst_2 : Ref sig .tc := ⟨.hbm, 149, rfl⟩
abbrev main_v37 : Ref sig .tc := ⟨.hbm, 150, rfl⟩
abbrev main_v38 : Ref sig .tc := ⟨.hbm, 151, rfl⟩
abbrev main_cst_3 : Ref sig .tc := ⟨.hbm, 152, rfl⟩
abbrev main_v39 : Ref sig .tc := ⟨.hbm, 153, rfl⟩
abbrev main_v40 : Ref sig .tc := ⟨.hbm, 154, rfl⟩
abbrev main_cst_4 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_cst_5 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_v53_2 : Ref sig .tc := ⟨.hbm, 176, rfl⟩
abbrev main_call5_cst_1 : Ref sig .tc := ⟨.hbm, 177, rfl⟩
abbrev main_call5_v6 : Ref sig .tc := ⟨.hbm, 178, rfl⟩
abbrev main_call5_v7 : Ref sig .tc := ⟨.hbm, 179, rfl⟩
abbrev main_v53_1 : Ref sig .tc := ⟨.hbm, 180, rfl⟩
abbrev main_v53_0 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_call6_v0 : Ref sig .tc := ⟨.hbm, 187, rfl⟩
abbrev main_call6_v1 : Ref sig .tc := ⟨.hbm, 188, rfl⟩
abbrev main_call6_v2 : Ref sig .tc := ⟨.hbm, 189, rfl⟩
abbrev main_v59 : Ref sig .tc := ⟨.hbm, 190, rfl⟩
abbrev main_v60 : Ref sig .tc := ⟨.hbm, 191, rfl⟩
abbrev main_cst_6 : Ref sig .tc := ⟨.hbm, 192, rfl⟩
abbrev main_v61 : Ref sig .tc := ⟨.hbm, 193, rfl⟩
abbrev main_v62 : Ref sig .tc := ⟨.hbm, 194, rfl⟩
abbrev main_v63 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_cst_7 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_cst_8 : Ref sig .tc := ⟨.hbm, 206, rfl⟩
abbrev main_v73 : Ref sig .tc := ⟨.hbm, 207, rfl⟩
abbrev main_v74 : Ref sig .tc := ⟨.hbm, 208, rfl⟩
abbrev main_cst_9 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_call7_cst : Ref sig .tc := ⟨.hbm, 219, rfl⟩
abbrev main_call7_v0 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_call8_cst : Ref sig .tc := ⟨.hbm, 224, rfl⟩
abbrev main_call8_v0 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_call9_cst : Ref sig .tc := ⟨.hbm, 230, rfl⟩
abbrev main_call9_v0 : Ref sig .tc := ⟨.hbm, 231, rfl⟩
abbrev main_v91 : Ref sig .tc := ⟨.hbm, 232, rfl⟩
abbrev main_call10_v0 : Ref sig .tc := ⟨.hbm, 233, rfl⟩
abbrev main_call10_v1 : Ref sig .tc := ⟨.hbm, 234, rfl⟩
abbrev main_v92 : Ref sig .tc := ⟨.hbm, 235, rfl⟩
abbrev main_v93 : Ref sig .tc := ⟨.hbm, 236, rfl⟩
abbrev main_call11_v0 : Ref sig .tc := ⟨.hbm, 237, rfl⟩
abbrev main_call11_v1 : Ref sig .tc := ⟨.hbm, 238, rfl⟩
abbrev main_v94 : Ref sig .tc := ⟨.hbm, 239, rfl⟩
abbrev main_v95 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_v101 : Ref sig .tc := ⟨.hbm, 246, rfl⟩
abbrev main_v102 : Ref sig .tc := ⟨.hbm, 247, rfl⟩
abbrev main_v103 : Ref sig .tc := ⟨.hbm, 248, rfl⟩
abbrev main_v104 : Ref sig .tc := ⟨.hbm, 249, rfl⟩
abbrev main_v105 : Ref sig .tc := ⟨.hbm, 250, rfl⟩
abbrev main_v106 : Ref sig .tc := ⟨.hbm, 251, rfl⟩
abbrev main_v107 : Ref sig .tc := ⟨.hbm, 252, rfl⟩
abbrev main_v108 : Ref sig .tc := ⟨.hbm, 253, rfl⟩
abbrev main_v109 : Ref sig .tc := ⟨.hbm, 254, rfl⟩

abbrev nD : Nat := 1
abbrev τ : Topo := Topo.v7x

variable {F : FTy → Type} [FloatOps F]
-- ==== KernelW.lean ====
abbrev S4096x4096 : Shape := ⟨2, ![4096, 4096]⟩
abbrev S8x4096x2048 : Shape := ⟨3, ![8, 4096, 2048]⟩
abbrev S4x4096x4096 : Shape := ⟨3, ![4, 4096, 4096]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4x4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWIdeal.lean ====
abbrev S4096x4096 : Shape := ⟨2, ![4096, 4096]⟩
abbrev S8x4096x2048 : Shape := ⟨3, ![8, 4096, 2048]⟩
abbrev S_ : Shape := ⟨0, ![]⟩
abbrev S4096x16384 : Shape := ⟨2, ![4096, 16384]⟩
abbrev S4096x8x2048 : Shape := ⟨3, ![4096, 8, 2048]⟩
abbrev S16384x4096 : Shape := ⟨2, ![16384, 4096]⟩
abbrev S4096x4x4096 : Shape := ⟨3, ![4096, 4, 4096]⟩
abbrev S4x4096x4096 : Shape := ⟨3, ![4, 4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S_, .f32⟩
  | .hbm, ⟨3, _⟩ => ⟨S4096x16384, .f32⟩
  | .hbm, ⟨4, _⟩ => ⟨S4096x4096, .f32⟩
  | .hbm, ⟨5, _⟩ => ⟨S4096x16384, .f32⟩
  | .hbm, ⟨6, _⟩ => ⟨S4096x8x2048, .f32⟩
  | .hbm, ⟨7, _⟩ => ⟨S8x4096x2048, .f32⟩
  | .hbm, ⟨8, _⟩ => ⟨S8x4096x2048, .f32⟩
  | .hbm, ⟨9, _⟩ => ⟨S4096x8x2048, .f32⟩
  | .hbm, ⟨10, _⟩ => ⟨S4096x16384, .f32⟩
  | .hbm, ⟨11, _⟩ => ⟨S16384x4096, .f32⟩
  | .hbm, ⟨12, _⟩ => ⟨S4096x16384, .f32⟩
  | .hbm, ⟨13, _⟩ => ⟨S4096x4x4096, .f32⟩
  | .hbm, ⟨14, _⟩ => ⟨S4x4096x4096, .f32⟩
  | .hbm, ⟨15, _⟩ => ⟨S4x4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelX.lean ====
abbrev S8x4096x2048 : Shape := ⟨3, ![8, 4096, 2048]⟩
abbrev S4x4096x4096 : Shape := ⟨3, ![4, 4096, 4096]⟩
abbrev S4096x4096 : Shape := ⟨2, ![4096, 4096]⟩
abbrev S2x1024x2048 : Shape := ⟨3, ![2, 1024, 2048]⟩
abbrev S1x1024x4096 : Shape := ⟨3, ![1, 1024, 4096]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x2048, .bf16⟩
  | .hbm, ⟨1, _⟩ => ⟨S4x4096x4096, .bf16⟩
  | .hbm, ⟨2, _⟩ => ⟨S4096x4096, .f32⟩
  | .local _ .vmem, ⟨0, _⟩ => ⟨S2x1024x2048, .bf16⟩
  | .local _ .vmem, ⟨1, _⟩ => ⟨S2x1024x2048, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXIdeal.lean ====
abbrev S8x4096x2048 : Shape := ⟨3, ![8, 4096, 2048]⟩
abbrev S4x4096x4096 : Shape := ⟨3, ![4, 4096, 4096]⟩
abbrev S4096x4x4096 : Shape := ⟨3, ![4096, 4, 4096]⟩
abbrev S4096x16384 : Shape := ⟨2, ![4096, 16384]⟩
abbrev S_ : Shape := ⟨0, ![]⟩
abbrev S4096x4096 : Shape := ⟨2, ![4096, 4096]⟩
abbrev S4096x8x2048 : Shape := ⟨3, ![4096, 8, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S4x4096x4096, .bf16⟩
  | .hbm, ⟨2, _⟩ => ⟨S4096x4x4096, .bf16⟩
  | .hbm, ⟨3, _⟩ => ⟨S4096x16384, .bf16⟩
  | .hbm, ⟨4, _⟩ => ⟨S4096x16384, .f32⟩
  | .hbm, ⟨5, _⟩ => ⟨S_, .f32⟩
  | .hbm, ⟨6, _⟩ => ⟨S4096x4096, .f32⟩
  | .hbm, ⟨7, _⟩ => ⟨S4096x16384, .f32⟩
  | .hbm, ⟨8, _⟩ => ⟨S4096x8x2048, .f32⟩
  | .hbm, ⟨9, _⟩ => ⟨S8x4096x2048, .f32⟩
  | .hbm, ⟨10, _⟩ => ⟨S8x4096x2048, .f32⟩
  | .hbm, ⟨11, _⟩ => ⟨S4096x8x2048, .f32⟩
  | .hbm, ⟨12, _⟩ => ⟨S4096x16384, .f32⟩
  | .hbm, ⟨13, _⟩ => ⟨S4096x4096, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelOY.lean ====
abbrev S4096x4096 : Shape := ⟨2, ![4096, 4096]⟩
abbrev S2x4096x2048 : Shape := ⟨3, ![2, 4096, 2048]⟩
abbrev S1024x4096 : Shape := ⟨2, ![1024, 4096]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S2x4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024x1024, .f32⟩
  | .local _ .vmem, ⟨5, _⟩ => ⟨S1x1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOYIdeal.lean ====
abbrev S4096x4096 : Shape := ⟨2, ![4096, 4096]⟩
abbrev S_ : Shape := ⟨0, ![]⟩
abbrev S4096x2048 : Shape := ⟨2, ![4096, 2048]⟩
abbrev S1x4096x2048 : Shape := ⟨3, ![1, 4096, 2048]⟩
abbrev S2x4096x2048 : Shape := ⟨3, ![2, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S2x4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelOW.lean ====
abbrev S2x4096x2048 : Shape := ⟨3, ![2, 4096, 2048]⟩
abbrev S4096x4096 : Shape := ⟨2, ![4096, 4096]⟩
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2048, .bf16⟩
  | .hbm, ⟨1, _⟩ => ⟨S4096x4096, .bf16⟩
  | .hbm, ⟨2, _⟩ => ⟨S4096x4096, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOWIdeal.lean ====
abbrev S2x4096x2048 : Shape := ⟨3, ![2, 4096, 2048]⟩
abbrev S4096x4096 : Shape := ⟨2, ![4096, 4096]⟩
abbrev S1x4096x2048 : Shape := ⟨3, ![1, 4096, 2048]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S4096x4096, .bf16⟩
  | .hbm, ⟨2, _⟩ => ⟨S1x4096x2048, .bf16⟩
  | .hbm, ⟨3, _⟩ => ⟨S4096x2048, .bf16⟩
  | .hbm, ⟨4, _⟩ => ⟨S4096x2048, .f32⟩
  | .hbm, ⟨5, _⟩ => ⟨S1x4096x2048, .bf16⟩
  | .hbm, ⟨6, _⟩ => ⟨S4096x2048, .bf16⟩
  | .hbm, ⟨7, _⟩ => ⟨S4096x2048, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelOF.lean ====
abbrev S2x4096x2048 : Shape := ⟨3, ![2, 4096, 2048]⟩
abbrev S4096x4096 : Shape := ⟨2, ![4096, 4096]⟩
abbrev S1x1024x2048 : Shape := ⟨3, ![1, 1024, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S4096x4096, .bf16⟩
  | .hbm, ⟨2, _⟩ => ⟨S4096x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOFIdeal.lean ====
abbrev S2x4096x2048 : Shape := ⟨3, ![2, 4096, 2048]⟩
abbrev S4096x4096 : Shape := ⟨2, ![4096, 4096]⟩
abbrev S1x4096x2048 : Shape := ⟨3, ![1, 4096, 2048]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S4096x4096, .bf16⟩
  | .hbm, ⟨2, _⟩ => ⟨S1x4096x2048, .bf16⟩
  | .hbm, ⟨3, _⟩ => ⟨S4096x2048, .bf16⟩
  | .hbm, ⟨4, _⟩ => ⟨S4096x2048, .f32⟩
  | .hbm, ⟨5, _⟩ => ⟨S1x4096x2048, .bf16⟩
  | .hbm, ⟨6, _⟩ => ⟨S4096x2048, .bf16⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S4096x4096, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== KernelUI.lean ====
abbrev S4096x4096 : Shape := ⟨2, ![4096, 4096]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUIIdeal.lean ====
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelUO.lean ====
abbrev S1024x4096 : Shape := ⟨2, ![1024, 4096]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUOIdeal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelS.lean ====
abbrev S8x8x12288 : Shape := ⟨3, ![8, 8, 12288]⟩
abbrev S2x12288 : Shape := ⟨2, ![2, 12288]⟩
abbrev S1x128 : Shape := ⟨2, ![1, 128]⟩
abbrev S1x1x12288 : Shape := ⟨3, ![1, 1, 12288]⟩
abbrev S1x12288 : Shape := ⟨2, ![1, 12288]⟩
abbrev S1x1x128 : Shape := ⟨3, ![1, 1, 128]⟩

abbrev nBuf : Space → Nat
  | .hbm => 9
  | .vmem => 9
  | .smem => 0
  | _ => 0

abbrev bufTy : (tb : Table) → Fin (tcTables nBuf tb) → BufTy
  | .hbm, ⟨0, _⟩ => ⟨S8x8x12288, .f32⟩
  | .hbm, ⟨1, _⟩ => ⟨S2x12288, .f32⟩
  | .hbm, ⟨2, _⟩ => ⟨S2x12288, .f32⟩
  | .hbm, ⟨3, _⟩ => ⟨S2x12288, .f32⟩
  | .hbm, ⟨4, _⟩ => ⟨S2x12288, .f32⟩
  | .hbm, ⟨5, _⟩ => ⟨S2x12288, .f32⟩
  | .hbm, ⟨6, _⟩ => ⟨S2x12288, .f32⟩
  | .hbm, ⟨7, _⟩ => ⟨S2x12288, .f32⟩
  | .hbm, ⟨8, _⟩ => ⟨S1x128, .f32⟩
  | .local _ .vmem, ⟨0, _⟩ => ⟨S8x8x12288, .f32⟩
  | .local _ .vmem, ⟨1, _⟩ => ⟨S2x12288, .f32⟩
  | .local _ .vmem, ⟨2, _⟩ => ⟨S2x12288, .f32⟩
  | .local _ .vmem, ⟨3, _⟩ => ⟨S2x12288, .f32⟩
  | .local _ .vmem, ⟨4, _⟩ => ⟨S2x12288, .f32⟩
  | .local _ .vmem, ⟨5, _⟩ => ⟨S2x12288, .f32⟩
  | .local _ .vmem, ⟨6, _⟩ => ⟨S2x12288, .f32⟩
  | .local _ .vmem, ⟨7, _⟩ => ⟨S2x12288, .f32⟩
  | .local _ .vmem, ⟨8, _⟩ => ⟨S1x128, .f32⟩
  | _, _ => ⟨S8x8x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x8x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceSIdeal.lean ====
abbrev S8x8x12288 : Shape := ⟨3, ![8, 8, 12288]⟩
abbrev S2x12288 : Shape := ⟨2, ![2, 12288]⟩
abbrev S8x2x12288 : Shape := ⟨3, ![8, 2, 12288]⟩
abbrev S_ : Shape := ⟨0, ![]⟩
abbrev S12288 : Shape := ⟨1, ![12288]⟩
abbrev S1x12288 : Shape := ⟨2, ![1, 12288]⟩
abbrev S8x1x128 : Shape := ⟨3, ![8, 1, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S8x8x12288, .f32⟩
  | .hbm, ⟨1, _⟩ => ⟨S2x12288, .f32⟩
  | .hbm, ⟨2, _⟩ => ⟨S2x12288, .f32⟩
  | .hbm, ⟨3, _⟩ => ⟨S2x12288, .f32⟩
  | .hbm, ⟨4, _⟩ => ⟨S8x2x12288, .f32⟩
  | .hbm, ⟨5, _⟩ => ⟨S_, .f32⟩
  | .hbm, ⟨6, _⟩ => ⟨S2x12288, .f32⟩
  | .hbm, ⟨7, _⟩ => ⟨S_, .f32⟩
  | .hbm, ⟨8, _⟩ => ⟨S12288, .f32⟩
  | .hbm, ⟨9, _⟩ => ⟨S8x2x12288, .f32⟩
  | .hbm, ⟨10, _⟩ => ⟨S_, .f32⟩
  | .hbm, ⟨11, _⟩ => ⟨S2x12288, .f32⟩
  | .hbm, ⟨12, _⟩ => ⟨S_, .f32⟩
  | .hbm, ⟨13, _⟩ => ⟨S12288, .f32⟩
  | .hbm, ⟨14, _⟩ => ⟨S1x12288, .f32⟩
  | .hbm, ⟨15, _⟩ => ⟨S1x12288, .f32⟩
  | .hbm, ⟨16, _⟩ => ⟨S2x12288, .f32⟩
  | .hbm, ⟨17, _⟩ => ⟨S_, .f32⟩
  | .hbm, ⟨18, _⟩ => ⟨S2x12288, .f32⟩
  | .hbm, ⟨19, _⟩ => ⟨S2x12288, .f32⟩
  | .hbm, ⟨20, _⟩ => ⟨S_, .f32⟩
  | .hbm, ⟨21, _⟩ => ⟨S2x12288, .f32⟩
  | .hbm, ⟨22, _⟩ => ⟨S2x12288, .f32⟩
  | .hbm, ⟨23, _⟩ => ⟨S2x12288, .f32⟩
  | .hbm, ⟨24, _⟩ => ⟨S_, .f32⟩
  | .hbm, ⟨25, _⟩ => ⟨S2x12288, .f32⟩
  | .hbm, ⟨26, _⟩ => ⟨S2x12288, .f32⟩
  | .hbm, ⟨27, _⟩ => ⟨S2x12288, .f32⟩
  | .hbm, ⟨28, _⟩ => ⟨S_, .f32⟩
  | .hbm, ⟨29, _⟩ => ⟨S2x12288, .f32⟩
  | .hbm, ⟨30, _⟩ => ⟨S2x12288, .f32⟩
  | .hbm, ⟨31, _⟩ => ⟨S2x12288, .f32⟩
  | .hbm, ⟨32, _⟩ => ⟨S_, .f32⟩
  | .hbm, ⟨33, _⟩ => ⟨S2x12288, .f32⟩
  | .hbm, ⟨34, _⟩ => ⟨S2x12288, .f32⟩
  | .hbm, ⟨35, _⟩ => ⟨S_, .f32⟩
  | .hbm, ⟨36, _⟩ => ⟨S2x12288, .f32⟩
  | .hbm, ⟨37, _⟩ => ⟨S2x12288, .f32⟩
  | .hbm, ⟨38, _⟩ => ⟨S2x12288, .f32⟩
  | .hbm, ⟨39, _⟩ => ⟨S_, .f32⟩
  | .hbm, ⟨40, _⟩ => ⟨S2x12288, .f32⟩
  | .hbm, ⟨41, _⟩ => ⟨S2x12288, .f32⟩
  | .hbm, ⟨42, _⟩ => ⟨S2x12288, .f32⟩
  | .hbm, ⟨43, _⟩ => ⟨S_, .f32⟩
  | .hbm, ⟨44, _⟩ => ⟨S2x12288, .f32⟩
  | .hbm, ⟨45, _⟩ => ⟨S2x12288, .f32⟩
  | .hbm, ⟨46, _⟩ => ⟨S2x12288, .f32⟩
  | .hbm, ⟨47, _⟩ => ⟨S_, .f32⟩
  | .hbm, ⟨48, _⟩ => ⟨S2x12288, .f32⟩
  | .hbm, ⟨49, _⟩ => ⟨S2x12288, .f32⟩
  | .hbm, ⟨50, _⟩ => ⟨S8x1x128, .f32⟩
  | .hbm, ⟨51, _⟩ => ⟨S_, .f32⟩
  | .hbm, ⟨52, _⟩ => ⟨S1x128, .f32⟩
  | _, _ => ⟨S8x8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== KernelA.lean ====
abbrev S4096x16 : Shape := ⟨2, ![4096, 16]⟩
abbrev S16x3072 : Shape := ⟨2, ![16, 3072]⟩
abbrev S4096x3072 : Shape := ⟨2, ![4096, 3072]⟩
abbrev S512x16 : Shape := ⟨2, ![512, 16]⟩
abbrev S16x1024 : Shape := ⟨2, ![16, 1024]⟩
abbrev S512x1024 : Shape := ⟨2, ![512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x16, .f32⟩
  | .hbm, ⟨1, _⟩ => ⟨S16x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .local _ .vmem, ⟨0, _⟩ => ⟨S512x16, .f32⟩
  | .local _ .vmem, ⟨1, _⟩ => ⟨S512x16, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAIdeal.lean ====
abbrev S4096x16 : Shape := ⟨2, ![4096, 16]⟩
abbrev S16x3072 : Shape := ⟨2, ![16, 3072]⟩
abbrev S4096x3072 : Shape := ⟨2, ![4096, 3072]⟩
abbrev S16x4096 : Shape := ⟨2, ![16, 4096]⟩
abbrev S_ : Shape := ⟨0, ![]⟩
abbrev S3072x4096 : Shape := ⟨2, ![3072, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S16x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S_, .f32⟩
  | .hbm, ⟨12, _⟩ => ⟨S16x4096, .f32⟩
  | .hbm, ⟨13, _⟩ => ⟨S16x4096, .f32⟩
  | .hbm, ⟨14, _⟩ => ⟨S16x4096, .f32⟩
  | .hbm, ⟨15, _⟩ => ⟨S16x3072, .f32⟩
  | .hbm, ⟨16, _⟩ => ⟨S3072x4096, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S_, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S_, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== KernelFO.lean ====
abbrev S4096x4096 : Shape := ⟨2, ![4096, 4096]⟩
abbrev S_ : Shape := ⟨0, ![]⟩
abbrev S2 : Shape := ⟨1, ![2]⟩
abbrev S8x4096x2048 : Shape := ⟨3, ![8, 4096, 2048]⟩
abbrev S1024x4096 : Shape := ⟨2, ![1024, 4096]⟩
abbrev S4096x1024 : Shape := ⟨2, ![4096, 1024]⟩
abbrev S1x1024x1024 : Shape := ⟨3, ![1, 1024, 1024]⟩
abbrev S1 : Shape := ⟨1, ![1]⟩
abbrev S1024x1024 : Shape := ⟨2, ![1024, 1024]⟩
abbrev S2x4096x2048 : Shape := ⟨3, ![2, 4096, 2048]⟩

abbrev nBuf : Space → Nat
  | .hbm => 5
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S8x4096x2048, .f32⟩
  | .hbm, ⟨4, _⟩ => ⟨S2x4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v16 c2_i32_10
  let v28 : BitVec 32 := Scalar.addi v27 v26
  let c0_i32_11 : BitVec 32 := 0#32
  let c0_i32_12 : BitVec 32 := 0#32
  ![c0_i32_11.toNat, v28.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let c2_i32_4 : BitVec 32 := 2#32
  let v18 : BitVec 32 := Scalar.muli c2_i32_4 v17
  let v19 : BitVec 32 := Scalar.addi v18 v16
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi arg1 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  ![v19.toNat, arg0.toNat, v29.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFOIdeal.lean ====
abbrev S4096x4096 : Shape := ⟨2, ![4096, 4096]⟩
abbrev S4096x2x2048 : Shape := ⟨3, ![4096, 2, 2048]⟩
abbrev S2x4096x2048 : Shape := ⟨3, ![2, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x2x2048, .f32⟩
  | .hbm, ⟨6, _⟩ => ⟨S2x4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFN.lean ====
abbrev S4096x4096 : Shape := ⟨2, ![4096, 4096]⟩
abbrev S4x4096x4096 : Shape := ⟨3, ![4, 4096, 4096]⟩
abbrev S8x4096x2048 : Shape := ⟨3, ![8, 4096, 2048]⟩
abbrev S_ : Shape := ⟨0, ![]⟩
abbrev S2 : Shape := ⟨1, ![2]⟩
abbrev S1024x4096 : Shape := ⟨2, ![1024, 4096]⟩
abbrev S1x4096x1024 : Shape := ⟨3, ![1, 4096, 1024]⟩
abbrev S1 : Shape := ⟨1, ![1]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S8x4096x2048, .f32⟩
  | .hbm, ⟨3, _⟩ => ⟨S_, .i32⟩
  | .hbm, ⟨4, _⟩ => ⟨S8x4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1 : Index := 1#32
  let v27 : BitVec 32 := pf.at 0 (Rect.unit (s := S2) ![1] S1.size inb_S2_S1_1) numel1_S1
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let c2_i32_17 : BitVec 32 := 2#32
  let v45 : BitVec 32 := Scalar.subi c2_i32_17 v44
  let v46 : BitVec 32 := Scalar.xori v27 v45
  let c2_i32_18 : BitVec 32 := 2#32
  let c0_i32_19 : BitVec 32 := 0#32
  let v47 : BitVec 1 := Scalar.cmpi .eq c2_i32_18 c0_i32_19
  let c1_i32_20 : BitVec 32 := 1#32
  let v48 : BitVec 32 := Scalar.select v47 c1_i32_20 c2_i32_18
  let v49 : BitVec 32 := Scalar.remsi v16 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c2_i32_24 : BitVec 32 := 2#32
  let v57 : BitVec 32 := Scalar.muli v56 c2_i32_24
  let v58 : BitVec 32 := Scalar.addi v57 v26
  let c0_i32_25 : BitVec 32 := 0#32
  let c0_i32_26 : BitVec 32 := 0#32
  ![v46.toNat, c0_i32_25.toNat, v58.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let c2_i32_4 : BitVec 32 := 2#32
  let v18 : BitVec 32 := Scalar.divsi v16 c2_i32_4
  let c0_i32_5 : BitVec 32 := 0#32
  let v19 : BitVec 1 := Scalar.cmpi .sgt v16 c0_i32_5
  let v20 : BitVec 32 := Scalar.extui v19
  let c0_i32_6 : BitVec 32 := 0#32
  let v21 : BitVec 1 := Scalar.cmpi .slt v16 c0_i32_6
  let v22 : BitVec 32 := Scalar.extui v21
  let v23 : BitVec 32 := Scalar.subi v20 v22
  let c0_i32_7 : BitVec 32 := 0#32
  let v24 : BitVec 1 := Scalar.cmpi .sgt c2_i32_4 c0_i32_7
  let v25 : BitVec 32 := Scalar.extui v24
  let c0_i32_8 : BitVec 32 := 0#32
  let v26 : BitVec 1 := Scalar.cmpi .slt c2_i32_4 c0_i32_8
  let v27 : BitVec 32 := Scalar.extui v26
  let v28 : BitVec 32 := Scalar.subi v25 v27
  let v29 : BitVec 1 := Scalar.cmpi .ne v23 v28
  let v30 : BitVec 32 := Scalar.remsi v16 c2_i32_4
  let c0_i32_9 : BitVec 32 := 0#32
  let v31 : BitVec 1 := Scalar.cmpi .ne v30 c0_i32_9
  let v32 : BitVec 1 := Scalar.andi v29 v31
  let c1_i32_10 : BitVec 32 := 1#32
  let v33 : BitVec 32 := Scalar.subi v18 c1_i32_10
  let v34 : BitVec 32 := Scalar.select v32 v33 v18
  let c2_i32_11 : BitVec 32 := 2#32
  let v35 : BitVec 32 := Scalar.subi c2_i32_11 v34
  let v36 : BitVec 32 := Scalar.xori v17 v35
  let c2_i32_12 : BitVec 32 := 2#32
  let v37 : BitVec 32 := Scalar.muli c2_i32_12 v36
  let c2_i32_13 : BitVec 32 := 2#32
  let c0_i32_14 : BitVec 32 := 0#32
  let v38 : BitVec 1 := Scalar.cmpi .eq c2_i32_13 c0_i32_14
  let c1_i32_15 : BitVec 32 := 1#32
  let v39 : BitVec 32 := Scalar.select v38 c1_i32_15 c2_i32_13
  let v40 : BitVec 32 := Scalar.remsi v16 v39
  let c0_i32_16 : BitVec 32 := 0#32
  let v41 : BitVec 1 := Scalar.cmpi .ne v40 c0_i32_16
  let c0_i32_17 : BitVec 32 := 0#32
  let v42 : BitVec 1 := Scalar.cmpi .slt v40 c0_i32_17
  let c0_i32_18 : BitVec 32 := 0#32
  let v43 : BitVec 1 := Scalar.cmpi .slt v39 c0_i32_18
  let v44 : BitVec 1 := Scalar.xori v42 v43
  let v45 : BitVec 1 := Scalar.andi v44 v41
  let v46 : BitVec 32 := Scalar.addi v40 v39
  let v47 : BitVec 32 := Scalar.select v45 v46 v40
  let v48 : BitVec 32 := Scalar.addi v37 v47
  let c2_i32_19 : BitVec 32 := 2#32
  let c0_i32_20 : BitVec 32 := 0#32
  let v49 : BitVec 1 := Scalar.cmpi .eq c2_i32_19 c0_i32_20
  let c1_i32_21 : BitVec 32 := 1#32
  let v50 : BitVec 32 := Scalar.select v49 c1_i32_21 c2_i32_19
  let v51 : BitVec 32 := Scalar.remsi arg1 v50
  let c0_i32_22 : BitVec 32 := 0#32
  let v52 : BitVec 1 := Scalar.cmpi .ne v51 c0_i32_22
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let v56 : BitVec 1 := Scalar.andi v55 v52
  let v57 : BitVec 32 := Scalar.addi v51 v50
  let v58 : BitVec 32 := Scalar.select v56 v57 v51
  let c0_i32_25 : BitVec 32 := 0#32
  ![v48.toNat, arg0.toNat, v58.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFNIdeal.lean ====
abbrev S4096x4096 : Shape := ⟨2, ![4096, 4096]⟩
abbrev S4x4096x4096 : Shape := ⟨3, ![4, 4096, 4096]⟩
abbrev S8x4096x2048 : Shape := ⟨3, ![8, 4096, 2048]⟩
abbrev S4096x4x4096 : Shape := ⟨3, ![4096, 4, 4096]⟩
abbrev S4096x16384 : Shape := ⟨2, ![4096, 16384]⟩
abbrev S2x4096x2048 : Shape := ⟨3, ![2, 4096, 2048]⟩
abbrev S4096x8x2048 : Shape := ⟨3, ![4096, 8, 2048]⟩
abbrev S4x4096x2048 : Shape := ⟨3, ![4, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S8x4096x2048, .f32⟩
  | .hbm, ⟨3, _⟩ => ⟨S4096x4x4096, .bf16⟩
  | .hbm, ⟨4, _⟩ => ⟨S4096x16384, .bf16⟩
  | .hbm, ⟨5, _⟩ => ⟨S4096x16384, .f32⟩
  | .hbm, ⟨6, _⟩ => ⟨S2x4096x2048, .f32⟩
  | .hbm, ⟨7, _⟩ => ⟨S4096x4096, .f32⟩
  | .hbm, ⟨8, _⟩ => ⟨S4096x16384, .f32⟩
  | .hbm, ⟨9, _⟩ => ⟨S4096x8x2048, .f32⟩
  | .hbm, ⟨10, _⟩ => ⟨S8x4096x2048, .f32⟩
  | .hbm, ⟨11, _⟩ => ⟨S4x4096x2048, .f32⟩
  | .hbm, ⟨12, _⟩ => ⟨S2x4096x2048, .f32⟩
  | .hbm, ⟨13, _⟩ => ⟨S8x4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelFD.lean ====
abbrev S4096x4096 : Shape := ⟨2, ![4096, 4096]⟩
abbrev S8x4096x2048 : Shape := ⟨3, ![8, 4096, 2048]⟩
abbrev S_ : Shape := ⟨0, ![]⟩
abbrev S2 : Shape := ⟨1, ![2]⟩
abbrev S1024x4096 : Shape := ⟨2, ![1024, 4096]⟩
abbrev S4096x1024 : Shape := ⟨2, ![4096, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x4096x2048, .f32⟩
  | .hbm, ⟨3, _⟩ => ⟨S_, .i32⟩
  | .hbm, ⟨4, _⟩ => ⟨S8x4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v16 c2_i32_10
  let v28 : BitVec 32 := Scalar.addi v27 v26
  let c0_i32_11 : BitVec 32 := 0#32
  let c0_i32_12 : BitVec 32 := 0#32
  ![c0_i32_11.toNat, v28.toNat]

def cc0_transform_3 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1 : Index := 1#32
  let v17 : BitVec 32 := pf.at 0 (Rect.unit (s := S2) ![1] S1.size inb_S2_S1_1) numel1_S1
  let c3_i32 : BitVec 32 := 3#32
  let v18 : BitVec 32 := Scalar.xori v17 c3_i32
  let c2_i32_4 : BitVec 32 := 2#32
  let v19 : BitVec 32 := Scalar.muli c2_i32_4 v18
  let v20 : BitVec 32 := Scalar.addi v19 v16
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  ![v20.toNat, arg0.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFDIdeal.lean ====
abbrev S4096x4096 : Shape := ⟨2, ![4096, 4096]⟩
abbrev S8x4096x2048 : Shape := ⟨3, ![8, 4096, 2048]⟩
abbrev S6x4096x2048 : Shape := ⟨3, ![6, 4096, 2048]⟩
abbrev S4096x2x2048 : Shape := ⟨3, ![4096, 2, 2048]⟩
abbrev S2x4096x2048 : Shape := ⟨3, ![2, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x4096x2048, .f32⟩
  | .hbm, ⟨3, _⟩ => ⟨S6x4096x2048, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x2x2048, .f32⟩
  | .hbm, ⟨8, _⟩ => ⟨S2x4096x2048, .f32⟩
  | .hbm, ⟨9, _⟩ => ⟨S8x4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelM.lean ====
abbrev S16x4096 : Shape := ⟨2, ![16, 4096]⟩
abbrev S4096x3072 : Shape := ⟨2, ![4096, 3072]⟩
abbrev S1x3072 : Shape := ⟨2, ![1, 3072]⟩
abbrev S16x3072 : Shape := ⟨2, ![16, 3072]⟩
abbrev S16x1024 : Shape := ⟨2, ![16, 1024]⟩
abbrev S1024x512 : Shape := ⟨2, ![1024, 512]⟩
abbrev S1x512 : Shape := ⟨2, ![1, 512]⟩
abbrev S16x512 : Shape := ⟨2, ![16, 512]⟩

abbrev nBuf : Space → Nat
  | .hbm => 4
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S1x3072, .f32⟩
  | .hbm, ⟨3, _⟩ => ⟨S16x3072, .f32⟩
  | .local _ .vmem, ⟨0, _⟩ => ⟨S16x1024, .f32⟩
  | .local _ .vmem, ⟨1, _⟩ => ⟨S16x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== ReferenceMIdeal.lean ====
abbrev S16x4096 : Shape := ⟨2, ![16, 4096]⟩
abbrev S4096x3072 : Shape := ⟨2, ![4096, 3072]⟩
abbrev S1x3072 : Shape := ⟨2, ![1, 3072]⟩
abbrev S_ : Shape := ⟨0, ![]⟩
abbrev S16x3072 : Shape := ⟨2, ![16, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x3072, .f32⟩
  | .hbm, ⟨2, _⟩ => ⟨S1x3072, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x3072, .f32⟩
  | .hbm, ⟨13, _⟩ => ⟨S16x3072, .f32⟩
  | .hbm, ⟨14, _⟩ => ⟨S16x3072, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelN.lean ====
abbrev S2x2048x4096 : Shape := ⟨3, ![2, 2048, 4096]⟩
abbrev S1x4096 : Shape := ⟨2, ![1, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S2x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNIdeal.lean ====
abbrev S2x2048x4096 : Shape := ⟨3, ![2, 2048, 4096]⟩
abbrev S1x4096 : Shape := ⟨2, ![1, 4096]⟩
abbrev S2x1x4096 : Shape := ⟨3, ![2, 1, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1x4096, .f32⟩
  | .hbm, ⟨2, _⟩ => ⟨S2x1x4096, .f32⟩
  | .hbm, ⟨3, _⟩ => ⟨S2x1x4096, .f32⟩
  | .hbm, ⟨4, _⟩ => ⟨S2x2048x4096, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x4096, .f32⟩
  | .hbm, ⟨16, _⟩ => ⟨S2x2048x4096, .f32⟩
  | .hbm, ⟨17, _⟩ => ⟨S1x1x4096, .f32⟩
  | .hbm, ⟨18, _⟩ => ⟨S2x2048x4096, .f32⟩
  | .hbm, ⟨19, _⟩ => ⟨S2x2048x4096, .f32⟩
  | .hbm, ⟨20, _⟩ => ⟨S_, .f32⟩
  | .hbm, ⟨21, _⟩ => ⟨S2x1x4096, .f32⟩
  | .hbm, ⟨22, _⟩ => ⟨S2x1x4096, .f32⟩
  | .hbm, ⟨23, _⟩ => ⟨S2x2048x4096, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S2x2048x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelG.lean ====
abbrev S2x2048x4096 : Shape := ⟨3, ![2, 2048, 4096]⟩
abbrev S1x4096 : Shape := ⟨2, ![1, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 9
  | .vmem => 16
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x2048x4096, .f32⟩
  | .hbm, ⟨3, _⟩ => ⟨S1x4096, .f32⟩
  | .hbm, ⟨4, _⟩ => ⟨S2x1x4096, .f32⟩
  | .hbm, ⟨5, _⟩ => ⟨S2x2048x4096, .f32⟩
  | .hbm, ⟨6, _⟩ => ⟨S2x1x4096, .f32⟩
  | .hbm, ⟨7, _⟩ => ⟨S2x1x4096, .f32⟩
  | .hbm, ⟨8, _⟩ => ⟨S1x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x256x4096, .f32⟩
  | .local _ .vmem, ⟨10, _⟩ => ⟨S1x256x4096, .f32⟩
  | .local _ .vmem, ⟨11, _⟩ => ⟨S1x1x4096, .f32⟩
  | .local _ .vmem, ⟨12, _⟩ => ⟨S1x1x4096, .f32⟩
  | .local _ .vmem, ⟨13, _⟩ => ⟨S1x1x4096, .f32⟩
  | .local _ .vmem, ⟨14, _⟩ => ⟨S1x1x4096, .f32⟩
  | .local _ .vmem, ⟨15, _⟩ => ⟨S1x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceGIdeal.lean ====
abbrev S2x2048x4096 : Shape := ⟨3, ![2, 2048, 4096]⟩
abbrev S1x4096 : Shape := ⟨2, ![1, 4096]⟩
abbrev S2x1x4096 : Shape := ⟨3, ![2, 1, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S2x4096 : Shape := ⟨2, ![2, 4096]⟩
abbrev S4096 : Shape := ⟨1, ![4096]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x2048x4096, .f32⟩
  | .hbm, ⟨3, _⟩ => ⟨S1x4096, .f32⟩
  | .hbm, ⟨4, _⟩ => ⟨S2x1x4096, .f32⟩
  | .hbm, ⟨5, _⟩ => ⟨S_, .f32⟩
  | .hbm, ⟨6, _⟩ => ⟨S2x1x4096, .f32⟩
  | .hbm, ⟨7, _⟩ => ⟨S2x2048x4096, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x4096, .f32⟩
  | .hbm, ⟨23, _⟩ => ⟨S2x2048x4096, .f32⟩
  | .hbm, ⟨24, _⟩ => ⟨S1x1x4096, .f32⟩
  | .hbm, ⟨25, _⟩ => ⟨S2x2048x4096, .f32⟩
  | .hbm, ⟨26, _⟩ => ⟨S2x2048x4096, .f32⟩
  | .hbm, ⟨27, _⟩ => ⟨S_, .f32⟩
  | .hbm, ⟨28, _⟩ => ⟨S2x1x4096, .f32⟩
  | .hbm, ⟨29, _⟩ => ⟨S2x1x4096, .f32⟩
  | .hbm, ⟨30, _⟩ => ⟨S2x2048x4096, .f32⟩
  | .hbm, ⟨31, _⟩ => ⟨S2x2048x4096, .f32⟩
  | .hbm, ⟨32, _⟩ => ⟨S2x2048x4096, .f32⟩
  | .hbm, ⟨33, _⟩ => ⟨S2x2048x4096, .f32⟩
  | .hbm, ⟨34, _⟩ => ⟨S2x2048x4096, .f32⟩
  | .hbm, ⟨35, _⟩ => ⟨S_, .f32⟩
  | .hbm, ⟨36, _⟩ => ⟨S2x4096, .f32⟩
  | .hbm, ⟨37, _⟩ => ⟨S2x1x4096, .f32⟩
  | .hbm, ⟨38, _⟩ => ⟨S2x2048x4096, .f32⟩
  | .hbm, ⟨39, _⟩ => ⟨S_, .f32⟩
  | .hbm, ⟨40, _⟩ => ⟨S2x4096, .f32⟩
  | .hbm, ⟨41, _⟩ => ⟨S2x1x4096, .f32⟩
  | .hbm, ⟨42, _⟩ => ⟨S2x2048x4096, .f32⟩
  | .hbm, ⟨43, _⟩ => ⟨S2x2048x4096, .f32⟩
  | .hbm, ⟨44, _⟩ => ⟨S2x2048x4096, .f32⟩
  | .hbm, ⟨45, _⟩ => ⟨S_, .f32⟩
  | .hbm, ⟨46, _⟩ => ⟨S4096, .f32⟩
  | .hbm, ⟨47, _⟩ => ⟨S1x1x4096, .f32⟩
  | .hbm, ⟨48, _⟩ => ⟨S2x2048x4096, .f32⟩
  | .hbm, ⟨49, _⟩ => ⟨S2x2048x4096, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S2x2048x4096, .f32⟩
  | .hbm, ⟨54, _⟩ => ⟨S_, .f32⟩
  | .hbm, ⟨55, _⟩ => ⟨S2x2048, .f32⟩
  | .hbm, ⟨56, _⟩ => ⟨S2x2048x1, .f32⟩
  | .hbm, ⟨57, _⟩ => ⟨S2x2048x4096, .f32⟩
  | .hbm, ⟨58, _⟩ => ⟨S2x2048x4096, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S_, .f32⟩
  | .hbm, ⟨64, _⟩ => ⟨S2x2048, .f32⟩
  | .hbm, ⟨65, _⟩ => ⟨S2x2048x4096, .f32⟩
  | .hbm, ⟨66, _⟩ => ⟨S2x2048x4096, .f32⟩
  | .hbm, ⟨67, _⟩ => ⟨S2x2048x4096, .f32⟩
  | .hbm, ⟨68, _⟩ => ⟨S2x2048x4096, .f32⟩
  | .hbm, ⟨69, _⟩ => ⟨S2x2048x4096, .f32⟩
  | .hbm, ⟨70, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== KernelL.lean ====
abbrev S2x2048x4096 : Shape := ⟨3, ![2, 2048, 4096]⟩
abbrev S2x1x4096 : Shape := ⟨3, ![2, 1, 4096]⟩
abbrev S1x4096 : Shape := ⟨2, ![1, 4096]⟩
abbrev S1x128 : Shape := ⟨2, ![1, 128]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S4096 : Shape := ⟨1, ![4096]⟩

abbrev nBuf : Space → Nat
  | .hbm => 10
  | .vmem => 17
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x1x4096, .f32⟩
  | .hbm, ⟨3, _⟩ => ⟨S1x4096, .f32⟩
  | .hbm, ⟨4, _⟩ => ⟨S2x2048x4096, .f32⟩
  | .hbm, ⟨5, _⟩ => ⟨S2x2048x4096, .f32⟩
  | .hbm, ⟨6, _⟩ => ⟨S2x2048x4096, .bf16⟩
  | .hbm, ⟨7, _⟩ => ⟨S2x1x4096, .f32⟩
  | .hbm, ⟨8, _⟩ => ⟨S1x4096, .f32⟩
  | .hbm, ⟨9, _⟩ => ⟨S1x128, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x256x4096, .f32⟩
  | .local _ .vmem, ⟨10, _⟩ => ⟨S1x256x4096, .f32⟩
  | .local _ .vmem, ⟨11, _⟩ => ⟨S1x256x4096, .bf16⟩
  | .local _ .vmem, ⟨12, _⟩ => ⟨S1x256x4096, .bf16⟩
  | .local _ .vmem, ⟨13, _⟩ => ⟨S1x1x4096, .f32⟩
  | .local _ .vmem, ⟨14, _⟩ => ⟨S1x1x4096, .f32⟩
  | .local _ .vmem, ⟨15, _⟩ => ⟨S1x4096, .f32⟩
  | .local _ .vmem, ⟨16, _⟩ => ⟨S1x128, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceLIdeal.lean ====
abbrev S2x2048x4096 : Shape := ⟨3, ![2, 2048, 4096]⟩
abbrev S2x1x4096 : Shape := ⟨3, ![2, 1, 4096]⟩
abbrev S1x4096 : Shape := ⟨2, ![1, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S4096 : Shape := ⟨1, ![4096]⟩
abbrev S2x4096 : Shape := ⟨2, ![2, 4096]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S2x1x4096, .f32⟩
  | .hbm, ⟨3, _⟩ => ⟨S1x4096, .f32⟩
  | .hbm, ⟨4, _⟩ => ⟨S2x2048x4096, .f32⟩
  | .hbm, ⟨5, _⟩ => ⟨S2x2048x4096, .f32⟩
  | .hbm, ⟨6, _⟩ => ⟨S2x2048x4096, .f32⟩
  | .hbm, ⟨7, _⟩ => ⟨S2x2048x4096, .f32⟩
  | .hbm, ⟨8, _⟩ => ⟨S2x2048x4096, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x4096, .f32⟩
  | .hbm, ⟨24, _⟩ => ⟨S2x2048x4096, .f32⟩
  | .hbm, ⟨25, _⟩ => ⟨S1x1x4096, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S2x2048x4096, .f32⟩
  | .hbm, ⟨30, _⟩ => ⟨S_, .f32⟩
  | .hbm, ⟨31, _⟩ => ⟨S2x2048x4096, .f32⟩
  | .hbm, ⟨32, _⟩ => ⟨S2x2048x4096, .f32⟩
  | .hbm, ⟨33, _⟩ => ⟨S_, .f32⟩
  | .hbm, ⟨34, _⟩ => ⟨S2x2048, .f32⟩
  | .hbm, ⟨35, _⟩ => ⟨S_, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x4096, .f32⟩
  | .hbm, ⟨50, _⟩ => ⟨S2x2048x4096, .f32⟩
  | .hbm, ⟨51, _⟩ => ⟨S2x2048x4096, .f32⟩
  | .hbm, ⟨52, _⟩ => ⟨S_, .f32⟩
  | .hbm, ⟨53, _⟩ => ⟨S4096, .f32⟩
  | .hbm, ⟨54, _⟩ => ⟨S1x1x4096, .f32⟩
  | .hbm, ⟨55, _⟩ => ⟨S2x2048x4096, .f32⟩
  | .hbm, ⟨56, _⟩ => ⟨S2x2048x4096, .f32⟩
  | .hbm, ⟨57, _⟩ => ⟨S_, .f32⟩
  | .hbm, ⟨58, _⟩ => ⟨S4096, .f32⟩
  | .hbm, ⟨59, _⟩ => ⟨S1x4096, .f32⟩
  | .hbm, ⟨60, _⟩ => ⟨S2x2048x4096, .f32⟩
  | .hbm, ⟨61, _⟩ => ⟨S_, .f32⟩
  | .hbm, ⟨62, _⟩ => ⟨S2x2048, .f32⟩
  | .hbm, ⟨63, _⟩ => ⟨S2x2048x1, .f32⟩
  | .hbm, ⟨64, _⟩ => ⟨S2x2048x4096, .f32⟩
  | .hbm, ⟨65, _⟩ => ⟨S2x2048x4096, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S_, .f32⟩
  | .hbm, ⟨71, _⟩ => ⟨S2x2048, .f32⟩
  | .hbm, ⟨72, _⟩ => ⟨S2x2048x4096, .f32⟩
  | .hbm, ⟨73, _⟩ => ⟨S2x2048x4096, .f32⟩
  | .hbm, ⟨74, _⟩ => ⟨S2x2048x4096, .f32⟩
  | .hbm, ⟨75, _⟩ => ⟨S2x2048x4096, .f32⟩
  | .hbm, ⟨76, _⟩ => ⟨S2x2048x4096, .f32⟩
  | .hbm, ⟨77, _⟩ => ⟨S2x2048x4096, .f32⟩
  | .hbm, ⟨78, _⟩ => ⟨S2x2048x4096, .f32⟩
  | .hbm, ⟨79, _⟩ => ⟨S2x2048x4096, .f32⟩
  | .hbm, ⟨80, _⟩ => ⟨S_, .f32⟩
  | .hbm, ⟨81, _⟩ => ⟨S2x4096, .f32⟩
  | .hbm, ⟨82, _⟩ => ⟨S2x1x4096, .f32⟩
  | .hbm, ⟨83, _⟩ => ⟨S2x2048x4096, .bf16⟩
  | .hbm, ⟨84, _⟩ => ⟨S1x128, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== KernelC.lean ====
abbrev S4x2048x4096 : Shape := ⟨3, ![4, 2048, 4096]⟩
abbrev S2048x4096 : Shape := ⟨2, ![2048, 4096]⟩
abbrev S_ : Shape := ⟨0, ![]⟩
abbrev S2 : Shape := ⟨1, ![2]⟩
abbrev S4096x4096 : Shape := ⟨2, ![4096, 4096]⟩
abbrev S4x256x2048 : Shape := ⟨3, ![4, 256, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 5
  | .vmem => 6
  | .smem => 1
  | _ => 0

abbrev bufTy : (tb : Table) → Fin (tcTables nBuf tb) → BufTy
  | .hbm, ⟨0, _⟩ => ⟨S4x2048x4096, .bf16⟩
  | .hbm, ⟨1, _⟩ => ⟨S2048x4096, .f32⟩
  | .hbm, ⟨2, _⟩ => ⟨S_, .i32⟩
  | .hbm, ⟨3, _⟩ => ⟨S4096x4096, .f32⟩
  | .hbm, ⟨4, _⟩ => ⟨S2048x4096, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .smem, ⟨0, _⟩ => ⟨S2, .i32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c8_i32 : BitVec 32 := 8#32
  let v1 : BitVec 32 := Scalar.muli v0 c8_i32
  let v2 : BitVec 32 := Scalar.addi v1 arg0
  let c0_i32 : BitVec 32 := 0#32
  ![v2.toNat, arg1.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceCIdeal.lean ====
abbrev S4x2048x4096 : Shape := ⟨3, ![4, 2048, 4096]⟩
abbrev S2048x4096 : Shape := ⟨2, ![2048, 4096]⟩
abbrev S3x2048x4096 : Shape := ⟨3, ![3, 2048, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S2048x4096, .f32⟩
  | .hbm, ⟨2, _⟩ => ⟨S3x2048x4096, .bf16⟩
  | .hbm, ⟨3, _⟩ => ⟨S3x2048x4096, .f32⟩
  | .hbm, ⟨4, _⟩ => ⟨S_, .f32⟩
  | .hbm, ⟨5, _⟩ => ⟨S2048x4096, .f32⟩
  | .hbm, ⟨6, _⟩ => ⟨S2048x4096, .f32⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelCO.lean ====
abbrev S4x512x4096 : Shape := ⟨3, ![4, 512, 4096]⟩
abbrev S512x4096 : Shape := ⟨2, ![512, 4096]⟩
abbrev S_ : Shape := ⟨0, ![]⟩
abbrev S2 : Shape := ⟨1, ![2]⟩
abbrev S1024x4096 : Shape := ⟨2, ![1024, 4096]⟩
abbrev S4x256x2048 : Shape := ⟨3, ![4, 256, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 5
  | .vmem => 6
  | .smem => 1
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .hbm, ⟨2, _⟩ => ⟨S_, .i32⟩
  | .hbm, ⟨3, _⟩ => ⟨S1024x4096, .f32⟩
  | .hbm, ⟨4, _⟩ => ⟨S512x4096, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .smem, ⟨0, _⟩ => ⟨S2, .i32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg0
  let c0_i32 : BitVec 32 := 0#32
  ![v2.toNat, arg1.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceCOIdeal.lean ====
abbrev S4x512x4096 : Shape := ⟨3, ![4, 512, 4096]⟩
abbrev S512x4096 : Shape := ⟨2, ![512, 4096]⟩
abbrev S3x512x4096 : Shape := ⟨3, ![3, 512, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S512x4096, .f32⟩
  | .hbm, ⟨2, _⟩ => ⟨S3x512x4096, .bf16⟩
  | .hbm, ⟨3, _⟩ => ⟨S3x512x4096, .f32⟩
  | .hbm, ⟨4, _⟩ => ⟨S_, .f32⟩
  | .hbm, ⟨5, _⟩ => ⟨S512x4096, .f32⟩
  | .hbm, ⟨6, _⟩ => ⟨S512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ValueW.lean ====
/- The weight gradient of the in-projection: the kernel's result array is the reference's, entry by entry. -/
module

public import proofs.«01_k».proof.Proof.Gen.KernelWIdeal.Frame
public import proofs.«01_k».proof.Proof.Gen.ReferenceWIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelWIdeal.Value

open Cert.KernelWIdeal Cert.KernelWIdeal.Gen

variable (m : (ℓ : Loc nD τ sig) → Buf (Elt Ideal) ℓ)

/-- The reference's term over the arguments. -/
abbrev REF (H : FVec Ideal S4096x4096 .bf16) (D : FVec Ideal S8x4096x2048 .bf16) : FVec Ideal S4x4096x4096 .bf16 :=
  truncf .bf16 (transpose Cert.ReferenceWIdeal.S4x4096x4096 [1, 0, 2] (shapeCast Cert.ReferenceWIdeal.S4096x4x4096 (transpose Cert.ReferenceWIdeal.S4096x16384 [1, 0]
    (Host.dotGeneral Cert.ReferenceWIdeal.dot_S4096x16384_S4096x4096_S16384x4096_0_0_1_1_n_n none
      (shapeCast Cert.ReferenceWIdeal.S4096x16384 (transpose Cert.ReferenceWIdeal.S4096x8x2048 [1, 0, 2] (extf .f32 D Cert.ReferenceWIdeal.Gen.bitsLt_bf16_f32)
        Cert.ReferenceWIdeal.Gen.transposes_S8x4096x2048_S4096x8x2048_1_0_2) Cert.ReferenceWIdeal.Gen.shapeCasts_S4096x8x2048_S4096x16384)
      (extf .f32 H Cert.ReferenceWIdeal.Gen.bitsLt_bf16_f32)) Cert.ReferenceWIdeal.Gen.transposes_S16384x4096_S4096x16384_1_0)
    Cert.ReferenceWIdeal.Gen.shapeCasts_S4096x16384_S4096x4x4096) Cert.ReferenceWIdeal.Gen.transposes_S4096x4x4096_S4x4096x4096_1_0_2) Cert.ReferenceWIdeal.Gen.bitsLt_bf16_f32

/-- The blocks' indices at a grid point. -/
theorem idx : ∀ t : Fin cfg0.N, win0_0.index t = ![0, t.val / 16] ∧ win0_1.index t = ![t.val % 16 / 2, 0, t.val % 2]
    ∧ win0_2.index t = ![t.val % 16 / 4, t.val / 16, t.val % 4] := (by decide +kernel : ∀ t : Fin grid0.N, _)

/-- What a grid point stores at an index of its block is the reference at that index of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  have ht : t.val < 64 := lt_of_lt_of_eq t.isLt N_0
  pointwise [k0_pay1, REF]
  refine Fin.sum_fin_congr fun x => ?_
  refine (mul_comm (G := EReal) _ _).trans (congrArg₂ (fun a b : EReal => a * b) ?_ ?_)
  · blk_ext [iblk, V, idx t]
  · blk_ext [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelWIdeal.Value

end
-- ==== Proof.ValueX.lean ====
/- The input gradient of the in-projection: the kernel's accumulated result array is the reference's, entry by entry. -/
module

public import proofs.«01_k».proof.Proof.Gen.KernelXIdeal.Frame
public import proofs.«01_k».proof.Proof.Gen.ReferenceXIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelXIdeal.Value

open Cert.KernelXIdeal Cert.KernelXIdeal.Gen

variable (m : (ℓ : Loc nD τ sig) → Buf (Elt Ideal) ℓ)

/-- The reference's term over the arguments. -/
abbrev REF (A0 : FVec Ideal S8x4096x2048 .bf16) (A1 : FVec Ideal S4x4096x4096 .bf16) : FVec Ideal S4096x4096 .f32 :=
  Host.dotGeneral Cert.ReferenceXIdeal.dot_S4096x16384_S4096x16384_S4096x4096_1_1_0_0_n_n none (shapeCast _ (transpose Cert.ReferenceXIdeal.S4096x8x2048 [1, 0, 2] (extf .f32 A0 Cert.ReferenceXIdeal.Gen.bitsLt_bf16_f32) Cert.ReferenceXIdeal.Gen.transposes_S8x4096x2048_S4096x8x2048_1_0_2) Cert.ReferenceXIdeal.Gen.shapeCasts_S4096x8x2048_S4096x16384) (extf .f32 (shapeCast _ (transpose Cert.ReferenceXIdeal.S4096x4x4096 [1, 0, 2] A1 Cert.ReferenceXIdeal.Gen.transposes_S4x4096x4096_S4096x4x4096_1_0_2) Cert.ReferenceXIdeal.Gen.shapeCasts_S4096x4x4096_S4096x16384) Cert.ReferenceXIdeal.Gen.bitsLt_bf16_f32)

/-- The blocks' indices at a grid point. -/
theorem idx : ∀ t : Fin cfg0.N, win0_0.index t = ![t.val % 4, t.val / 16, 0] ∧ win0_1.index t = ![t.val % 4, t.val / 4 % 4, 0]
    ∧ win0_2.index t = ![t.val / 16, t.val / 4 % 4] := (by decide +kernel : ∀ t : Fin grid0.N, _)

/-- The part of a point's product that its first slab gives, and the second's. -/
theorem pay1_at (a0 a1 b0 b1) (i j : Fin 1024) : k0_pay1 (F := Ideal) a0 b0 a1 b1 (ix2 i j)
    = (∑ x : Fin 2048, a0 (ix3 0 i x) * b0 (ix3 0 j x)) + ∑ x : Fin 2048, a1 (ix3 0 i x) * b1 (ix3 0 j x) := by
  pointwise [k0_pay1]

theorem pay2_at (s a0 a1 b0 b1) (i j : Fin 1024) : k0_pay2 (F := Ideal) s a0 b0 a1 b1 (ix2 i j)
    = s (ix2 i j) + ((∑ x : Fin 2048, a0 (ix3 0 i x) * b0 (ix3 0 j x)) + ∑ x : Fin 2048, a1 (ix3 0 i x) * b1 (ix3 0 j x)) := by
  pointwise [k0_pay2]

theorem pay3_at (s a0 a1 b0 b1) (i j : Fin 1024) : k0_pay3 (F := Ideal) s a0 b0 a1 b1 (ix2 i j)
    = s (ix2 i j) + ((∑ x : Fin 2048, a0 (ix3 0 i x) * b0 (ix3 0 j x)) + ∑ x : Fin 2048, a1 (ix3 0 i x) * b1 (ix3 0 j x)) := by
  pointwise [k0_pay3]

/-- The product of a point's blocks, over the two slabs. -/
def part (A : FVec Ideal S2x1024x2048 .bf16) (B : FVec Ideal S1x1024x4096 .bf16) (i j : Fin 1024) : EReal :=
  (∑ x : Fin 2048, A (ix3 0 i x) * B (ix3 0 j ⟨x.val, by omega⟩)) + ∑ x : Fin 2048, A (ix3 1 i x) * B (ix3 0 j ⟨2048 + x.val, by omega⟩)

theorem accA (c : Dev nD) (t : Fin cfg0.N) (h : t.val % 4 = 0) (i j : Fin 1024) :
    (outsAt0 m c t.val t.isLt).2 (ix2 i j) = part (iblk m c 0 t) (iblk m c 1 t) i j := by
  rw [outsAt0_A m c t h (by omega) (by omega)]; frame_out
  rw [pay1_at]
  unfold part
  refine (congrArg₂ (fun a b : EReal => a + b) (Fin.sum_fin_congr fun x => congrArg₂ (fun a b : EReal => a * b) ?_ ?_)
    (Fin.sum_fin_congr fun x => congrArg₂ (fun a b : EReal => a * b) ?_ ?_))
  all_goals exact View.ld_unit_apply_of _ _ _ _ _ _ (by intro a; fin_cases a <;> simp)

theorem accB (c : Dev nD) (t : Fin cfg0.N) (h : 1 ≤ t.val % 4 ∧ t.val % 4 ≤ 2) (i j : Fin 1024) :
    (outsAt0 m c t.val t.isLt).2 (ix2 i j) = (outsAt0 m c (t.val - 1) (Nat.lt_of_le_of_lt (Nat.sub_le _ _) t.isLt)).2 (ix2 i j) + part (iblk m c 0 t) (iblk m c 1 t) i j := by
  rw [outsAt0_B m c t (by omega) h (by omega)]; frame_out
  rw [pay2_at]
  unfold part
  refine congrArg₂ (fun a b : EReal => a + b) (congrFun (Memref.IsWhole.read_unread _ _) _) (congrArg₂ (fun a b : EReal => a + b) (Fin.sum_fin_congr fun x => congrArg₂ (fun a b : EReal => a * b) ?_ ?_)
    (Fin.sum_fin_congr fun x => congrArg₂ (fun a b : EReal => a * b) ?_ ?_))
  all_goals exact View.ld_unit_apply_of _ _ _ _ _ _ (by intro a; fin_cases a <;> simp)

theorem accC (c : Dev nD) (t : Fin cfg0.N) (h : t.val % 4 = 3) (i j : Fin 1024) :
    (outsAt0 m c t.val t.isLt).1 (ix2 i j) = (outsAt0 m c (t.val - 1) (Nat.lt_of_le_of_lt (Nat.sub_le _ _) t.isLt)).2 (ix2 i j) + part (iblk m c 0 t) (iblk m c 1 t) i j := by
  rw [outsAt0_C m c t (by omega) (by omega) h]; frame_out
  rw [pay3_at]
  unfold part
  refine congrArg₂ (fun a b : EReal => a + b) (congrFun (Memref.IsWhole.read_unread _ _) _) (congrArg₂ (fun a b : EReal => a + b) (Fin.sum_fin_congr fun x => congrArg₂ (fun a b : EReal => a * b) ?_ ?_)
    (Fin.sum_fin_congr fun x => congrArg₂ (fun a b : EReal => a * b) ?_ ?_))
  all_goals exact View.ld_unit_apply_of _ _ _ _ _ _ (by intro a; fin_cases a <;> simp)

theorem assoc8 (a b c d e f g h : EReal) : (((a + b) + (c + d)) + (e + f)) + (g + h) = a + b + c + d + e + f + g + h := by
  simp only [← add_assoc]

/-- One segment's part of an entry of the result. -/
def prod (A0 : FVec Ideal S8x4096x2048 .bf16) (A1 : FVec Ideal S4x4096x4096 .bf16) (k r j : ℕ) (hk : k < 8) (hr : r < 4096)
    (hj : j < 4096) : EReal :=
  ∑ x : Fin 2048, A0 (ix3 ⟨k, hk⟩ ⟨r, hr⟩ x) * A1 (ix3 ⟨k / 2, by omega⟩ ⟨j, hj⟩ ⟨2048 * (k % 2) + x.val, by omega⟩)

theorem prod_congr (A0 : FVec Ideal S8x4096x2048 .bf16) (A1 : FVec Ideal S4x4096x4096 .bf16) {k r j k' r' j' : ℕ} (hk hr hj hk' hr' hj')
    (h : k = k') (h' : r = r') (h'' : j = j') : prod A0 A1 k r j hk hr hj = prod A0 A1 k' r' j' hk' hr' hj' := by
  subst h; subst h'; subst h''; rfl

/-- An entry of the reference's term: the sum over the eight segments. -/
theorem ref_at (A0 : FVec Ideal S8x4096x2048 .bf16) (A1 : FVec Ideal S4x4096x4096 .bf16) (r j : Fin 4096) :
    REF A0 A1 (ix2 r j) = ∑ k : Fin 8, prod A0 A1 k.val r.val j.val k.isLt r.isLt j.isLt := by
  pointwise [REF]
  rw [Fin.sum_univ_tiles 8 2048 rfl]
  refine Fin.sum_fin_congr fun k => ?_
  unfold prod
  refine Fin.sum_fin_congr fun x => congrArg₂ (fun a b : EReal => a * b) ?_ ?_
  all_goals blk_ext

/-- A point's part of an entry: two segments of it. -/
theorem part_at (c : Dev nD) (t : Fin cfg0.N) (ht : t.val < 64) (i j : Fin 1024) : part (iblk m c 0 t) (iblk m c 1 t) i j
    = prod (m ((c : Thread nD τ).loc main_arg0)) (m ((c : Thread nD τ).loc main_arg1)) (2 * (t.val % 4)) (1024 * (t.val / 16) + i.val)
        (1024 * (t.val / 4 % 4) + j.val) (by omega) (by omega) (by omega)
      + prod (m ((c : Thread nD τ).loc main_arg0)) (m ((c : Thread nD τ).loc main_arg1)) (2 * (t.val % 4) + 1) (1024 * (t.val / 16) + i.val)
        (1024 * (t.val / 4 % 4) + j.val) (by omega) (by omega) (by omega) := by
  unfold part prod
  refine congrArg₂ (fun a b : EReal => a + b) (Fin.sum_fin_congr fun x => congrArg₂ (fun a b : EReal => a * b) ?_ ?_)
    (Fin.sum_fin_congr fun x => congrArg₂ (fun a b : EReal => a * b) ?_ ?_)
  all_goals blk_ext [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have ht : t.val < 64 := lt_of_lt_of_eq t.isLt N_0
  have hN : cfg0.N = 64 := N_0
  obtain ⟨t0, e0⟩ : ∃ t0 : Fin cfg0.N, t0.val = t.val - 3 := ⟨⟨t.val - 3, by omega⟩, rfl⟩
  obtain ⟨t1, e1⟩ : ∃ t1 : Fin cfg0.N, t1.val = t.val - 2 := ⟨⟨t.val - 2, by omega⟩, rfl⟩
  obtain ⟨t2, e2⟩ : ∃ t2 : Fin cfg0.N, t2.val = t.val - 1 := ⟨⟨t.val - 1, by omega⟩, rfl⟩
  have key : ∀ i j : Fin 1024, (outsAt0 m c t.val t.isLt).1 (ix2 i j)
      = ((part (iblk m c 0 t0) (iblk m c 1 t0) i j + part (iblk m c 0 t1) (iblk m c 1 t1) i j)
        + part (iblk m c 0 t2) (iblk m c 1 t2) i j) + part (iblk m c 0 t) (iblk m c 1 t) i j := by
    intro i j
    have hcongr : ∀ n n' (h : n < cfg0.N) (h' : n' < cfg0.N), n = n' → outsAt0 m c n h = outsAt0 m c n' h' := by
      rintro n _ h h' rfl; rfl
    rw [accC m c t h3 i j, hcongr (t.val - 1) t2.val _ t2.isLt (by omega), accB m c t2 (by omega) i j,
      hcongr (t2.val - 1) t1.val _ t1.isLt (by omega), accB m c t1 (by omega) i j,
      hcongr (t1.val - 1) t0.val _ t0.isLt (by omega), accA m c t0 (by omega) i j]
  blk_simp
  rw [after0_2]
  idx_vars y
  rw [key]
  obtain ⟨r, er⟩ : ∃ r : Fin 4096, r.val = 1024 * (t.val / 16) + y0.val := ⟨⟨1024 * (t.val / 16) + y0.val, by omega⟩, rfl⟩
  obtain ⟨s, es⟩ : ∃ s : Fin 4096, s.val = 1024 * (t.val / 4 % 4) + y1.val := ⟨⟨1024 * (t.val / 4 % 4) + y1.val, by omega⟩, rfl⟩
  rw [part_at m c t0 (by omega), part_at m c t1 (by omega), part_at m c t2 (by omega), part_at m c t ht]
  refine Eq.trans ?_ (congrArg (REF (m ((c : Thread nD τ).loc main_arg0)) (m ((c : Thread nD τ).loc main_arg1)))
    (?_ : ix2 r s = _))
  rotate_left
  · blk_ext [idx t]
  rw [ref_at, Fin.sum_univ_eight]
  refine (assoc8 _ _ _ _ _ _ _ _).trans ?_
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_
  all_goals exact prod_congr _ _ _ _ _ _ _ _ (by fin_omega) (by fin_omega) (by fin_omega)

end Cert.KernelXIdeal.Value

end
-- ==== Proof.ValueOY.lean ====
/- The gradients of the two mixers' outputs: the kernel's result array is the reference's, entry by entry. -/
module

public import proofs.«01_k».proof.Proof.Gen.KernelOYIdeal.Frame
public import proofs.«01_k».proof.Proof.Gen.ReferenceOYIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelOYIdeal.Value

open Cert.KernelOYIdeal Cert.KernelOYIdeal.Gen

variable (m : (ℓ : Loc nD τ sig) → Buf (Elt Ideal) ℓ)

/-- The reference's term over the arguments. -/
abbrev REF (A0 : FVec Ideal S4096x4096 .bf16) (A1 : FVec Ideal S4096x4096 .bf16) : FVec Ideal S2x4096x2048 .f32 :=
  concatenate Cert.ReferenceOYIdeal.S2x4096x2048 0 [⟨Cert.ReferenceOYIdeal.S1x4096x2048, (broadcastInDim Cert.ReferenceOYIdeal.S1x4096x2048 ![1, 2] Cert.ReferenceOYIdeal.Gen.bcast_S4096x2048_S1x4096x2048_1_2 (extractStridedSlice Cert.ReferenceOYIdeal.S4096x2048 ![0, 0] (Host.dotGeneral Cert.ReferenceOYIdeal.dot_S4096x4096_S4096x4096_S4096x4096_1_1_0_0_n_n none (extf .f32 A0 Cert.ReferenceOYIdeal.Gen.bitsLt_bf16_f32) (extf .f32 A1 Cert.ReferenceOYIdeal.Gen.bitsLt_bf16_f32)) Cert.ReferenceOYIdeal.Gen.slices_S4096x4096_S4096x2048_0_0))⟩, ⟨Cert.ReferenceOYIdeal.S1x4096x2048, (broadcastInDim Cert.ReferenceOYIdeal.S1x4096x2048 ![1, 2] Cert.ReferenceOYIdeal.Gen.bcast_S4096x2048_S1x4096x2048_1_2 (extractStridedSlice Cert.ReferenceOYIdeal.S4096x2048 ![0, 2048] (Host.dotGeneral Cert.ReferenceOYIdeal.dot_S4096x4096_S4096x4096_S4096x4096_1_1_0_0_n_n none (extf .f32 A0 Cert.ReferenceOYIdeal.Gen.bitsLt_bf16_f32) (extf .f32 A1 Cert.ReferenceOYIdeal.Gen.bitsLt_bf16_f32)) Cert.ReferenceOYIdeal.Gen.slices_S4096x4096_S4096x2048_0_2048))⟩] Cert.ReferenceOYIdeal.Gen.concatenates_S1x4096x2048_S1x4096x2048_S2x4096x2048_d0

/-- The blocks' indices at a grid point. -/
theorem idx : ∀ t : Fin cfg0.N, win0_0.index t = ![t.val / 4, 0] ∧ win0_1.index t = ![t.val % 4, 0]
    ∧ win0_2.index t = ![t.val % 4 / 2, t.val / 4, t.val % 2] := (by decide +kernel : ∀ t : Fin grid0.N, _)

/-- What a grid point stores at an index of its block is the reference at that index of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  have ht : t.val < 16 := lt_of_lt_of_eq t.isLt N_0
  pointwise [k0_pay1, REF]
  split
  · rename_i h
    blk_simp [idx t] at h
    refine Fin.sum_fin_congr fun x => congrArg₂ (fun a b : EReal => a * b) ?_ ?_
    · blk_ext [iblk, V, idx t]
    · blk_ext [iblk, V, idx t]
  · rename_i h
    blk_simp [idx t] at h
    refine Fin.sum_fin_congr fun x => congrArg₂ (fun a b : EReal => a * b) ?_ ?_
    · blk_ext [iblk, V, idx t]
    · blk_ext [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelOYIdeal.Value

end
-- ==== Proof.ValueOW.lean ====
/- The weight gradient of the out-projection: the kernel's result array is the reference's, entry by entry. -/
module

public import proofs.«01_k».proof.Proof.Gen.KernelOWIdeal.Frame
public import proofs.«01_k».proof.Proof.Gen.ReferenceOWIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelOWIdeal.Value

open Cert.KernelOWIdeal Cert.KernelOWIdeal.Gen

variable (m : (ℓ : Loc nD τ sig) → Buf (Elt Ideal) ℓ)

/-- The reference's term over the arguments. -/
abbrev REF (A0 : FVec Ideal S2x4096x2048 .bf16) (A1 : FVec Ideal S4096x4096 .bf16) : FVec Ideal S4096x4096 .bf16 :=
  truncf .bf16 (transpose Cert.ReferenceOWIdeal.S4096x4096 [1, 0] (Host.dotGeneral Cert.ReferenceOWIdeal.dot_S4096x4096_S4096x4096_S4096x4096_0_0_1_1_n_n none (extf .f32 A1 Cert.ReferenceOWIdeal.Gen.bitsLt_bf16_f32) (concatenate Cert.ReferenceOWIdeal.S4096x4096 1 [⟨Cert.ReferenceOWIdeal.S4096x2048, (extf .f32 (shapeCast _ (extractStridedSlice Cert.ReferenceOWIdeal.S1x4096x2048 ![0, 0, 0] A0 Cert.ReferenceOWIdeal.Gen.slices_S2x4096x2048_S1x4096x2048_0_0_0) Cert.ReferenceOWIdeal.Gen.shapeCasts_S1x4096x2048_S4096x2048) Cert.ReferenceOWIdeal.Gen.bitsLt_bf16_f32)⟩, ⟨Cert.ReferenceOWIdeal.S4096x2048, (extf .f32 (shapeCast _ (extractStridedSlice Cert.ReferenceOWIdeal.S1x4096x2048 ![1, 0, 0] A0 Cert.ReferenceOWIdeal.Gen.slices_S2x4096x2048_S1x4096x2048_1_0_0) Cert.ReferenceOWIdeal.Gen.shapeCasts_S1x4096x2048_S4096x2048) Cert.ReferenceOWIdeal.Gen.bitsLt_bf16_f32)⟩] Cert.ReferenceOWIdeal.Gen.concatenates_S4096x2048_S4096x2048_S4096x4096_d1)) Cert.ReferenceOWIdeal.Gen.transposes_S4096x4096_S4096x4096_1_0) Cert.ReferenceOWIdeal.Gen.bitsLt_bf16_f32

/-- The blocks' indices at a grid point. -/
theorem idx : ∀ t : Fin cfg0.N, win0_0.index t = ![t.val / 8, 0, t.val / 4 % 2] ∧ win0_1.index t = ![0, t.val % 4]
    ∧ win0_2.index t = ![t.val / 4, t.val % 4] := (by decide +kernel : ∀ t : Fin grid0.N, _)

/-- What a grid point stores at an index of its block is the reference at that index of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  have ht : t.val < 16 := lt_of_lt_of_eq t.isLt N_0
  pointwise [k0_pay1, REF]
  refine Fin.sum_fin_congr fun x => ?_
  refine (mul_comm (G := EReal) _ _).trans (congrArg₂ (fun a b : EReal => a * b) ?_ ?_)
  · blk_ext [iblk, V, idx t]
  · split
    · rename_i h
      blk_simp [idx t] at h
      blk_ext [iblk, V, idx t]
    · rename_i h
      blk_simp [idx t] at h
      blk_ext [iblk, V, idx t]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelOWIdeal.Value

end
-- ==== Proof.ValueOF.lean ====
/- The value of the out-projection: two grid points accumulate one block, one for each mixer. -/
module

public import proofs.«01_k».proof.Proof.Gen.KernelOFIdeal.Frame
public import proofs.«01_k».proof.Proof.Gen.ReferenceOFIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceOFIdeal.Value

open Cert.ReferenceOFIdeal Cert.ReferenceOFIdeal.Gen

/-- The term of the result 0 over the arguments. -/
abbrev REF0 (A0 : FVec Ideal S2x4096x2048 .bf16) (A1 : FVec Ideal S4096x4096 .bf16) : FVec Ideal S4096x4096 .f32 :=
  Host.dotGeneral dot_S4096x4096_S4096x4096_S4096x4096_1_0_0_1_n_n none (concatenate S4096x4096 1 [⟨S4096x2048, (extf .f32 (shapeCast _ (extractStridedSlice S1x4096x2048 ![0, 0, 0] A0 slices_S2x4096x2048_S1x4096x2048_0_0_0) shapeCasts_S1x4096x2048_S4096x2048) bitsLt_bf16_f32)⟩, ⟨S4096x2048, (extf .f32 (shapeCast _ (extractStridedSlice S1x4096x2048 ![1, 0, 0] A0 slices_S2x4096x2048_S1x4096x2048_1_0_0) shapeCasts_S1x4096x2048_S4096x2048) bitsLt_bf16_f32)⟩] concatenates_S4096x2048_S4096x2048_S4096x4096_d1) (extf .f32 A1 bitsLt_bf16_f32)

end Cert.ReferenceOFIdeal.Value

namespace Cert.KernelOFIdeal.Value

open Cert.KernelOFIdeal Cert.KernelOFIdeal.Gen
open Cert.ReferenceOFIdeal.Value (REF0)

variable (m : (ℓ : Loc nD τ sig) → Buf (Elt Ideal) ℓ)

/-- The blocks' indices at a grid point. -/
theorem idx : ∀ t : Fin cfg0.N, win0_0.index t = ![t.val % 2, t.val / 8, 0] ∧ win0_1.index t = ![t.val % 2, t.val / 2 % 4]
    ∧ win0_2.index t = ![t.val / 8, t.val / 2 % 4] := (by decide +kernel : ∀ t : Fin grid0.N, _)

/-- A block's product at an entry. -/
abbrev part (a : FVec Ideal S1x1024x2048 .bf16) (b : FVec Ideal S2048x1024 .bf16) (i j : Fin 1024) : EReal :=
  ∑ x : Fin 2048, a (ix3 0 i x) * b (ix2 x j)

theorem pay1_at (a b) (i j : Fin 1024) : k0_pay1 (F := Ideal) a b (ix2 i j) = part a b i j := by
  pointwise [k0_pay1]

theorem pay2_at (s a b) (i j : Fin 1024) : k0_pay2 (F := Ideal) s a b (ix2 i j)
    = s (ix2 i j) + part a b i j := by
  pointwise [k0_pay2]

/-- One mixer's part of an entry of the result. -/
def prod (A0 : FVec Ideal S2x4096x2048 .bf16) (A1 : FVec Ideal S4096x4096 .bf16) (k r j : ℕ) (hk : k < 2) (hr : r < 4096)
    (hj : j < 4096) : EReal :=
  ∑ x : Fin 2048, A0 (ix3 ⟨k, hk⟩ ⟨r, hr⟩ x) * A1 (ix2 ⟨2048 * k + x.val, by omega⟩ ⟨j, hj⟩)

theorem prod_congr (A0 : FVec Ideal S2x4096x2048 .bf16) (A1 : FVec Ideal S4096x4096 .bf16) {k r j k' r' j' : ℕ} (hk hr hj hk' hr' hj')
    (h : k = k') (h' : r = r') (h'' : j = j') : prod A0 A1 k r j hk hr hj = prod A0 A1 k' r' j' hk' hr' hj' := by
  subst h; subst h'; subst h''; rfl

/-- An entry of the reference's term: the sum over the two mixers. -/
theorem ref_at (A0 : FVec Ideal S2x4096x2048 .bf16) (A1 : FVec Ideal S4096x4096 .bf16) (r j : Fin 4096) :
    REF0 A0 A1 (ix2 r j) = ∑ k : Fin 2, prod A0 A1 k.val r.val j.val k.isLt r.isLt j.isLt := by
  pointwise [REF0]
  rw [Fin.sum_univ_two]
  refine congrArg₂ (fun a b : EReal => a + b) ?_ ?_
  all_goals
    unfold prod
    refine Fin.sum_fin_congr fun x => congrArg₂ (fun a b : EReal => a * b) ?_ ?_
    all_goals blk_ext

/-- A point's part of an entry: its mixer's. -/
theorem part_at (c : Dev nD) (t : Fin cfg0.N) (ht : t.val < 32) (i j : Fin 1024) :
    part (iblk m c 0 t) (iblk m c 1 t) i j
    = prod (m ((c : Thread nD τ).loc main_arg0)) (m ((c : Thread nD τ).loc main_arg1)) (t.val % 2) (1024 * (t.val / 8) + i.val)
        (1024 * (t.val / 2 % 4) + j.val) (by omega) (by omega) (by omega) := by
  unfold part prod
  refine Fin.sum_fin_congr fun x => congrArg₂ (fun a b : EReal => a * b) ?_ ?_
  all_goals blk_ext [iblk, V, idx t]

theorem accA (c : Dev nD) (t : Fin cfg0.N) (h : t.val % 2 = 0) (i j : Fin 1024) :
    (outsAt0 m c t.val t.isLt).2 (ix2 i j) = part (iblk m c 0 t) (iblk m c 1 t) i j := by
  rw [outsAt0_A m c t h (by omega)]; frame_out
  exact pay1_at _ _ i j

theorem accB (c : Dev nD) (t : Fin cfg0.N) (h : t.val % 2 = 1) (i j : Fin 1024) :
    (outsAt0 m c t.val t.isLt).1 (ix2 i j) = (outsAt0 m c (t.val - 1) (Nat.lt_of_le_of_lt (Nat.sub_le _ _) t.isLt)).2 (ix2 i j)
      + part (iblk m c 0 t) (iblk m c 1 t) i j := by
  rw [outsAt0_B m c t (by omega) h]; frame_out
  rw [pay2_at]
  exact congrArg₂ (fun a b : EReal => a + b) (congrFun (Memref.IsWhole.read_unread _ _) _) rfl

/-- The result array after the run. -/
theorem final (c : Dev nD) : (dats m 0 c).arrAt 2 (cfgs 0).N
    = REF0 (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have ht : t.val < 32 := lt_of_lt_of_eq t.isLt N_0
  have hN : cfg0.N = 32 := N_0
  obtain ⟨t0, e0⟩ : ∃ t0 : Fin cfg0.N, t0.val = t.val - 1 := ⟨⟨t.val - 1, by omega⟩, rfl⟩
  blk_simp
  rw [after0_2]
  idx_vars y
  have hcongr : ∀ n n' (h : n < cfg0.N) (h' : n' < cfg0.N), n = n' → outsAt0 m c n h = outsAt0 m c n' h' := by
    rintro n _ h h' rfl; rfl
  rw [accB m c t h1, hcongr (t.val - 1) t0.val _ t0.isLt (by omega), accA m c t0 (by omega), part_at m c t0 (by omega), part_at m c t ht]
  obtain ⟨r, er⟩ : ∃ r : Fin 4096, r.val = 1024 * (t.val / 8) + y0.val := ⟨⟨1024 * (t.val / 8) + y0.val, by omega⟩, rfl⟩
  obtain ⟨s, es⟩ : ∃ s : Fin 4096, s.val = 1024 * (t.val / 2 % 4) + y1.val := ⟨⟨1024 * (t.val / 2 % 4) + y1.val, by omega⟩, rfl⟩
  refine Eq.trans ?_ (congrArg (REF0 (m ((c : Thread nD τ).loc main_arg0)) (m ((c : Thread nD τ).loc main_arg1)))
    (?_ : ix2 r s = _))
  rotate_left
  · blk_ext [idx t]
  rw [ref_at, Fin.sum_univ_two]
  refine congrArg₂ (fun a b : EReal => a + b) ?_ ?_
  all_goals exact prod_congr _ _ _ _ _ _ _ _ (by fin_omega) (by fin_omega) (by fin_omega)

end Cert.KernelOFIdeal.Value

end
-- ==== Proof.ValueUI.lean ====
/- The values of one optimiser call: the gradient passed on, the step and both moments. -/
module

public import proofs.«01_k».proof.Proof.Gen.KernelUIIdeal.Frame
public import proofs.«01_k».proof.Proof.Gen.ReferenceUIIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceUIIdeal.Value

open Cert.ReferenceUIIdeal Cert.ReferenceUIIdeal.Gen

/-- The term of the result 0 over the arguments. -/
abbrev REF0 (A0 : FVec Ideal S4096x4096 .f32) (A1 : FVec Ideal S4096x4096 .f32) (A2 : FVec Ideal S4096x4096 .f32) (A3 : FVec Ideal S4096x4096 .f32) : FVec Ideal S4096x4096 .f32 :=
  A1

/-- The term of the result 1 over the arguments. -/
abbrev REF1 (A0 : FVec Ideal S4096x4096 .f32) (A1 : FVec Ideal S4096x4096 .f32) (A2 : FVec Ideal S4096x4096 .f32) (A3 : FVec Ideal S4096x4096 .f32) : FVec Ideal S4096x4096 .f32 :=
  mulf (broadcastInDim S4096x4096 ![] bcast_S_S4096x4096 (constant S_ .f32 0xBA83126F#32)) (addf (Host.divf (Host.divf (addf (mulf (broadcastInDim S4096x4096 ![] bcast_S_S4096x4096 (constant S_ .f32 0x3F666666#32)) A2) (mulf (broadcastInDim S4096x4096 ![] bcast_S_S4096x4096 (constant S_ .f32 0x3DCCCCCD#32)) A1)) (broadcastInDim S4096x4096 ![] bcast_S_S4096x4096 (constant S_ .f32 0x3F26BD02#32))) (addf (Host.sqrt (Host.divf (addf (mulf (broadcastInDim S4096x4096 ![] bcast_S_S4096x4096 (constant S_ .f32 0x3F7FBE77#32)) A3) (mulf (broadcastInDim S4096x4096 ![] bcast_S_S4096x4096 (constant S_ .f32 0x3A83126F#32)) (mulf A1 A1))) (broadcastInDim S4096x4096 ![] bcast_S_S4096x4096 (constant S_ .f32 0x3C231ACC#32)))) (broadcastInDim S4096x4096 ![] bcast_S_S4096x4096 (constant S_ .f32 0x322BCC77#32)))) (mulf (broadcastInDim S4096x4096 ![] bcast_S_S4096x4096 (constant S_ .f32 0x3C23D70A#32)) A0))

/-- The term of the result 2 over the arguments. -/
abbrev REF2 (A0 : FVec Ideal S4096x4096 .f32) (A1 : FVec Ideal S4096x4096 .f32) (A2 : FVec Ideal S4096x4096 .f32) (A3 : FVec Ideal S4096x4096 .f32) : FVec Ideal S4096x4096 .f32 :=
  addf (mulf (broadcastInDim S4096x4096 ![] bcast_S_S4096x4096 (constant S_ .f32 0x3F666666#32)) A2) (mulf (broadcastInDim S4096x4096 ![] bcast_S_S4096x4096 (constant S_ .f32 0x3DCCCCCD#32)) A1)

/-- The term of the result 3 over the arguments. -/
abbrev REF3 (A0 : FVec Ideal S4096x4096 .f32) (A1 : FVec Ideal S4096x4096 .f32) (A2 : FVec Ideal S4096x4096 .f32) (A3 : FVec Ideal S4096x4096 .f32) : FVec Ideal S4096x4096 .f32 :=
  addf (mulf (broadcastInDim S4096x4096 ![] bcast_S_S4096x4096 (constant S_ .f32 0x3F7FBE77#32)) A3) (mulf (broadcastInDim S4096x4096 ![] bcast_S_S4096x4096 (constant S_ .f32 0x3A83126F#32)) (mulf A1 A1))

end Cert.ReferenceUIIdeal.Value

namespace Cert.KernelUIIdeal.Value

open Cert.KernelUIIdeal Cert.KernelUIIdeal.Gen
open Cert.ReferenceUIIdeal.Value (REF0 REF1 REF2 REF3)

variable (m : (ℓ : Loc nD τ sig) → Buf (Elt Ideal) ℓ)

/-- The blocks' indices at a grid point. -/
theorem idx : ∀ t : Fin cfg0.N, win0_0.index t = ![t.val / 2, t.val % 2] ∧ win0_1.index t = ![t.val / 2, t.val % 2] ∧ win0_2.index t = ![t.val / 2, t.val % 2] ∧ win0_3.index t = ![t.val / 2, t.val % 2] ∧ win0_4.index t = ![t.val / 2, t.val % 2] ∧ win0_5.index t = ![t.val / 2, t.val % 2] ∧ win0_6.index t = ![t.val / 2, t.val % 2] ∧ win0_7.index t = ![t.val / 2, t.val % 2] := (by decide +kernel : ∀ t : Fin grid0.N, _)

theorem point4 (c : Dev nD) (t : Fin cfg0.N) (y : S256x2048.Idx) : (iblk m c 1 t : FVec Ideal S256x2048 .f32) y
    = REF0 (m ((c : Thread nD τ).loc main_arg0)) (m ((c : Thread nD τ).loc main_arg1)) (m ((c : Thread nD τ).loc main_arg2)) (m ((c : Thread nD τ).loc main_arg3)) (((cfg0.win 4).blk t).view.emb y) := by
  blk_ext [iblk, V, idx t]

theorem point5 (c : Dev nD) (t : Fin cfg0.N) (y : S256x2048.Idx) : (k0_pay3 (F := Ideal) (iblk m c 1 t) (iblk m c 0 t) (iblk m c 2 t) (iblk m c 3 t)) y
    = REF1 (m ((c : Thread nD τ).loc main_arg0)) (m ((c : Thread nD τ).loc main_arg1)) (m ((c : Thread nD τ).loc main_arg2)) (m ((c : Thread nD τ).loc main_arg3)) (((cfg0.win 5).blk t).view.emb y) := by
  have e0 : iblk m c 0 t y = m ((c : Thread nD τ).loc main_arg0) (((cfg0.win 5).blk t).view.emb y) := by blk_ext [iblk, V, idx t]
  have e1 : iblk m c 1 t y = m ((c : Thread nD τ).loc main_arg1) (((cfg0.win 5).blk t).view.emb y) := by blk_ext [iblk, V, idx t]
  have e2 : iblk m c 2 t y = m ((c : Thread nD τ).loc main_arg2) (((cfg0.win 5).blk t).view.emb y) := by blk_ext [iblk, V, idx t]
  have e3 : iblk m c 3 t y = m ((c : Thread nD τ).loc main_arg3) (((cfg0.win 5).blk t).view.emb y) := by blk_ext [iblk, V, idx t]
  pointwise [k0_pay3, k0_pay1, k0_pay2, REF1]
  rw [e0, e1, e2, e3]
  first | done | rfl

theorem point6 (c : Dev nD) (t : Fin cfg0.N) (y : S256x2048.Idx) : (k0_pay1 (F := Ideal) (iblk m c 1 t) (iblk m c 2 t)) y
    = REF2 (m ((c : Thread nD τ).loc main_arg0)) (m ((c : Thread nD τ).loc main_arg1)) (m ((c : Thread nD τ).loc main_arg2)) (m ((c : Thread nD τ).loc main_arg3)) (((cfg0.win 6).blk t).view.emb y) := by
  have e1 : iblk m c 1 t y = m ((c : Thread nD τ).loc main_arg1) (((cfg0.win 6).blk t).view.emb y) := by blk_ext [iblk, V, idx t]
  have e2 : iblk m c 2 t y = m ((c : Thread nD τ).loc main_arg2) (((cfg0.win 6).blk t).view.emb y) := by blk_ext [iblk, V, idx t]
  pointwise [k0_pay1, REF2]
  rw [e1, e2]
  first | done | rfl

theorem point7 (c : Dev nD) (t : Fin cfg0.N) (y : S256x2048.Idx) : (k0_pay2 (F := Ideal) (iblk m c 1 t) (iblk m c 3 t)) y
    = REF3 (m ((c : Thread nD τ).loc main_arg0)) (m ((c : Thread nD τ).loc main_arg1)) (m ((c : Thread nD τ).loc main_arg2)) (m ((c : Thread nD τ).loc main_arg3)) (((cfg0.win 7).blk t).view.emb y) := by
  have e1 : iblk m c 1 t y = m ((c : Thread nD τ).loc main_arg1) (((cfg0.win 7).blk t).view.emb y) := by blk_ext [iblk, V, idx t]
  have e3 : iblk m c 3 t y = m ((c : Thread nD τ).loc main_arg3) (((cfg0.win 7).blk t).view.emb y) := by blk_ext [iblk, V, idx t]
  pointwise [k0_pay2, REF3]
  rw [e1, e3]
  first | done | rfl

/-- The result array 0 after the run. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; frame_out
  exact point4 m c t y

/-- The result array 1 after the run. -/
theorem final5 (c : Dev nD) : (dats m 0 c).arrAt 5 (cfgs 0).N
    = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  exact point5 m c t y

/-- The result array 2 after the run. -/
theorem final6 (c : Dev nD) : (dats m 0 c).arrAt 6 (cfgs 0).N
    = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp; rw [after0_6]; frame_out
  exact point6 m c t y

/-- The result array 3 after the run. -/
theorem final7 (c : Dev nD) : (dats m 0 c).arrAt 7 (cfgs 0).N
    = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp; rw [after0_7]; frame_out
  exact point7 m c t y

end Cert.KernelUIIdeal.Value

end
-- ==== Proof.ValueUO.lean ====
/- The values of one optimiser call: the gradient passed on, the step and both moments. -/
module

public import proofs.«01_k».proof.Proof.Gen.KernelUOIdeal.Frame
public import proofs.«01_k».proof.Proof.Gen.ReferenceUOIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceUOIdeal.Value

open Cert.ReferenceUOIdeal Cert.ReferenceUOIdeal.Gen

/-- The term of the result 0 over the arguments. -/
abbrev REF0 (A0 : FVec Ideal S1024x4096 .f32) (A1 : FVec Ideal S1024x4096 .f32) (A2 : FVec Ideal S1024x4096 .f32) (A3 : FVec Ideal S1024x4096 .f32) : FVec Ideal S1024x4096 .f32 :=
  A1

/-- The term of the result 1 over the arguments. -/
abbrev REF1 (A0 : FVec Ideal S1024x4096 .f32) (A1 : FVec Ideal S1024x4096 .f32) (A2 : FVec Ideal S1024x4096 .f32) (A3 : FVec Ideal S1024x4096 .f32) : FVec Ideal S1024x4096 .f32 :=
  mulf (broadcastInDim S1024x4096 ![] bcast_S_S1024x4096 (constant S_ .f32 0xBA83126F#32)) (addf (Host.divf (Host.divf (addf (mulf (broadcastInDim S1024x4096 ![] bcast_S_S1024x4096 (constant S_ .f32 0x3F666666#32)) A2) (mulf (broadcastInDim S1024x4096 ![] bcast_S_S1024x4096 (constant S_ .f32 0x3DCCCCCD#32)) A1)) (broadcastInDim S1024x4096 ![] bcast_S_S1024x4096 (constant S_ .f32 0x3F26BD02#32))) (addf (Host.sqrt (Host.divf (addf (mulf (broadcastInDim S1024x4096 ![] bcast_S_S1024x4096 (constant S_ .f32 0x3F7FBE77#32)) A3) (mulf (broadcastInDim S1024x4096 ![] bcast_S_S1024x4096 (constant S_ .f32 0x3A83126F#32)) (mulf A1 A1))) (broadcastInDim S1024x4096 ![] bcast_S_S1024x4096 (constant S_ .f32 0x3C231ACC#32)))) (broadcastInDim S1024x4096 ![] bcast_S_S1024x4096 (constant S_ .f32 0x322BCC77#32)))) (mulf (broadcastInDim S1024x4096 ![] bcast_S_S1024x4096 (constant S_ .f32 0x3C23D70A#32)) A0))

/-- The term of the result 2 over the arguments. -/
abbrev REF2 (A0 : FVec Ideal S1024x4096 .f32) (A1 : FVec Ideal S1024x4096 .f32) (A2 : FVec Ideal S1024x4096 .f32) (A3 : FVec Ideal S1024x4096 .f32) : FVec Ideal S1024x4096 .f32 :=
  addf (mulf (broadcastInDim S1024x4096 ![] bcast_S_S1024x4096 (constant S_ .f32 0x3F666666#32)) A2) (mulf (broadcastInDim S1024x4096 ![] bcast_S_S1024x4096 (constant S_ .f32 0x3DCCCCCD#32)) A1)

/-- The term of the result 3 over the arguments. -/
abbrev REF3 (A0 : FVec Ideal S1024x4096 .f32) (A1 : FVec Ideal S1024x4096 .f32) (A2 : FVec Ideal S1024x4096 .f32) (A3 : FVec Ideal S1024x4096 .f32) : FVec Ideal S1024x4096 .f32 :=
  addf (mulf (broadcastInDim S1024x4096 ![] bcast_S_S1024x4096 (constant S_ .f32 0x3F7FBE77#32)) A3) (mulf (broadcastInDim S1024x4096 ![] bcast_S_S1024x4096 (constant S_ .f32 0x3A83126F#32)) (mulf A1 A1))

end Cert.ReferenceUOIdeal.Value

namespace Cert.KernelUOIdeal.Value

open Cert.KernelUOIdeal Cert.KernelUOIdeal.Gen
open Cert.ReferenceUOIdeal.Value (REF0 REF1 REF2 REF3)

variable (m : (ℓ : Loc nD τ sig) → Buf (Elt Ideal) ℓ)

/-- The blocks' indices at a grid point. -/
theorem idx : ∀ t : Fin cfg0.N, win0_0.index t = ![t.val / 2, t.val % 2] ∧ win0_1.index t = ![t.val / 2, t.val % 2] ∧ win0_2.index t = ![t.val / 2, t.val % 2] ∧ win0_3.index t = ![t.val / 2, t.val % 2] ∧ win0_4.index t = ![t.val / 2, t.val % 2] ∧ win0_5.index t = ![t.val / 2, t.val % 2] ∧ win0_6.index t = ![t.val / 2, t.val % 2] ∧ win0_7.index t = ![t.val / 2, t.val % 2] := (by decide +kernel : ∀ t : Fin grid0.N, _)

theorem point4 (c : Dev nD) (t : Fin cfg0.N) (y : S256x2048.Idx) : (iblk m c 1 t : FVec Ideal S256x2048 .f32) y
    = REF0 (m ((c : Thread nD τ).loc main_arg0)) (m ((c : Thread nD τ).loc main_arg1)) (m ((c : Thread nD τ).loc main_arg2)) (m ((c : Thread nD τ).loc main_arg3)) (((cfg0.win 4).blk t).view.emb y) := by
  blk_ext [iblk, V, idx t]

theorem point5 (c : Dev nD) (t : Fin cfg0.N) (y : S256x2048.Idx) : (k0_pay3 (F := Ideal) (iblk m c 1 t) (iblk m c 0 t) (iblk m c 2 t) (iblk m c 3 t)) y
    = REF1 (m ((c : Thread nD τ).loc main_arg0)) (m ((c : Thread nD τ).loc main_arg1)) (m ((c : Thread nD τ).loc main_arg2)) (m ((c : Thread nD τ).loc main_arg3)) (((cfg0.win 5).blk t).view.emb y) := by
  have e0 : iblk m c 0 t y = m ((c : Thread nD τ).loc main_arg0) (((cfg0.win 5).blk t).view.emb y) := by blk_ext [iblk, V, idx t]
  have e1 : iblk m c 1 t y = m ((c : Thread nD τ).loc main_arg1) (((cfg0.win 5).blk t).view.emb y) := by blk_ext [iblk, V, idx t]
  have e2 : iblk m c 2 t y = m ((c : Thread nD τ).loc main_arg2) (((cfg0.win 5).blk t).view.emb y) := by blk_ext [iblk, V, idx t]
  have e3 : iblk m c 3 t y = m ((c : Thread nD τ).loc main_arg3) (((cfg0.win 5).blk t).view.emb y) := by blk_ext [iblk, V, idx t]
  pointwise [k0_pay3, k0_pay1, k0_pay2, REF1]
  rw [e0, e1, e2, e3]
  first | done | rfl

theorem point6 (c : Dev nD) (t : Fin cfg0.N) (y : S256x2048.Idx) : (k0_pay1 (F := Ideal) (iblk m c 1 t) (iblk m c 2 t)) y
    = REF2 (m ((c : Thread nD τ).loc main_arg0)) (m ((c : Thread nD τ).loc main_arg1)) (m ((c : Thread nD τ).loc main_arg2)) (m ((c : Thread nD τ).loc main_arg3)) (((cfg0.win 6).blk t).view.emb y) := by
  have e1 : iblk m c 1 t y = m ((c : Thread nD τ).loc main_arg1) (((cfg0.win 6).blk t).view.emb y) := by blk_ext [iblk, V, idx t]
  have e2 : iblk m c 2 t y = m ((c : Thread nD τ).loc main_arg2) (((cfg0.win 6).blk t).view.emb y) := by blk_ext [iblk, V, idx t]
  pointwise [k0_pay1, REF2]
  rw [e1, e2]
  first | done | rfl

theorem point7 (c : Dev nD) (t : Fin cfg0.N) (y : S256x2048.Idx) : (k0_pay2 (F := Ideal) (iblk m c 1 t) (iblk m c 3 t)) y
    = REF3 (m ((c : Thread nD τ).loc main_arg0)) (m ((c : Thread nD τ).loc main_arg1)) (m ((c : Thread nD τ).loc main_arg2)) (m ((c : Thread nD τ).loc main_arg3)) (((cfg0.win 7).blk t).view.emb y) := by
  have e1 : iblk m c 1 t y = m ((c : Thread nD τ).loc main_arg1) (((cfg0.win 7).blk t).view.emb y) := by blk_ext [iblk, V, idx t]
  have e3 : iblk m c 3 t y = m ((c : Thread nD τ).loc main_arg3) (((cfg0.win 7).blk t).view.emb y) := by blk_ext [iblk, V, idx t]
  pointwise [k0_pay2, REF3]
  rw [e1, e3]
  first | done | rfl

/-- The result array 0 after the run. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; frame_out
  exact point4 m c t y

/-- The result array 1 after the run. -/
theorem final5 (c : Dev nD) : (dats m 0 c).arrAt 5 (cfgs 0).N
    = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp; rw [after0_5]; frame_out
  exact point5 m c t y

/-- The result array 2 after the run. -/
theorem final6 (c : Dev nD) : (dats m 0 c).arrAt 6 (cfgs 0).N
    = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp; rw [after0_6]; frame_out
  exact point6 m c t y

/-- The result array 3 after the run. -/
theorem final7 (c : Dev nD) : (dats m 0 c).arrAt 7 (cfgs 0).N
    = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp; rw [after0_7]; frame_out
  exact point7 m c t y

end Cert.KernelUOIdeal.Value

end
-- ==== Proof.ValueS.lean ====
/- The values of the small parameters' gradients, their optimiser step and the loss, from what the devices gathered. -/
module

public import proofs.«01_k».proof.Proof.Gen.KernelSIdeal.Frame
public import proofs.«01_k».proof.Proof.Gen.ReferenceSIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceSIdeal.Value

open Cert.ReferenceSIdeal Cert.ReferenceSIdeal.Gen

/-- The term of the result 0 over the arguments. -/
def REF0 (A0 : FVec Ideal S8x8x12288 .f32) (A1 : FVec Ideal S2x12288 .f32) (A2 : FVec Ideal S2x12288 .f32) (A3 : FVec Ideal S2x12288 .f32) : FVec Ideal S2x12288 .f32 :=
  concatenate S2x12288 0 [⟨S1x12288, (broadcastInDim S1x12288 ![1] bcast_S12288_S1x12288_1 (Host.reduceAdd (Host.reduceAdd (extractStridedSlice S8x2x12288 ![0, 0, 0] A0 slices_S8x8x12288_S8x2x12288_0_0_0) (constant S_ .f32 0x00000000#32) reducesTo_S8x2x12288_S2x12288_d0 h_S_) (constant S_ .f32 0x00000000#32) reducesTo_S2x12288_S12288_d0 h_S_))⟩, ⟨S1x12288, (broadcastInDim S1x12288 ![1] bcast_S12288_S1x12288_1 (Host.reduceAdd (Host.reduceAdd (extractStridedSlice S8x2x12288 ![0, 2, 0] A0 slices_S8x8x12288_S8x2x12288_0_2_0) (constant S_ .f32 0x00000000#32) reducesTo_S8x2x12288_S2x12288_d0 h_S_) (constant S_ .f32 0x00000000#32) reducesTo_S2x12288_S12288_d0 h_S_))⟩] concatenates_S1x12288_S1x12288_S2x12288_d0

/-- The term of the result 1 over the arguments. -/
abbrev REF1 (A0 : FVec Ideal S8x8x12288 .f32) (A1 : FVec Ideal S2x12288 .f32) (A2 : FVec Ideal S2x12288 .f32) (A3 : FVec Ideal S2x12288 .f32) : FVec Ideal S2x12288 .f32 :=
  mulf (broadcastInDim S2x12288 ![] bcast_S_S2x12288 (constant S_ .f32 0xBA83126F#32)) (addf (Host.divf (Host.divf (addf (mulf (broadcastInDim S2x12288 ![] bcast_S_S2x12288 (constant S_ .f32 0x3F666666#32)) A2) (mulf (broadcastInDim S2x12288 ![] bcast_S_S2x12288 (constant S_ .f32 0x3DCCCCCD#32)) (REF0 A0 A1 A2 A3))) (broadcastInDim S2x12288 ![] bcast_S_S2x12288 (constant S_ .f32 0x3F26BD02#32))) (addf (Host.sqrt (Host.divf (addf (mulf (broadcastInDim S2x12288 ![] bcast_S_S2x12288 (constant S_ .f32 0x3F7FBE77#32)) A3) (mulf (broadcastInDim S2x12288 ![] bcast_S_S2x12288 (constant S_ .f32 0x3A83126F#32)) (mulf (REF0 A0 A1 A2 A3) (REF0 A0 A1 A2 A3)))) (broadcastInDim S2x12288 ![] bcast_S_S2x12288 (constant S_ .f32 0x3C231ACC#32)))) (broadcastInDim S2x12288 ![] bcast_S_S2x12288 (constant S_ .f32 0x322BCC77#32)))) (mulf (broadcastInDim S2x12288 ![] bcast_S_S2x12288 (constant S_ .f32 0x3C23D70A#32)) A1))

/-- The term of the result 2 over the arguments. -/
abbrev REF2 (A0 : FVec Ideal S8x8x12288 .f32) (A1 : FVec Ideal S2x12288 .f32) (A2 : FVec Ideal S2x12288 .f32) (A3 : FVec Ideal S2x12288 .f32) : FVec Ideal S2x12288 .f32 :=
  addf (mulf (broadcastInDim S2x12288 ![] bcast_S_S2x12288 (constant S_ .f32 0x3F666666#32)) A2) (mulf (broadcastInDim S2x12288 ![] bcast_S_S2x12288 (constant S_ .f32 0x3DCCCCCD#32)) (REF0 A0 A1 A2 A3))

/-- The term of the result 3 over the arguments. -/
abbrev REF3 (A0 : FVec Ideal S8x8x12288 .f32) (A1 : FVec Ideal S2x12288 .f32) (A2 : FVec Ideal S2x12288 .f32) (A3 : FVec Ideal S2x12288 .f32) : FVec Ideal S2x12288 .f32 :=
  addf (mulf (broadcastInDim S2x12288 ![] bcast_S_S2x12288 (constant S_ .f32 0x3F7FBE77#32)) A3) (mulf (broadcastInDim S2x12288 ![] bcast_S_S2x12288 (constant S_ .f32 0x3A83126F#32)) (mulf (REF0 A0 A1 A2 A3) (REF0 A0 A1 A2 A3)))

/-- The term of the result 4 over the arguments. -/
abbrev REF4 (A0 : FVec Ideal S8x8x12288 .f32) (A1 : FVec Ideal S2x12288 .f32) (A2 : FVec Ideal S2x12288 .f32) (A3 : FVec Ideal S2x12288 .f32) : FVec Ideal S1x128 .f32 :=
  Host.reduceAdd (extractStridedSlice S8x1x128 ![0, 4, 0] A0 slices_S8x8x12288_S8x1x128_0_4_0) (constant S_ .f32 0x00000000#32) reducesTo_S8x1x128_S1x128_d0 h_S_

end Cert.ReferenceSIdeal.Value

namespace Cert.KernelSIdeal.Value

open Cert.KernelSIdeal Cert.KernelSIdeal.Gen
open Cert.ReferenceSIdeal.Value (REF0 REF1 REF2 REF3 REF4)

variable (m : (ℓ : Loc nD τ sig) → Buf (Elt Ideal) ℓ)

theorem idx : ∀ t : Fin cfg0.N, win0_0.index t = ![0,0,0] ∧ win0_1.index t = ![0,0] ∧ win0_2.index t = ![0,0] ∧ win0_3.index t = ![0,0] ∧ win0_4.index t = ![0,0] ∧ win0_5.index t = ![0,0] ∧ win0_6.index t = ![0,0] ∧ win0_7.index t = ![0,0] ∧ win0_8.index t = ![0,0] := (by decide +kernel : ∀ t : Fin grid0.N, _)

/-- A read of the gathered sums' buffer is a read of the argument. -/
theorem rd (c : Dev nD) : View.read (Elt Ideal) (View.whole cc0_stg0_0) ((hs0_0 t0_0).unread (iblk m c 0 t0_0))
    = m ((c : Thread nD τ).loc main_arg0) := by
  refine (Memref.IsWhole.read_unread _ _).trans (funext fun y => ?_)
  blk_ext [iblk, V, idx t0_0]

/-- Sixteen summands added one after the other are the sum over the devices of the sums over the examples. -/
theorem sum16 (f : Fin 8 → Fin 2 → EReal) : f 0 0 + f 0 1 + f 1 0 + f 1 1 + f 2 0 + f 2 1 + f 3 0 + f 3 1 + f 4 0 + f 4 1 + f 5 0
    + f 5 1 + f 6 0 + f 6 1 + f 7 0 + f 7 1 = ∑ i : Fin 2, ∑ k : Fin 8, f k i := by
  rw [Fin.sum_univ_two, Fin.sum_univ_eight, Fin.sum_univ_eight]
  abel

/-- The result array 4 after the run. -/
theorem final8 (c : Dev nD) : (dats m 0 c).arrAt 8 (cfgs 0).N
    = REF4 (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_0 (by decide +kernel) _ fun y => ?_
  blk_simp; rw [after0_8]; unfold outsAt0; frame_out
  pointwise [k0_pay7, k0_pay6, REF4]
  simp only [rd]
  rw [Fin.sum_univ_eight]

/-- The result array 0 after the run. -/
theorem final4 (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun y => ?_
  blk_simp; rw [after0_4]; unfold outsAt0; frame_out
  canon_tiles x h
  all_goals
    open_payloads
    pointwise [REF0]
    simp only [rd]
    rw [show (x 1 : Fin 12288) = (y 1 : Fin 12288) from Fin.ext h1.symm]
  · rw [dif_neg (by omega)]
    exact sum16 fun k i => m ((c : Thread nD τ).loc main_arg0) (ix3 k ⟨2 + i.val, by omega⟩ (y 1))
  · rw [dif_pos (by omega)]
    exact sum16 fun k i => m ((c : Thread nD τ).loc main_arg0) (ix3 k ⟨i.val, by omega⟩ (y 1))

/-- The result array 1 after the run. -/
theorem final5 (c : Dev nD) : (dats m 0 c).arrAt 5 (cfgs 0).N
    = REF1 (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_0 (by decide +kernel) _ fun y => ?_
  blk_simp; rw [after0_5]; unfold outsAt0; frame_out
  generalize hg : View.readCov (Val := Elt Ideal) _ _ _ = g
  have eg : g y = REF0 (m ((c : Thread nD τ).loc main_arg0)) (m ((c : Thread nD τ).loc main_arg1)) (m ((c : Thread nD τ).loc main_arg2)) (m ((c : Thread nD τ).loc main_arg3)) y := by
    rw [← hg, View.readCov_eq_canon']
    clear hg
    refine (congrArg _ (?_ : _ = y)).trans ?_
    · funext a
      refine Fin.ext ?_
      fin_cases a <;> simp [LoadRect.idx, Rect.unit, Rect.toLoadRect]
    canon_tiles x h
    all_goals
      open_payloads
      pointwise [REF0]
      simp only [rd]
      rw [show (x 1 : Fin 12288) = (y 1 : Fin 12288) from Fin.ext h1.symm]
    · rw [dif_neg (by omega)]
      exact sum16 fun k i => m ((c : Thread nD τ).loc main_arg0) (ix3 k ⟨2 + i.val, by omega⟩ (y 1))
    · rw [dif_pos (by omega)]
      exact sum16 fun k i => m ((c : Thread nD τ).loc main_arg0) (ix3 k ⟨i.val, by omega⟩ (y 1))

  have e1 : View.read (Elt Ideal) (View.whole cc0_stg1_0) ((hs0_1 t0_0).unread (iblk m c 1 t0_0)) y = m ((c : Thread nD τ).loc main_arg1) y := by
    refine (congrFun (Memref.IsWhole.read_unread _ _) _).trans ?_
    blk_ext [iblk, V, idx t0_0]
  have e2 : View.read (Elt Ideal) (View.whole cc0_stg2_0) ((hs0_2 t0_0).unread (iblk m c 2 t0_0)) y = m ((c : Thread nD τ).loc main_arg2) y := by
    refine (congrFun (Memref.IsWhole.read_unread _ _) _).trans ?_
    blk_ext [iblk, V, idx t0_0]
  have e3 : View.read (Elt Ideal) (View.whole cc0_stg3_0) ((hs0_3 t0_0).unread (iblk m c 3 t0_0)) y = m ((c : Thread nD τ).loc main_arg3) y := by
    refine (congrFun (Memref.IsWhole.read_unread _ _) _).trans ?_
    blk_ext [iblk, V, idx t0_0]
  pointwise [k0_pay11, k0_pay10, k0_pay9, k0_pay8, REF1]
  rw [eg, e1, e2, e3]

/-- The result array 2 after the run. -/
theorem final6 (c : Dev nD) : (dats m 0 c).arrAt 6 (cfgs 0).N
    = REF2 (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_0 (by decide +kernel) _ fun y => ?_
  blk_simp; rw [after0_6]; unfold outsAt0; frame_out
  generalize hg : View.readCov (Val := Elt Ideal) _ _ _ = g
  have eg : g y = REF0 (m ((c : Thread nD τ).loc main_arg0)) (m ((c : Thread nD τ).loc main_arg1)) (m ((c : Thread nD τ).loc main_arg2)) (m ((c : Thread nD τ).loc main_arg3)) y := by
    rw [← hg, View.readCov_eq_canon']
    clear hg
    refine (congrArg _ (?_ : _ = y)).trans ?_
    · funext a
      refine Fin.ext ?_
      fin_cases a <;> simp [LoadRect.idx, Rect.unit, Rect.toLoadRect]
    canon_tiles x h
    all_goals
      open_payloads
      pointwise [REF0]
      simp only [rd]
      rw [show (x 1 : Fin 12288) = (y 1 : Fin 12288) from Fin.ext h1.symm]
    · rw [dif_neg (by omega)]
      exact sum16 fun k i => m ((c : Thread nD τ).loc main_arg0) (ix3 k ⟨2 + i.val, by omega⟩ (y 1))
    · rw [dif_pos (by omega)]
      exact sum16 fun k i => m ((c : Thread nD τ).loc main_arg0) (ix3 k ⟨i.val, by omega⟩ (y 1))

  have e1 : View.read (Elt Ideal) (View.whole cc0_stg1_0) ((hs0_1 t0_0).unread (iblk m c 1 t0_0)) y = m ((c : Thread nD τ).loc main_arg1) y := by
    refine (congrFun (Memref.IsWhole.read_unread _ _) _).trans ?_
    blk_ext [iblk, V, idx t0_0]
  have e2 : View.read (Elt Ideal) (View.whole cc0_stg2_0) ((hs0_2 t0_0).unread (iblk m c 2 t0_0)) y = m ((c : Thread nD τ).loc main_arg2) y := by
    refine (congrFun (Memref.IsWhole.read_unread _ _) _).trans ?_
    blk_ext [iblk, V, idx t0_0]
  have e3 : View.read (Elt Ideal) (View.whole cc0_stg3_0) ((hs0_3 t0_0).unread (iblk m c 3 t0_0)) y = m ((c : Thread nD τ).loc main_arg3) y := by
    refine (congrFun (Memref.IsWhole.read_unread _ _) _).trans ?_
    blk_ext [iblk, V, idx t0_0]
  pointwise [k0_pay9, k0_pay8, REF2]
  rw [eg, e2]

/-- The result array 3 after the run. -/
theorem final7 (c : Dev nD) : (dats m 0 c).arrAt 7 (cfgs 0).N
    = REF3 (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_0 (by decide +kernel) _ fun y => ?_
  blk_simp; rw [after0_7]; unfold outsAt0; frame_out
  generalize hg : View.readCov (Val := Elt Ideal) _ _ _ = g
  have eg : g y = REF0 (m ((c : Thread nD τ).loc main_arg0)) (m ((c : Thread nD τ).loc main_arg1)) (m ((c : Thread nD τ).loc main_arg2)) (m ((c : Thread nD τ).loc main_arg3)) y := by
    rw [← hg, View.readCov_eq_canon']
    clear hg
    refine (congrArg _ (?_ : _ = y)).trans ?_
    · funext a
      refine Fin.ext ?_
      fin_cases a <;> simp [LoadRect.idx, Rect.unit, Rect.toLoadRect]
    canon_tiles x h
    all_goals
      open_payloads
      pointwise [REF0]
      simp only [rd]
      rw [show (x 1 : Fin 12288) = (y 1 : Fin 12288) from Fin.ext h1.symm]
    · rw [dif_neg (by omega)]
      exact sum16 fun k i => m ((c : Thread nD τ).loc main_arg0) (ix3 k ⟨2 + i.val, by omega⟩ (y 1))
    · rw [dif_pos (by omega)]
      exact sum16 fun k i => m ((c : Thread nD τ).loc main_arg0) (ix3 k ⟨i.val, by omega⟩ (y 1))

  have e1 : View.read (Elt Ideal) (View.whole cc0_stg1_0) ((hs0_1 t0_0).unread (iblk m c 1 t0_0)) y = m ((c : Thread nD τ).loc main_arg1) y := by
    refine (congrFun (Memref.IsWhole.read_unread _ _) _).trans ?_
    blk_ext [iblk, V, idx t0_0]
  have e2 : View.read (Elt Ideal) (View.whole cc0_stg2_0) ((hs0_2 t0_0).unread (iblk m c 2 t0_0)) y = m ((c : Thread nD τ).loc main_arg2) y := by
    refine (congrFun (Memref.IsWhole.read_unread _ _) _).trans ?_
    blk_ext [iblk, V, idx t0_0]
  have e3 : View.read (Elt Ideal) (View.whole cc0_stg3_0) ((hs0_3 t0_0).unread (iblk m c 3 t0_0)) y = m ((c : Thread nD τ).loc main_arg3) y := by
    refine (congrFun (Memref.IsWhole.read_unread _ _) _).trans ?_
    blk_ext [iblk, V, idx t0_0]
  pointwise [k0_pay10, k0_pay8, REF3]
  rw [eg, e3]

end Cert.KernelSIdeal.Value

end
-- ==== Proof.ValueA.lean ====
/- The values of the conditioning matrix's gradient with its optimiser step. -/
module

public import proofs.«01_k».proof.Proof.Gen.KernelAIdeal.Frame
public import proofs.«01_k».proof.Proof.Gen.ReferenceAIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceAIdeal.Value

open Cert.ReferenceAIdeal Cert.ReferenceAIdeal.Gen

/-- The term of the result 0 over the arguments. -/
def REF0 (A0 : FVec Ideal S4096x16 .f32) (A1 : FVec Ideal S16x3072 .f32) (A2 : FVec Ideal S4096x3072 .f32) (A3 : FVec Ideal S4096x3072 .f32) (A4 : FVec Ideal S4096x3072 .f32) : FVec Ideal S4096x3072 .f32 :=
  transpose S4096x3072 [1, 0] (Host.dotGeneral dot_S16x3072_S16x4096_S3072x4096_0_0_1_1_n_n none A1 (mulf (transpose S16x4096 [1, 0] A0 transposes_S4096x16_S16x4096_1_0) (Host.divf (broadcastInDim S16x4096 ![] bcast_S_S16x4096 (constant S_ .f32 0x3F800000#32)) (addf (broadcastInDim S16x4096 ![] bcast_S_S16x4096 (constant S_ .f32 0x3F800000#32)) (Host.exp (Host.negf (transpose S16x4096 [1, 0] A0 transposes_S4096x16_S16x4096_1_0))))))) transposes_S3072x4096_S4096x3072_1_0

/-- The term of the result 1 over the arguments. -/
abbrev REF1 (A0 : FVec Ideal S4096x16 .f32) (A1 : FVec Ideal S16x3072 .f32) (A2 : FVec Ideal S4096x3072 .f32) (A3 : FVec Ideal S4096x3072 .f32) (A4 : FVec Ideal S4096x3072 .f32) : FVec Ideal S4096x3072 .f32 :=
  mulf (broadcastInDim S4096x3072 ![] bcast_S_S4096x3072 (constant S_ .f32 0xBA83126F#32)) (addf (Host.divf (Host.divf (addf (mulf (broadcastInDim S4096x3072 ![] bcast_S_S4096x3072 (constant S_ .f32 0x3F666666#32)) A3) (mulf (broadcastInDim S4096x3072 ![] bcast_S_S4096x3072 (constant S_ .f32 0x3DCCCCCD#32)) (REF0 A0 A1 A2 A3 A4))) (broadcastInDim S4096x3072 ![] bcast_S_S4096x3072 (constant S_ .f32 0x3F26BD02#32))) (addf (Host.sqrt (Host.divf (addf (mulf (broadcastInDim S4096x3072 ![] bcast_S_S4096x3072 (constant S_ .f32 0x3F7FBE77#32)) A4) (mulf (broadcastInDim S4096x3072 ![] bcast_S_S4096x3072 (constant S_ .f32 0x3A83126F#32)) (mulf (REF0 A0 A1 A2 A3 A4) (REF0 A0 A1 A2 A3 A4)))) (broadcastInDim S4096x3072 ![] bcast_S_S4096x3072 (constant S_ .f32 0x3C231ACC#32)))) (broadcastInDim S4096x3072 ![] bcast_S_S4096x3072 (constant S_ .f32 0x322BCC77#32)))) (mulf (broadcastInDim S4096x3072 ![] bcast_S_S4096x3072 (constant S_ .f32 0x3C23D70A#32)) A2))

/-- The term of the result 2 over the arguments. -/
abbrev REF2 (A0 : FVec Ideal S4096x16 .f32) (A1 : FVec Ideal S16x3072 .f32) (A2 : FVec Ideal S4096x3072 .f32) (A3 : FVec Ideal S4096x3072 .f32) (A4 : FVec Ideal S4096x3072 .f32) : FVec Ideal S4096x3072 .f32 :=
  addf (mulf (broadcastInDim S4096x3072 ![] bcast_S_S4096x3072 (constant S_ .f32 0x3F666666#32)) A3) (mulf (broadcastInDim S4096x3072 ![] bcast_S_S4096x3072 (constant S_ .f32 0x3DCCCCCD#32)) (REF0 A0 A1 A2 A3 A4))

/-- The term of the result 3 over the arguments. -/
abbrev REF3 (A0 : FVec Ideal S4096x16 .f32) (A1 : FVec Ideal S16x3072 .f32) (A2 : FVec Ideal S4096x3072 .f32) (A3 : FVec Ideal S4096x3072 .f32) (A4 : FVec Ideal S4096x3072 .f32) : FVec Ideal S4096x3072 .f32 :=
  addf (mulf (broadcastInDim S4096x3072 ![] bcast_S_S4096x3072 (constant S_ .f32 0x3F7FBE77#32)) A4) (mulf (broadcastInDim S4096x3072 ![] bcast_S_S4096x3072 (constant S_ .f32 0x3A83126F#32)) (mulf (REF0 A0 A1 A2 A3 A4) (REF0 A0 A1 A2 A3 A4)))

end Cert.ReferenceAIdeal.Value

namespace Cert.KernelAIdeal.Value

open Cert.KernelAIdeal Cert.KernelAIdeal.Gen
open Cert.ReferenceAIdeal.Value (REF0 REF1 REF2 REF3)

variable (m : (ℓ : Loc nD τ sig) → Buf (Elt Ideal) ℓ)

/-- The blocks' indices at a grid point. -/
theorem idx : ∀ t : Fin cfg0.N, win0_0.index t = ![t.val / 3, 0] ∧ win0_1.index t = ![0, t.val % 3]
    ∧ win0_2.index t = ![t.val / 3, t.val % 3] ∧ win0_3.index t = ![t.val / 3, t.val % 3] ∧ win0_4.index t = ![t.val / 3, t.val % 3] ∧ win0_5.index t = ![t.val / 3, t.val % 3] ∧ win0_6.index t = ![t.val / 3, t.val % 3] ∧ win0_7.index t = ![t.val / 3, t.val % 3] ∧ win0_8.index t = ![t.val / 3, t.val % 3] := (by decide +kernel : ∀ t : Fin grid0.N, _)

/-- A block's gradient at an index is the reference's at that index of the array. -/
theorem pointg (c : Dev nD) (t : Fin cfg0.N) (y : S512x1024.Idx) : k0_pay2 (F := Ideal) (iblk m c 0 t) (iblk m c 1 t) y
    = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay2, REF0]
  refine Fin.sum_fin_congr fun x => ?_
  refine (mul_comm (G := EReal) _ _).trans (congrArg₂ (fun a b : EReal => a * b) ?_ ?_)
  · blk_ext [iblk, V, idx t]
  · have e0 : iblk m c 0 t (ix2 (y 0) x) = m ((c : Thread nD τ).loc main_arg0) (ix2 ((((cfg0.win 5).blk t).view.emb y) 0) x) := by
      blk_ext [iblk, V, idx t]
    rw [e0]
    exact congrArg (fun a : EReal => HMul.hMul (α := EReal) (β := EReal) (γ := EReal) (m ((c : Thread nD τ).loc main_arg0) (ix2 ((((cfg0.win 5).blk t).view.emb y) 0) x)) (Ideal.div 1 (1 + Ideal.exp a))) (zero_sub (G := EReal) _)

theorem point6 (c : Dev nD) (t : Fin cfg0.N) (y : S512x1024.Idx) : k0_pay1 (F := Ideal) (iblk m c 2 t) (k0_pay5 (iblk m c 0 t) (iblk m c 1 t) (iblk m c 3 t)) (k0_pay6 (iblk m c 0 t) (iblk m c 1 t) (iblk m c 4 t)) k0_pay7 y
    = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have eg : k0_pay2 (F := Ideal) (iblk m c 0 t) (iblk m c 1 t) y = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
    rw [pointg]; congr 1; blk_ext [idx t]
  have e2 : iblk m c 2 t y = m ((c : Thread nD τ).loc main_arg2) (((cfg0.win 6).blk t).view.emb y) := by blk_ext [iblk, V, idx t]
  have e3 : iblk m c 3 t y = m ((c : Thread nD τ).loc main_arg3) (((cfg0.win 6).blk t).view.emb y) := by blk_ext [iblk, V, idx t]
  have e4 : iblk m c 4 t y = m ((c : Thread nD τ).loc main_arg4) (((cfg0.win 6).blk t).view.emb y) := by blk_ext [iblk, V, idx t]
  pointwise [k0_pay1, k0_pay5, k0_pay6, k0_pay7, k0_pay3, k0_pay4, REF1]
  rw [eg, e2, e3, e4]
  first | done | rfl

theorem point7 (c : Dev nD) (t : Fin cfg0.N) (y : S512x1024.Idx) : k0_pay3 (F := Ideal) (iblk m c 0 t) (iblk m c 1 t) (iblk m c 3 t) y
    = REF2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have eg : k0_pay2 (F := Ideal) (iblk m c 0 t) (iblk m c 1 t) y = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
    rw [pointg]; congr 1; blk_ext [idx t]
  have e3 : iblk m c 3 t y = m ((c : Thread nD τ).loc main_arg3) (((cfg0.win 7).blk t).view.emb y) := by blk_ext [iblk, V, idx t]
  pointwise [k0_pay3, REF2]
  rw [eg, e3]
  first | done | rfl

theorem point8 (c : Dev nD) (t : Fin cfg0.N) (y : S512x1024.Idx) : k0_pay4 (F := Ideal) (iblk m c 0 t) (iblk m c 1 t) (iblk m c 4 t) y
    = REF3 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  have eg : k0_pay2 (F := Ideal) (iblk m c 0 t) (iblk m c 1 t) y = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
    rw [pointg]; congr 1; blk_ext [idx t]
  have e4 : iblk m c 4 t y = m ((c : Thread nD τ).loc main_arg4) (((cfg0.win 8).blk t).view.emb y) := by blk_ext [iblk, V, idx t]
  pointwise [k0_pay4, REF3]
  rw [eg, e4]
  first | done | rfl

/-- The result array 0 after the run. -/
theorem final5 (c : Dev nD) : (dats m 0 c).arrAt 5 (cfgs 0).N
    = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp; rw [after0_5]; frame_out
  exact pointg m c t y

/-- The result array 1 after the run. -/
theorem final6 (c : Dev nD) : (dats m 0 c).arrAt 6 (cfgs 0).N
    = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp; rw [after0_6]; frame_out
  exact point6 m c t y

/-- The result array 2 after the run. -/
theorem final7 (c : Dev nD) : (dats m 0 c).arrAt 7 (cfgs 0).N
    = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp; rw [after0_7]; frame_out
  exact point7 m c t y

/-- The result array 3 after the run. -/
theorem final8 (c : Dev nD) : (dats m 0 c).arrAt 8 (cfgs 0).N
    = REF3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp; rw [after0_8]; frame_out
  exact point8 m c t y

end Cert.KernelAIdeal.Value

end
-- ==== Proof.ChkI.lean ====
module

public import proofs.«01_k».proof.Proof.Gen.KernelIdeal.Skeleton

@[expose] public section

set_option maxRecDepth 16384

namespace Cert.KernelIdeal.Gen

open Cert.KernelIdeal
open Idealize.ShloMosaic

/-- At the four small words the check holds, by evaluation. -/
theorem chk_small : ∀ (k : Fin k0_t2_loop.trips) (v : Fin 5), k0_chk1 k (BitVec.ofNat 32 v.val) := by
  decide +kernel

/-- The check speaks of the word only through its clamp to `[1, k + 1]`. -/
theorem chk_congr (k : Fin k0_t2_loop.trips) (v v' : BitVec 32)
    (h : Scalar.minsi (Scalar.addi (Scf.iv 0#32 1#32 k) 1#32) (Scalar.maxsi 1#32 v)
      = Scalar.minsi (Scalar.addi (Scf.iv 0#32 1#32 k) 1#32) (Scalar.maxsi 1#32 v')) :
    k0_chk1 k v' → k0_chk1 k v := by
  unfold k0_chk1 k0_mult3 k0_mult4 k0_mult5 k0_mult6 k0_off9 k0_off10 k0_off11 k0_off12 k0_t3_loop k0_t4_loop
  dsimp only
  rw [h]
  exact id

theorem clamp_small : ∀ (k : Fin k0_t2_loop.trips) (v : BitVec 32), ∃ v' : Fin 5,
    Scalar.minsi (Scalar.addi (Scf.iv 0#32 1#32 k) 1#32) (Scalar.maxsi 1#32 v)
      = Scalar.minsi (Scalar.addi (Scf.iv 0#32 1#32 k) 1#32) (Scalar.maxsi 1#32 (BitVec.ofNat 32 v'.val)) := by
  intro k v
  have hk : ∀ k : Fin k0_t2_loop.trips, (Scalar.addi (Scf.iv 0#32 1#32 k) 1#32).toInt ≤ 4
      ∧ Scalar.minsi (Scalar.addi (Scf.iv 0#32 1#32 k) 1#32) (Scalar.maxsi 1#32 4#32)
        = Scalar.addi (Scf.iv 0#32 1#32 k) 1#32 := by decide +kernel
  obtain ⟨h4, hm⟩ := hk k
  by_cases h1 : v.toInt ≤ 1
  · refine ⟨1, ?_⟩
    have : Scalar.maxsi 1#32 v = Scalar.maxsi 1#32 (BitVec.ofNat 32 ((1 : Fin 5)).val) := by
      unfold Scalar.maxsi IntOp.maxsi
      have e1 : ((1 : Fin 5) : ℕ) = 1 := rfl
      rw [e1]
      by_cases hs : v.slt 1#32
      · rw [if_pos hs]; rfl
      · rw [if_neg hs]
        have : v.toInt = 1 := by
          rw [BitVec.slt_iff_toInt_lt] at hs
          have : (1#32 : BitVec 32).toInt = 1 := rfl
          omega
        have : v = 1#32 := by
          have h := BitVec.ofInt_toInt (x := v)
          rw [this] at h; rw [← h]; rfl
        rw [this]; rfl
    rw [this]
  · by_cases h5 : 4 ≤ v.toInt
    · refine ⟨4, ?_⟩
      have e4 : ((4 : Fin 5) : ℕ) = 4 := rfl
      rw [e4, hm]
      have hmax : Scalar.maxsi 1#32 v = v := by
        unfold Scalar.maxsi IntOp.maxsi
        refine if_neg ?_
        rw [BitVec.slt_iff_toInt_lt]
        have : (1#32 : BitVec 32).toInt = 1 := rfl
        omega
      rw [hmax]
      generalize Scalar.addi (Scf.iv 0#32 1#32 k) 1#32 = a at h4
      unfold Scalar.minsi IntOp.minsi
      by_cases hs : a.slt v
      · rw [if_pos hs]
      · rw [if_neg hs]
        rw [BitVec.slt_iff_toInt_lt] at hs
        exact BitVec.eq_of_toInt_eq (by omega)
    · have : v = 2#32 ∨ v = 3#32 := by
        have : v = BitVec.ofInt 32 v.toInt := by simp
        have h2 : v.toInt = 2 ∨ v.toInt = 3 := by omega
        rcases h2 with h | h <;> rw [h] at this <;> [left; right] <;> rw [this] <;> rfl
      rcases this with rfl | rfl
      · exact ⟨2, rfl⟩
      · exact ⟨3, rfl⟩

theorem k0_chk1_all (k0_t2 : Fin k0_t2_loop.trips) (v54 : BitVec 32) : k0_chk1 k0_t2 v54 := by
  obtain ⟨v', h⟩ := clamp_small k0_t2 v54
  exact chk_congr k0_t2 v54 _ h (chk_small k0_t2 v')

end Cert.KernelIdeal.Gen

end
-- ==== Proof.TripI.lean ====
/-
  The outer loop over the row blocks (`k0_t2`): one trip run once, what it leaves in the block of results it writes and in
  the two accumulators found by the run, and the loop's invariant from it.
-/
module

public import proofs.«01_k».proof.Proof.Gen.KernelIdeal.Loops
public import proofs.«01_k».proof.Proof.ChkI

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one trip of the outer loop holds: the blocks it reads, and the three buffers it writes. -/
abbrev Trip2 (c : Dev nD) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X7 : BufTy.Contents (Elt F) arg7.view.ty) (X10 : BufTy.Contents (Elt F) arg10.view.ty) (X13 : BufTy.Contents (Elt F) arg13.view.ty) (f11 : BufTy.Contents (Elt F) arg11.view.ty) (f14 : BufTy.Contents (Elt F) arg14.view.ty) (f15 : BufTy.Contents (Elt F) arg15.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg10.view.loc (c : Thread nD τ) ↦[arg10.view.set]{fullShare} X10) ∗ (arg13.view.loc (c : Thread nD τ) ↦[arg13.view.set]{fullShare} X13) ∗ (arg11.view.loc (c : Thread nD τ) ↦[arg11.view.set]{fullShare} f11) ∗ (arg14.view.loc (c : Thread nD τ) ↦[arg14.view.set]{fullShare} f14) ∗ (arg15.view.loc (c : Thread nD τ) ↦[arg15.view.set]{fullShare} f15))

/-- One trip of the outer loop, run once: the pieces it writes into the result block and the contents it leaves in the two
    accumulators, as functions of the accumulators it finds. -/
@[irreducible] def trip2 (𝒱 : Variants) (c : Dev nD) (bd : Option 𝒱.V) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X7 : BufTy.Contents (Elt F) arg7.view.ty) (X10 : BufTy.Contents (Elt F) arg10.view.ty) (X13 : BufTy.Contents (Elt F) arg13.view.ty) (k : Fin k0_t2_loop.trips) :
    Σ' (L11 : BufTy.Contents (Elt F) arg14.view.ty → BufTy.Contents (Elt F) arg15.view.ty → List (View.Piece (Elt F) S4x1x2048x128 .bf16)) (L14 : BufTy.Contents (Elt F) arg14.view.ty → BufTy.Contents (Elt F) arg15.view.ty → List (View.Piece (Elt F) S2048x128 .f32)),
      { L15 : BufTy.Contents (Elt F) arg14.view.ty → BufTy.Contents (Elt F) arg15.view.ty → List (View.Piece (Elt F) S2048x128 .f32) // ∀ (E : Set ℕ) (acc : Unit) (f11 : BufTy.Contents (Elt F) arg11.view.ty) (f14 : BufTy.Contents (Elt F) arg14.view.ty) (f15 : BufTy.Contents (Elt F) arg15.view.ty),
      Trip2 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 f11 f14 f15
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k acc)
          (fun _ => Trip2 (F := F) c arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 (arg11.view.writes (Elt F) f11 (L11 f14 f15)) (arg14.view.writes (Elt F) f14 (L14 f14 f15)) (arg15.view.writes (Elt F) f15 (L15 f14 f15))) } := by
  refine ⟨?_, ?_, ?_, fun E acc f11 f14 f15 => ?run⟩
  case run =>
    unfold k0_t2_body
    iintro ⟨H2, H3, H4, H7, H10, H13, W11, W14, W15⟩
    sl_exec
    sl_step
    sl_close

/-- The state before trip `k`: the result block's pieces so far and the two accumulators. -/
def st2 (𝒱 : Variants) (c : Dev nD) (bd : Option 𝒱.V) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X7 : BufTy.Contents (Elt F) arg7.view.ty) (X10 : BufTy.Contents (Elt F) arg10.view.ty) (X13 : BufTy.Contents (Elt F) arg13.view.ty) (G14 : BufTy.Contents (Elt F) arg14.view.ty) (G15 : BufTy.Contents (Elt F) arg15.view.ty) : ℕ → List (View.Piece (Elt F) S4x1x2048x128 .bf16) × List (View.Piece (Elt F) S2048x128 .f32) × List (View.Piece (Elt F) S2048x128 .f32)
  | 0 => ([], [], [])
  | k + 1 =>
    let p := st2 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k
    if h : k < k0_t2_loop.trips then
      ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 ⟨k, h⟩).1 (arg14.view.writes (Elt F) G14 p.2.1) (arg15.view.writes (Elt F) G15 p.2.2) ++ p.1,
        (trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 ⟨k, h⟩).2.1 (arg14.view.writes (Elt F) G14 p.2.1) (arg15.view.writes (Elt F) G15 p.2.2) ++ p.2.1,
        (trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 ⟨k, h⟩).2.2.1 (arg14.view.writes (Elt F) G14 p.2.1) (arg15.view.writes (Elt F) G15 p.2.2) ++ p.2.2)
    else p

theorem st2_succ (𝒱 : Variants) (c : Dev nD) (bd : Option 𝒱.V) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X7 : BufTy.Contents (Elt F) arg7.view.ty) (X10 : BufTy.Contents (Elt F) arg10.view.ty) (X13 : BufTy.Contents (Elt F) arg13.view.ty) (G14 : BufTy.Contents (Elt F) arg14.view.ty) (G15 : BufTy.Contents (Elt F) arg15.view.ty) (k : Fin k0_t2_loop.trips) :
    st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 (k.val + 1)
      = ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 k).1 (arg14.view.writes (Elt F) G14 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.1) (arg15.view.writes (Elt F) G15 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.2) ++ (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).1,
        (trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 k).2.1 (arg14.view.writes (Elt F) G14 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.1) (arg15.view.writes (Elt F) G15 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.2) ++ (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.1,
        (trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 k).2.2.1 (arg14.view.writes (Elt F) G14 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.1) (arg15.view.writes (Elt F) G15 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.2) ++ (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k.val).2.2) := by
  rw [st2.eq_2]; exact dif_pos k.isLt

/-- Before trip `k`: the blocks read as they were, the written buffers at the state. -/
abbrev inv2 (𝒱 : Variants) (c : Dev nD) (bd : Option 𝒱.V) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X7 : BufTy.Contents (Elt F) arg7.view.ty) (X10 : BufTy.Contents (Elt F) arg10.view.ty) (X13 : BufTy.Contents (Elt F) arg13.view.ty) (G11 : BufTy.Contents (Elt F) arg11.view.ty) (G14 : BufTy.Contents (Elt F) arg14.view.ty) (G15 : BufTy.Contents (Elt F) arg15.view.ty) (k : ℕ) (acc : Unit) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg10.view.loc (c : Thread nD τ) ↦[arg10.view.set]{fullShare} X10) ∗ (arg13.view.loc (c : Thread nD τ) ↦[arg13.view.set]{fullShare} X13)
    ∗ (∃ f, (arg11.view.loc (c : Thread nD τ) ↦[arg11.view.set]{fullShare} f) ∗ ⌜f = arg11.view.writes (Elt F) G11 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k).1⌝)
    ∗ (∃ f, (arg14.view.loc (c : Thread nD τ) ↦[arg14.view.set]{fullShare} f) ∗ ⌜f = arg14.view.writes (Elt F) G14 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k).2.1⌝)
    ∗ (∃ f, (arg15.view.loc (c : Thread nD τ) ↦[arg15.view.set]{fullShare} f) ∗ ⌜f = arg15.view.writes (Elt F) G15 (st2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G14 G15 k).2.2⌝))

set_option warn.classDefReducibility false in
/-- The outer loop by its invariant. -/
@[sl_loop] def loopInv2 (𝒱 : Variants) (c : Dev nD) (bd : Option 𝒱.V) (E : Set ℕ) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X7 : BufTy.Contents (Elt F) arg7.view.ty) (X10 : BufTy.Contents (Elt F) arg10.view.ty) (X13 : BufTy.Contents (Elt F) arg13.view.ty) (G11 : BufTy.Contents (Elt F) arg11.view.ty) (G14 : BufTy.Contents (Elt F) arg14.view.ty) (G15 : BufTy.Contents (Elt F) arg15.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 where
  inv := inv2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 G11 G14 G15
  step k acc := by
    iintro ⟨H2, H3, H4, H7, H10, H13, ⟨%f11, W11, %h11⟩, ⟨%f14, W14, %h14⟩, ⟨%f15, W15, %h15⟩⟩
    iapply (wp_wand_r Idealize.ShloMosaic.frame (wpE (defs₀ (F := F)) 𝒱 (c : Thread nD τ) bd) E)
    isplitl [H2 H3 H4 H7 H10 H13 W11 W14 W15]
    · iapply ((trip2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X2 X3 X4 X7 X10 X13 k).2.2.2 E acc f11 f14 f15)
      isplitl [H2]; · iexact H2
      isplitl [H3]; · iexact H3
      isplitl [H4]; · iexact H4
      isplitl [H7]; · iexact H7
      isplitl [H10]; · iexact H10
      isplitl [H13]; · iexact H13
      isplitl [W11]; · iexact W11
      isplitl [W14]; · iexact W14
      iexact W15
    · iintro %y ⟨H2, H3, H4, H7, H10, H13, W11, W14, W15⟩
      isplitl [H2]; · iexact H2
      isplitl [H3]; · iexact H3
      isplitl [H4]; · iexact H4
      isplitl [H7]; · iexact H7
      isplitl [H10]; · iexact H10
      isplitl [H13]; · iexact H13
      rw [st2_succ]
      isplitl [W11]
      · iexists _; isplitl [W11]; · iexact W11
        ipureintro; rw [h11, h14, h15, View.writes_append]
      isplitl [W14]
      · iexists _; isplitl [W14]; · iexact W14
        ipureintro; rw [h14, h15, View.writes_append]
      iexists _; isplitl [W15]; · iexact W15
      ipureintro; rw [h14, h15, View.writes_append]

end Cert.Proof.KernelIdeal

end
-- ==== Proof.BodyI.lean ====
/-
  The kernel body run once on whole memrefs: the pieces it writes into the two result blocks, found by the run.
-/
module

public import proofs.«01_k».proof.Proof.TripI

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev 𝒱₀ : Variants := Variants.none

/-- The body on whole memrefs: the blocks read stay as they were; the first result block ends holding pieces the run finds, as
    functions of what the scratch held before, the second the contents `C12`. -/
@[irreducible] def bodyRun (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) :
    Σ' (L11 : BufTy.Contents (Elt F) arg13.view.ty → BufTy.Contents (Elt F) arg14.view.ty → BufTy.Contents (Elt F) arg15.view.ty → List (View.Piece (Elt F) S4x1x2048x128 .bf16)),
      { C12 : BufTy.Contents (Elt F) arg12.view.ty // ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (K : PUnit → sProp 𝕄G),
      iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
        ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) f11 (L11 f13 f14 f15))) ∗ (arg12.view.loc (c : Thread nD τ) ↦[arg12.view.set]{fullShare} C12)
            ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) -∗ K ⟨⟩))
      ⊢ wp frame (wpE (defs₀ (F := F)) 𝒱₀ (c : Thread nD τ) none) E (cc0_sb_bwd (F := F) i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E f11 f12 f13 f14 f15 K => ?run⟩
  case run =>
    iintro ⟨H2, H3, H4, H5, H6, H7, H8, H9, H10, W11, W12, W13, W14, W15, Hk⟩
    sl_unfold [cc0_sb_bwd]
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    sl_close

end Cert.Proof.KernelIdeal

end
-- ==== Proof.FrameI.lean ====
/-
  The kernel body at a grid point, on the staged blocks; from it the run of the whole program with the result windows left undescribed,
  and the frame claim.
-/
module

public import proofs.«01_k».proof.Proof.BodyI
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The run of the body on the memrefs and the blocks of point `t`. -/
abbrev runAt (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) ((hstage0_7 ((cfg0.slots t 7).cast nbuf0_7)).unread (iblk m c 7 t)) ((hstage0_8 ((cfg0.slots t 8).cast nbuf0_8)).unread (iblk m c 8 t))

/-- What the body leaves in the first result's staging buffer, from the contents `f` it had and the scratch's. -/
def left9 (c : Dev nD) (t : Fin cfg0.N) (f : BufTy.Contents (Elt F) (win0_9.stage (cfg0.slots t 9)).view.ty)
    (f13 : BufTy.Contents (Elt F) (Memref.whole cc0_scratch0).view.ty) (f14 : BufTy.Contents (Elt F) (Memref.whole cc0_scratch1).view.ty)
    (f15 : BufTy.Contents (Elt F) (Memref.whole cc0_scratch2).view.ty) : Vec F S4x1x2048x128 .bf16 :=
  (win0_9.stage (cfg0.slots t 9)).view.read (Elt F) ((win0_9.stage (cfg0.slots t 9)).view.writes (Elt F) f ((runAt m c t).1 f13 f14 f15))

/-- What the body leaves in the second result's staging buffer. -/
def left10 (c : Dev nD) (t : Fin cfg0.N) : Vec F S1x1x128 .f32 :=
  (win0_10.stage (cfg0.slots t 10)).view.read (Elt F) ((runAt m c t).2.1)

/-- The nine blocks read, owned at the point's blocks. -/
def insAt (c : Dev nD) (t : Fin cfg0.N) : sProp 𝕄G :=
  iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t))

/-- The body on whole memrefs, each owned at a value: the blocks read stay, each result ends at what the run leaves there. -/
theorem body_owns (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x1x2048x128 .f32) (harg8 : arg8.IsWhole) (arg9 : Memref sig .tc .vmem S1x128 .f32) (harg9 : arg9.IsWhole) (arg10 : Memref sig .tc .smem S1x1x1x4 .f32) (harg10 : arg10.IsWhole) (arg11 : Memref sig .tc .vmem S4x1x2048x128 .bf16) (harg11 : arg11.IsWhole) (arg12 : Memref sig .tc .vmem S1x1x128 .f32) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole)
    (x2 : Vec F S1x1x2048x128 .f32) (x3 : Vec F S1x1x2048x128 .f32) (x4 : Vec F S1x1x2048x128 .f32) (x5 : Vec F S1x1x2048x128 .f32) (x6 : Vec F S1x2048x128 .f32) (x7 : Vec F S1x2048x128 .f32) (x8 : Vec F S1x1x2048x128 .f32) (x9 : Vec F S1x128 .f32) (x10 : Vec F S1x1x1x4 .f32) :
    (iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d) ∗ (∃ d, owns (c : Thread nD τ) arg15 fullShare d)) : sProp 𝕄G)
    ⊢ wp frame (wpE (defs₀ (F := F)) 𝒱₀ (c : Thread nD τ) none) Set.univ (cc0_sb_bwd (F := F) i arg2 harg2 arg3 harg3 arg4 harg4 arg5 harg5 arg6 harg6 arg7 harg7 arg8 harg8 arg9 harg9 arg10 harg10 arg11 harg11 arg12 harg12 arg13 harg13 arg14 harg14 arg15 harg15) (fun _ =>
      iprop((owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10) ∗ (∃ f f13 f14 f15, owns (c : Thread nD τ) arg11 fullShare (arg11.view.read (Elt F) (arg11.view.writes (Elt F) f ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) (harg10.unread x10)).1 f13 f14 f15))))
        ∗ owns (c : Thread nD τ) arg12 fullShare (arg12.view.read (Elt F) ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) (harg10.unread x10)).2.1))
        ∗ (∃ d, owns (c : Thread nD τ) arg13 fullShare d) ∗ (∃ d, owns (c : Thread nD τ) arg14 fullShare d) ∗ (∃ d, owns (c : Thread nD τ) arg15 fullShare d))) := by
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, ⟨%d15, %f15, -, H15⟩⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  iapply ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9) (harg10.unread x10)).2.2 Set.univ f11 f12 f13 f14 f15 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, ⟨%g13, H13⟩, ⟨%g14, H14⟩, ⟨%g15, H15⟩⟩
  isplitl [H2 H3 H4 H5 H6 H7 H8 H9 H10]
  · isplitl [H2]; · iexists _; isplitr; swap; (· iexact H2); ipureintro; exact harg2.read_unread _
    isplitl [H3]; · iexists _; isplitr; swap; (· iexact H3); ipureintro; exact harg3.read_unread _
    isplitl [H4]; · iexists _; isplitr; swap; (· iexact H4); ipureintro; exact harg4.read_unread _
    isplitl [H5]; · iexists _; isplitr; swap; (· iexact H5); ipureintro; exact harg5.read_unread _
    isplitl [H6]; · iexists _; isplitr; swap; (· iexact H6); ipureintro; exact harg6.read_unread _
    isplitl [H7]; · iexists _; isplitr; swap; (· iexact H7); ipureintro; exact harg7.read_unread _
    isplitl [H8]; · iexists _; isplitr; swap; (· iexact H8); ipureintro; exact harg8.read_unread _
    isplitl [H9]; · iexists _; isplitr; swap; (· iexact H9); ipureintro; exact harg9.read_unread _
    iexists _; isplitr; swap; (· iexact H10); ipureintro; exact harg10.read_unread _
  isplitl [H11]
  · iexists f11, f13, f14, f15, _; isplitr; swap; (· iexact H11); ipureintro; rfl
  isplitl [H12]
  · iexists _; isplitr; swap; (· iexact H12); ipureintro; rfl
  isplitl [H13]
  · iexists _, _; isplitr; swap; (· iexact H13); ipureintro; rfl
  isplitl [H14]
  · iexists _, _; isplitr; swap; (· iexact H14); ipureintro; rfl
  iexists _, _; isplitr; swap; (· iexact H15); ipureintro; rfl

/-- The scratch, owned as whole memrefs. -/
theorem scratch_eq (c : Dev nD) :
    (Pipeline.scopedRest (Ix := Unit) (Name := ℕ) (U := UR sig nD τ) (Lvl := ℕ) (Val := Elt F) spec0 c : sProp 𝕄G)
      = iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) := by
  rw [scopedRest0_eq]; simp only [owns_whole]

/-- The body at point `t`: the blocks read stay, each result's buffer ends at what the run leaves there. -/
theorem body_triple (c : Dev nD) (t : Fin cfg0.N) :
    iprop(Pipeline.ΦA spec0 c ∗ insAt m c t
      ∗ (∃ d, owns (c : Thread nD τ) (win0_9.stage (cfg0.slots t 9)) fullShare d) ∗ (∃ d, owns (c : Thread nD τ) (win0_10.stage (cfg0.slots t 10)) fullShare d))
    ⊢ wp frame (wpE (defs₀ (F := F)) 𝒱₀ (c : Thread nD τ) none) Set.univ (bodyAt0 t) (fun _ =>
      iprop(Pipeline.ΦA spec0 c ∗ insAt m c t
        ∗ (∃ f f13 f14 f15, owns (c : Thread nD τ) (win0_9.stage (cfg0.slots t 9)) fullShare (left9 m c t f f13 f14 f15))
        ∗ owns (c : Thread nD τ) (win0_10.stage (cfg0.slots t 10)) fullShare (left10 m c t))) := by
  unfold insAt Pipeline.ΦA left9 left10
  rw [scratch_eq]
  iintro ⟨⟨⟨H13, H14, H15⟩, Hp⟩, HI, H11, H12⟩
  iapply (wp_wand_r frame (wpE (defs₀ (F := F)) 𝒱₀ (c : Thread nD τ) none) Set.univ)
  isplitr [Hp]
  · iapply (body_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t))
    isplitl [HI]; · iexact HI
    isplitl [H11]; · iexact H11
    isplitl [H12]; · iexact H12
    isplitl [H13]; · iexact H13
    isplitl [H14]; · iexact H14
    iexact H15
  iintro %_ ⟨HI, H11, H12, H13, H14, H15⟩
  isplitl [H13 H14 H15 Hp]
  · isplitr [Hp]
    · isplitl [H13]; · iexact H13
      isplitl [H14]; · iexact H14
      iexact H15
    iexact Hp
  isplitl [HI]; · iexact HI
  isplitl [H11]; · iexact H11
  iexact H12

/-! ## The run with both results undescribed -/

/-- The two result windows, of which nothing is said. -/
def forgets0 : Fin 11 → Bool := fun w => decide (w = 9 ∨ w = 10)

/-- The proof data: the arrays as the region finds them, each block read left as it was, the results' undescribed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
  Φ _ := Pipeline.ΦA spec0 c
  q w := Pipeline.shareOf spec0 w
  owed _ := 0

theorem datsF_A (c : Dev nD) (w : Fin cfg0.W) : (datsF m 0 c).A w = V m c (Pipeline.arrRef spec0 w) := by dsimp only [datsF]

theorem datsF_after0 (c : Dev nD) (t : Fin cfg0.N) : (datsF m 0 c).after 0 t = iblk m c 0 t := by dsimp only [datsF]
theorem datsF_after1 (c : Dev nD) (t : Fin cfg0.N) : (datsF m 0 c).after 1 t = iblk m c 1 t := by dsimp only [datsF]
theorem datsF_after2 (c : Dev nD) (t : Fin cfg0.N) : (datsF m 0 c).after 2 t = iblk m c 2 t := by dsimp only [datsF]
theorem datsF_after3 (c : Dev nD) (t : Fin cfg0.N) : (datsF m 0 c).after 3 t = iblk m c 3 t := by dsimp only [datsF]
theorem datsF_after4 (c : Dev nD) (t : Fin cfg0.N) : (datsF m 0 c).after 4 t = iblk m c 4 t := by dsimp only [datsF]
theorem datsF_after5 (c : Dev nD) (t : Fin cfg0.N) : (datsF m 0 c).after 5 t = iblk m c 5 t := by dsimp only [datsF]
theorem datsF_after6 (c : Dev nD) (t : Fin cfg0.N) : (datsF m 0 c).after 6 t = iblk m c 6 t := by dsimp only [datsF]
theorem datsF_after7 (c : Dev nD) (t : Fin cfg0.N) : (datsF m 0 c).after 7 t = iblk m c 7 t := by dsimp only [datsF]
theorem datsF_after8 (c : Dev nD) (t : Fin cfg0.N) : (datsF m 0 c).after 8 t = iblk m c 8 t := by dsimp only [datsF]
theorem datsF_before0 (c : Dev nD) (t : Fin cfg0.N) (d) : (datsF m 0 c).before 0 t d = iblk m c 0 t :=
  before0_0_of m (datsF m 0 c) (datsF_A m c 0) (datsF_after0 m c) t d
theorem datsF_before1 (c : Dev nD) (t : Fin cfg0.N) (d) : (datsF m 0 c).before 1 t d = iblk m c 1 t :=
  before0_1_of m (datsF m 0 c) (datsF_A m c 1) (datsF_after1 m c) t d
theorem datsF_before2 (c : Dev nD) (t : Fin cfg0.N) (d) : (datsF m 0 c).before 2 t d = iblk m c 2 t :=
  before0_2_of m (datsF m 0 c) (datsF_A m c 2) (datsF_after2 m c) t d
theorem datsF_before3 (c : Dev nD) (t : Fin cfg0.N) (d) : (datsF m 0 c).before 3 t d = iblk m c 3 t :=
  before0_3_of m (datsF m 0 c) (datsF_A m c 3) (datsF_after3 m c) t d
theorem datsF_before4 (c : Dev nD) (t : Fin cfg0.N) (d) : (datsF m 0 c).before 4 t d = iblk m c 4 t :=
  before0_4_of m (datsF m 0 c) (datsF_A m c 4) (datsF_after4 m c) t d
theorem datsF_before5 (c : Dev nD) (t : Fin cfg0.N) (d) : (datsF m 0 c).before 5 t d = iblk m c 5 t :=
  before0_5_of m (datsF m 0 c) (datsF_A m c 5) (datsF_after5 m c) t d
theorem datsF_before6 (c : Dev nD) (t : Fin cfg0.N) (d) : (datsF m 0 c).before 6 t d = iblk m c 6 t :=
  before0_6_of m (datsF m 0 c) (datsF_A m c 6) (datsF_after6 m c) t d
theorem datsF_before7 (c : Dev nD) (t : Fin cfg0.N) (d) : (datsF m 0 c).before 7 t d = iblk m c 7 t :=
  before0_7_of m (datsF m 0 c) (datsF_A m c 7) (datsF_after7 m c) t d
theorem datsF_before8 (c : Dev nD) (t : Fin cfg0.N) (d) : (datsF m 0 c).before 8 t d = iblk m c 8 t :=
  before0_8_of m (datsF m 0 c) (datsF_A m c 8) (datsF_after8 m c) t d

/-- The table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem bodyF (c : Dev nD) (t : Fin cfg0.N) :
    iprop((datsF m 0 c).Φ t.castSucc ∗ (datsF m 0 c).owesAt () t.castSucc
      ∗ (∃ d, owns (c : Thread nD τ) ((cfg0.win 0).stage (cfg0.slots t 0)) fullShare ((datsF m 0 c).before 0 t d)) ∗ (∃ d, owns (c : Thread nD τ) ((cfg0.win 1).stage (cfg0.slots t 1)) fullShare ((datsF m 0 c).before 1 t d)) ∗ (∃ d, owns (c : Thread nD τ) ((cfg0.win 2).stage (cfg0.slots t 2)) fullShare ((datsF m 0 c).before 2 t d)) ∗ (∃ d, owns (c : Thread nD τ) ((cfg0.win 3).stage (cfg0.slots t 3)) fullShare ((datsF m 0 c).before 3 t d)) ∗ (∃ d, owns (c : Thread nD τ) ((cfg0.win 4).stage (cfg0.slots t 4)) fullShare ((datsF m 0 c).before 4 t d)) ∗ (∃ d, owns (c : Thread nD τ) ((cfg0.win 5).stage (cfg0.slots t 5)) fullShare ((datsF m 0 c).before 5 t d)) ∗ (∃ d, owns (c : Thread nD τ) ((cfg0.win 6).stage (cfg0.slots t 6)) fullShare ((datsF m 0 c).before 6 t d)) ∗ (∃ d, owns (c : Thread nD τ) ((cfg0.win 7).stage (cfg0.slots t 7)) fullShare ((datsF m 0 c).before 7 t d)) ∗ (∃ d, owns (c : Thread nD τ) ((cfg0.win 8).stage (cfg0.slots t 8)) fullShare ((datsF m 0 c).before 8 t d))
      ∗ (∃ d, owns (c : Thread nD τ) ((cfg0.win 9).stage (cfg0.slots t 9)) fullShare d) ∗ (∃ d, owns (c : Thread nD τ) ((cfg0.win 10).stage (cfg0.slots t 10)) fullShare d))
    ⊢ wp frame (wpE (defs₀ (F := F)) 𝒱₀ (c : Thread nD τ) none) Set.univ (bodyAt0 t) (fun _ =>
      iprop((datsF m 0 c).Φ t.succ ∗ (datsF m 0 c).owesAt () t.succ
      ∗ owns (c : Thread nD τ) ((cfg0.win 0).stage (cfg0.slots t 0)) fullShare ((datsF m 0 c).after 0 t) ∗ owns (c : Thread nD τ) ((cfg0.win 1).stage (cfg0.slots t 1)) fullShare ((datsF m 0 c).after 1 t) ∗ owns (c : Thread nD τ) ((cfg0.win 2).stage (cfg0.slots t 2)) fullShare ((datsF m 0 c).after 2 t) ∗ owns (c : Thread nD τ) ((cfg0.win 3).stage (cfg0.slots t 3)) fullShare ((datsF m 0 c).after 3 t) ∗ owns (c : Thread nD τ) ((cfg0.win 4).stage (cfg0.slots t 4)) fullShare ((datsF m 0 c).after 4 t) ∗ owns (c : Thread nD τ) ((cfg0.win 5).stage (cfg0.slots t 5)) fullShare ((datsF m 0 c).after 5 t) ∗ owns (c : Thread nD τ) ((cfg0.win 6).stage (cfg0.slots t 6)) fullShare ((datsF m 0 c).after 6 t) ∗ owns (c : Thread nD τ) ((cfg0.win 7).stage (cfg0.slots t 7)) fullShare ((datsF m 0 c).after 7 t) ∗ owns (c : Thread nD τ) ((cfg0.win 8).stage (cfg0.slots t 8)) fullShare ((datsF m 0 c).after 8 t)
      ∗ (∃ d, owns (c : Thread nD τ) ((cfg0.win 9).stage (cfg0.slots t 9)) fullShare d) ∗ (∃ d, owns (c : Thread nD τ) ((cfg0.win 10).stage (cfg0.slots t 10)) fullShare d))) := by
  rw [show (datsF m 0 c).Φ t.succ = Pipeline.ΦA spec0 c from rfl, show (datsF m 0 c).Φ t.castSucc = Pipeline.ΦA spec0 c from rfl,
    show (datsF m 0 c).owesAt () t.succ = (datsF m 0 c).owesAt () t.castSucc from rfl]
  simp only [datsF_before0, datsF_before1, datsF_before2, datsF_before3, datsF_before4, datsF_before5, datsF_before6, datsF_before7, datsF_before8, datsF_after0, datsF_after1, datsF_after2, datsF_after3, datsF_after4, datsF_after5, datsF_after6, datsF_after7, datsF_after8]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply (wp_wand_r frame (wpE (defs₀ (F := F)) 𝒱₀ (c : Thread nD τ) none) Set.univ)
  isplitr [HO]
  · iapply (body_triple m c t)
    isplitl [HΦ]; · iexact HΦ
    unfold insAt
    isplitr [H9 H10]
    · iframe
    isplitl [H9]; · iexact H9
    iexact H10
  iintro %_ ⟨HΦ, HI, ⟨%f, %f13, %f14, %f15, H9⟩, H10⟩
  unfold insAt
  icases HI with ⟨H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

theorem body_obligationF (c : Dev nD) : BodyObligation (datsF (F := F) m 0 c) (defs₀ (F := F)) 𝒱₀ () Set.univ forgets0 := fun t => by
  rw [bigSep_W0, bigSep_W0, defs₀_row]
  exact triple_restated (bodyF m c t) rfl .rfl fun _ => .rfl

set_option backward.isDefEq.respectTransparency.types false in
/-- From any memory with zero counters every execution ends, each array read as the region found it and every counter at zero. -/
theorem run_frame : θ_run defs (onTc (τ := τ) (main (F := F))) (s₀ m ρ)
    (fun r => Pipeline.RDat.FramePostR (cfgs 0) (fun c => (datsF m 0 c).toRForget forgets0) {main_v49} (fun c b => V0 m c (Proc.devRef .tc b)) r ∧ r.2.sem = fun _ => 0) :=
  Pipeline.θ_run_frame_around_T_forget_shared (Q' := _) cfgs (datsF m) (0 : Fin 1) launch₀0 defs₀ 𝒱₀ forgets0 {main_v49} m ρ main
    (hbody := fun c => (body_obligationF m c).loose) (hq := fun _ _ _ => rfl) (howed := fun _ _ => rfl) (V₀ := V0 m) (opss := [hostOps1])
    (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      rw [StableHlo.unary_writes, Finset.mem_singleton] at hb
      rw [Finset.mem_singleton]; exact Proc.devRef_injective _ hb)
    (hmain := hmain m 𝒱₀) (hA := datsF_A m) (hΦ := fun _ _ => rfl)

/-- An array read ends as the region found it. -/
theorem atIn {r : PUnit × MemSt nD τ sig (Elt F)}
    (h : Pipeline.RDat.FramePostR cfg0 (fun c => (datsF m 0 c).toRForget forgets0) {main_v49} (fun c b => V0 m c (Proc.devRef .tc b)) r)
    (c : Dev nD) (w : Fin 11) (hw : (cfg0.win w).isOut = false) :
    r.2.mem ((c : Thread nD τ).loc (Pipeline.arrRef spec0 w)) = V m c (Pipeline.arrRef spec0 w) :=
  (Pipeline.RDat.FramePostR.arr_in h c w hw).trans (datsF_A m c w)

/-- The frame: the three arguments end as they began, every counter at zero. -/
theorem frameF : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono (fun r h => ?_) (run_frame m ρ)
  obtain ⟨h1, h2⟩ := h
  exact ⟨fun c => ⟨(atIn m h1 c 3 rfl).trans (V_main_arg0 m c), (atIn m h1 c 6 rfl).trans (V_main_arg1 m c),
    (atIn m h1 c 7 rfl).trans (V_main_arg2 m c)⟩, h2⟩

end Cert.Proof.KernelIdeal
-- ==== Proof.ValueFO.lean ====
/- The value of the in-projection over the own chip's columns: each grid point writes one block of its two parts. -/
module

public import proofs.«01_k».proof.Proof.Gen.KernelFOIdeal.Frame
public import proofs.«01_k».proof.Proof.Gen.ReferenceFOIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFOIdeal.Value

open Cert.ReferenceFOIdeal Cert.ReferenceFOIdeal.Gen

/-- The term of the result 0 over the arguments. -/
abbrev REF0 (A0 : FVec Ideal S4096x4096 .bf16) (A1 : FVec Ideal S4096x4096 .bf16) : FVec Ideal S2x4096x2048 .f32 :=
  transpose S2x4096x2048 [1, 0, 2] (shapeCast _ (Host.dotGeneral dot_S4096x4096_S4096x4096_S4096x4096_1_0_0_1_n_n none (extf .f32 A0 bitsLt_bf16_f32) (extf .f32 A1 bitsLt_bf16_f32)) shapeCasts_S4096x4096_S4096x2x2048) transposes_S4096x2x2048_S2x4096x2048_1_0_2

end Cert.ReferenceFOIdeal.Value

namespace Cert.KernelFOIdeal.Value

open Cert.KernelFOIdeal Cert.KernelFOIdeal.Gen
open Cert.ReferenceFOIdeal.Value (REF0)

variable (m : (ℓ : Loc nD τ sig) → Buf (Elt Ideal) ℓ)

/-- An entry of the in-projection: of a part, a row and a column. -/
def prod (A0 : FVec Ideal S4096x4096 .bf16) (A1 : FVec Ideal S4096x4096 .bf16) (s r e : ℕ) (hs : s < 2) (hr : r < 4096)
    (he : e < 2048) : EReal :=
  ∑ x : Fin 4096, A0 (ix2 ⟨r, hr⟩ x) * A1 (ix2 x ⟨2048 * s + e, by omega⟩)

/-- The reference at a part, a row and a column. -/
theorem ref_at (A0 : FVec Ideal S4096x4096 .bf16) (A1 : FVec Ideal S4096x4096 .bf16)
    (s : Fin 2) (r : Fin 4096) (e : Fin 2048) :
    REF0 A0 A1 (ix3 s r e) = prod A0 A1 s.val r.val e.val s.isLt r.isLt e.isLt := by
  unfold prod
  pointwise [REF0]
  refine Fin.sum_fin_congr fun x => congrArg₂ (fun a b : EReal => a * b) rfl ?_
  blk_ext

/-- The reference's parts in the whole array's shape, where the last parts repeat the first. -/
def full (A0 : FVec Ideal S4096x4096 .bf16) (A1 : FVec Ideal S4096x4096 .bf16) : FVec Ideal S8x4096x2048 .f32 :=
  fun i => REF0 A0 A1 (ix3 ⟨(i 0).val % 2, by omega⟩ (i 1) (i 2))

/-- The table of the device at the mesh's origin. -/
def zero : pre0.Contents (Elt Ideal) := fun | ⟨0, _⟩ => fun _ => 0#32 | ⟨_ + 1, h⟩ => absurd h (by simp)

theorem tbl_eq : tbl m = zero := by
  funext j x
  match j with
  | ⟨0, _⟩ => rfl

theorem ok_zero : ok0 zero := by decide +kernel

theorem ok : Ok m := by
  unfold Ok; rw [tbl_eq m]; exact ok_zero

/-- The pipeline at that table. -/
abbrev at0 : (pcfg0 (F := Ideal)).Adm := ⟨zero, ok_zero⟩

theorem adm_eq (hO : Ok m) : adm m hO = at0 := Subtype.ext (tbl_eq m)

/-- The blocks' indices at a grid point. -/
theorem idx0 : ∀ t : Fin grid0.N, ix0 zero 0 (grid0.coords t) = ![t.val / 4, 0] ∧ ix0 zero 1 (grid0.coords t) = ![0, t.val % 4]
    ∧ ix0 zero 2 (grid0.coords t) = ![t.val % 4 / 2, t.val / 4, t.val % 2] := by decide +kernel

theorem idx (hO : Ok m) (t : Fin (cfgM m hO).N) : ((cfgM m hO).win 0).index t = ![t.val / 4, 0]
    ∧ ((cfgM m hO).win 1).index t = ![0, t.val % 4]
    ∧ ((cfgM m hO).win 2).index t = ![t.val % 4 / 2, t.val / 4, t.val % 2] := by
  have h := idx0 t
  refine ⟨h.1, ?_, ?_⟩
  · show ix0 (tbl m) 1 (grid0.coords t) = _
    rw [tbl_eq m]; exact h.2.1
  · show ix0 (tbl m) 2 (grid0.coords t) = _
    rw [tbl_eq m]; exact h.2.2

theorem covers : ((cfg0 at0).win 2).CoversWhere (fun β => β (0 : Fin 3) < 2) := by decide +kernel

theorem covers' : ∀ a : (pcfg0 (F := Ideal)).Adm, a = at0 → ((cfg0 a).win 2).CoversWhere (fun β => β (0 : Fin 3) < 2) := by
  rintro _ rfl; exact covers

/-- What a grid point stores at an index of its block is the in-projection's entry. -/
theorem point (c : Dev nD) (hO : Ok m) (t : Fin (cfgM m hO).N) (y : S1x1024x1024.Idx) : k0_pay1 (iblk m hO c 0 t) (iblk m hO c 1 t) y
    = full (m ((c : Thread nD τ).loc main_arg0)) (m ((c : Thread nD τ).loc main_arg1)) ((((cfgM m hO).win 2).blk t).view.emb y) := by
  have ht : t.val < 16 := lt_of_lt_of_eq t.isLt N_0
  idx_vars y
  obtain ⟨s, es⟩ : ∃ s : Fin 2, s.val = t.val % 4 / 2 := ⟨⟨t.val % 4 / 2, by omega⟩, rfl⟩
  obtain ⟨r, er⟩ : ∃ r : Fin 4096, r.val = 1024 * (t.val / 4) + y1.val := ⟨⟨1024 * (t.val / 4) + y1.val, by omega⟩, rfl⟩
  obtain ⟨e, ee⟩ : ∃ e : Fin 2048, e.val = 1024 * (t.val % 2) + y2.val := ⟨⟨1024 * (t.val % 2) + y2.val, by omega⟩, rfl⟩
  have hf : full (m ((c : Thread nD τ).loc main_arg0)) (m ((c : Thread nD τ).loc main_arg1)) ((((cfgM m hO).win 2).blk t).view.emb (ix3 y0 y1 y2))
      = REF0 (m ((c : Thread nD τ).loc main_arg0)) (m ((c : Thread nD τ).loc main_arg1)) (ix3 s r e) := by
    unfold full
    refine congrArg (REF0 (m ((c : Thread nD τ).loc main_arg0)) (m ((c : Thread nD τ).loc main_arg1))) ?_
    blk_ext [idx m hO t]
  rw [hf, ref_at _ _ s r e]
  unfold prod
  pointwise [k0_pay1]
  refine Fin.sum_fin_congr fun x => congrArg₂ (fun a b : EReal => a * b) ?_ ?_
  all_goals blk_ext [iblk, V, idx m hO t]

/-- What a grid point leaves in its block. -/
theorem out_eq (c : Dev nD) (hO : Ok m) (t : Fin (cfgM m hO).N) : outsAt0 m hO c t = k0_pay1 (iblk m hO c 0 t) (iblk m hO c 1 t) := by
  unfold outsAt0
  frame_out
  exact congrArg₂ k0_pay1 (Memref.IsWhole.read_unread _ _) (Memref.IsWhole.read_unread _ _)

/-- The first two parts of an array that agrees with the reference there. -/
theorem slice_eq (A0 : FVec Ideal S4096x4096 .bf16) (A1 : FVec Ideal S4096x4096 .bf16) (A : FVec Ideal S8x4096x2048 .f32)
    (h : ∀ i : S8x4096x2048.Idx, (i 0).val < 2 → A i = full A0 A1 i) :
    extractStridedSlice S2x4096x2048 ![0, 0, 0] A slices_S8x4096x2048_S2x4096x2048_0_0_0 = REF0 A0 A1 := by
  refine funext fun (i : S2x4096x2048.Idx) => ?_
  idx_vars i
  have e : extractStridedSlice S2x4096x2048 ![0, 0, 0] A slices_S8x4096x2048_S2x4096x2048_0_0_0 (ix3 i0 i1 i2)
      = A (ix3 ⟨i0.val, by omega⟩ i1 i2) := by
    pointwise
    try (refine congrArg A ?_; blk_ext)
  rw [e, h _ i0.isLt]
  unfold full
  refine congrArg (REF0 A0 A1) ?_
  blk_ext

/-- The first two parts of the array after the run. -/
theorem final (hO : Ok m) (c : Dev nD) (A : FVec Ideal S8x4096x2048 .f32) (hA : A = (dats m hO 0 c).arrAt 2 (cfgM m hO).N) :
    extractStridedSlice S2x4096x2048 ![0, 0, 0] A slices_S8x4096x2048_S2x4096x2048_0_0_0
    = REF0 (m ((c : Thread nD τ).loc main_arg0)) (m ((c : Thread nD τ).loc main_arg1)) := by
  have h := (dats m hO 0 c).arrAt_eq_of_coversWhere (P := fun i : S8x4096x2048.Idx => (i 0).val / 1 < 2) 2
    (full (m ((c : Thread nD τ).loc main_arg0)) (m ((c : Thread nD τ).loc main_arg1))) _ (covers' _ (adm_eq m hO))
    (fun t hf y => by
      blk_simp
      rw [after0_2, out_eq]
      exact point m c hO t y) (fun j => Iff.rfl)
  refine slice_eq _ _ A fun i hi => ?_
  rw [hA, h]
  exact if_pos (by simpa using hi)

/-- The slice after the call reads the array the call leaves. -/
theorem tail (hO : Ok m) (c : Dev nD) (A : FVec Ideal S8x4096x2048 .f32) (hA : A = (dats m hO 0 c).arrAt 2 (cfgM m hO).N) :
    Pipeline.afterTail pcfgs (fun _ => adm m hO) (dats m hO) 0 (V0 m) [hostOps1] c main_v2
    = extractStridedSlice S2x4096x2048 ![0, 0, 0] A slices_S8x4096x2048_S2x4096x2048_0_0_0 := by
  unfold Pipeline.afterTail
  simp only [List.flatten_cons, List.flatten_nil, List.append_nil]
  rw [StableHlo.after_cons, StableHlo.after_nil, StableHlo.unary_result]
  refine congrArg (fun a : FVec Ideal S8x4096x2048 .f32 => extractStridedSlice S2x4096x2048 ![0, 0, 0] a slices_S8x4096x2048_S2x4096x2048_0_0_0) ?_
  exact (Pipeline.withArrays_arr spec0 (by decide) c _ _ 2).trans hA.symm

end Cert.KernelFOIdeal.Value

end
-- ==== Proof.ValueFN.lean ====
/- The value of the in-projection over the neighbours' columns: each grid point writes one block of their four parts, the others stay. -/
module

public import proofs.«01_k».proof.Proof.Gen.KernelFNIdeal.Frame
public import proofs.«01_k».proof.Proof.Gen.ReferenceFNIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFNIdeal.Value

open Cert.ReferenceFNIdeal Cert.ReferenceFNIdeal.Gen

/-- The term of the result 0 over the arguments. -/
abbrev REF0 (A0 : FVec Ideal S4096x4096 .bf16) (A1 : FVec Ideal S4x4096x4096 .bf16) (A2 : FVec Ideal S8x4096x2048 .f32) : FVec Ideal S8x4096x2048 .f32 :=
  (concatenate S8x4096x2048 0 [⟨S2x4096x2048, ((extractStridedSlice S2x4096x2048 ![0, 0, 0] A2 slices_S8x4096x2048_S2x4096x2048_0_0_0) : (⟨S2x4096x2048, .f32⟩ : BufTy).Contents (Elt Ideal))⟩, ⟨S4x4096x2048, ((extractStridedSlice S4x4096x2048 ![2, 0, 0] (transpose S8x4096x2048 [1, 0, 2] (shapeCast _ (Host.dotGeneral dot_S4096x4096_S4096x16384_S4096x16384_1_0_0_1_n_n none (extf .f32 A0 bitsLt_bf16_f32) (extf .f32 (shapeCast _ (transpose S4096x4x4096 [1, 0, 2] A1 transposes_S4x4096x4096_S4096x4x4096_1_0_2) shapeCasts_S4096x4x4096_S4096x16384) bitsLt_bf16_f32)) shapeCasts_S4096x16384_S4096x8x2048) transposes_S4096x8x2048_S8x4096x2048_1_0_2) slices_S8x4096x2048_S4x4096x2048_2_0_0) : (⟨S4x4096x2048, .f32⟩ : BufTy).Contents (Elt Ideal))⟩, ⟨S2x4096x2048, ((extractStridedSlice S2x4096x2048 ![6, 0, 0] A2 slices_S8x4096x2048_S2x4096x2048_6_0_0) : (⟨S2x4096x2048, .f32⟩ : BufTy).Contents (Elt Ideal))⟩] concatenates_S2x4096x2048_S4x4096x2048_S2x4096x2048_S8x4096x2048_d0 : (⟨S8x4096x2048, .f32⟩ : BufTy).Contents (Elt Ideal))

end Cert.ReferenceFNIdeal.Value

namespace Cert.KernelFNIdeal.Value

open Cert.KernelFNIdeal Cert.KernelFNIdeal.Gen
open Cert.ReferenceFNIdeal.Value (REF0)

variable (m : (ℓ : Loc nD τ sig) → Buf (Elt Ideal) ℓ)

/-- An entry of the in-projection: of a part, a row and a column. -/
def prod (A0 : FVec Ideal S4096x4096 .bf16) (A1 : FVec Ideal S4x4096x4096 .bf16) (s r e : ℕ) (hs : s < 8) (hr : r < 4096)
    (he : e < 2048) : EReal :=
  ∑ x : Fin 4096, A0 (ix2 ⟨r, hr⟩ x) * A1 (ix3 ⟨s / 2, by omega⟩ x ⟨2048 * (s % 2) + e, by omega⟩)

/-- The reference in a neighbour's part. -/
theorem ref_at (A0 : FVec Ideal S4096x4096 .bf16) (A1 : FVec Ideal S4x4096x4096 .bf16) (A2 : FVec Ideal S8x4096x2048 .f32)
    (s : Fin 8) (r : Fin 4096) (e : Fin 2048) (hs : 2 ≤ s.val ∧ s.val < 6) :
    REF0 A0 A1 A2 (ix3 s r e) = prod A0 A1 s.val r.val e.val s.isLt r.isLt e.isLt := by
  unfold prod
  pointwise [REF0]
  rw [dif_neg (by omega), dif_pos (by omega)]
  refine Fin.sum_fin_congr fun x => congrArg₂ (fun a b : EReal => a * b) rfl ?_
  blk_ext

/-- The reference in another part. -/
theorem ref_keep (A0 : FVec Ideal S4096x4096 .bf16) (A1 : FVec Ideal S4x4096x4096 .bf16) (A2 : FVec Ideal S8x4096x2048 .f32)
    (i : S8x4096x2048.Idx) (hs : ¬ (2 ≤ (i 0).val ∧ (i 0).val < 6)) :
    REF0 A0 A1 A2 i = A2 i := by
  pointwise [REF0]
  by_cases h : (i 0).val < 2
  · rw [dif_pos h]
  · have h8 : (i 0).val < 8 := (i 0).isLt
    rw [dif_neg h, dif_neg (by omega)]
    blk_ext

/-- The table of the device at the mesh's origin. -/
def zero : pre0.Contents (Elt Ideal) := fun | ⟨0, _⟩ => fun _ => 0#32 | ⟨_ + 1, h⟩ => absurd h (by simp)

theorem tbl_eq : tbl m = zero := by
  funext j x
  match j with
  | ⟨0, _⟩ => rfl

theorem ok_zero : ok0 zero := by decide +kernel

theorem ok : Ok m := by
  unfold Ok; rw [tbl_eq m]; exact ok_zero

/-- The pipeline at that table. -/
abbrev at0 : (pcfg0 (F := Ideal)).Adm := ⟨zero, ok_zero⟩

theorem adm_eq (hO : Ok m) : adm m hO = at0 := Subtype.ext (tbl_eq m)

/-- The blocks' indices at a grid point. -/
theorem idx0 : ∀ t : Fin grid0.N, ix0 zero 0 (grid0.coords t) = ![t.val / 8, 0] ∧ ix0 zero 1 (grid0.coords t) = ![2 - t.val % 8 / 4, 0, t.val % 4]
    ∧ ix0 zero 2 (grid0.coords t) = ![2 * (2 - t.val % 8 / 4) + t.val % 4 / 2, t.val / 8, t.val % 2] := by decide +kernel

theorem idx (hO : Ok m) (t : Fin (cfgM m hO).N) : ((cfgM m hO).win 0).index t = ![t.val / 8, 0]
    ∧ ((cfgM m hO).win 1).index t = ![2 - t.val % 8 / 4, 0, t.val % 4]
    ∧ ((cfgM m hO).win 2).index t = ![2 * (2 - t.val % 8 / 4) + t.val % 4 / 2, t.val / 8, t.val % 2] := by
  have h := idx0 t
  refine ⟨h.1, ?_, ?_⟩
  · show ix0 (tbl m) 1 (grid0.coords t) = _
    rw [tbl_eq m]; exact h.2.1
  · show ix0 (tbl m) 2 (grid0.coords t) = _
    rw [tbl_eq m]; exact h.2.2

theorem covers : ((cfg0 at0).win 2).CoversWhere (fun β => 2 ≤ β (0 : Fin 3) ∧ β (0 : Fin 3) < 6) := by decide +kernel

theorem covers' : ∀ a : (pcfg0 (F := Ideal)).Adm, a = at0 → ((cfg0 a).win 2).CoversWhere (fun β => 2 ≤ β (0 : Fin 3) ∧ β (0 : Fin 3) < 6) := by
  rintro _ rfl; exact covers

/-- What a grid point stores at an index of its block is the in-projection's entry. -/
theorem point (c : Dev nD) (hO : Ok m) (t : Fin (cfgM m hO).N) (y : S1x1024x1024.Idx) : k0_pay1 (iblk m hO c 0 t) (iblk m hO c 1 t) y
    = REF0 (m ((c : Thread nD τ).loc main_arg0)) (m ((c : Thread nD τ).loc main_arg1)) (m ((c : Thread nD τ).loc main_arg2)) ((((cfgM m hO).win 2).blk t).view.emb y) := by
  have ht : t.val < 32 := lt_of_lt_of_eq t.isLt N_0
  idx_vars y
  obtain ⟨s, es⟩ : ∃ s : Fin 8, s.val = 2 * (2 - t.val % 8 / 4) + t.val % 4 / 2 := ⟨⟨2 * (2 - t.val % 8 / 4) + t.val % 4 / 2, by omega⟩, rfl⟩
  obtain ⟨r, er⟩ : ∃ r : Fin 4096, r.val = 1024 * (t.val / 8) + y1.val := ⟨⟨1024 * (t.val / 8) + y1.val, by omega⟩, rfl⟩
  obtain ⟨e, ee⟩ : ∃ e : Fin 2048, e.val = 1024 * (t.val % 2) + y2.val := ⟨⟨1024 * (t.val % 2) + y2.val, by omega⟩, rfl⟩
  refine Eq.trans ?_ (congrArg (REF0 (m ((c : Thread nD τ).loc main_arg0)) (m ((c : Thread nD τ).loc main_arg1)) (m ((c : Thread nD τ).loc main_arg2)))
    (?_ : ix3 s r e = _))
  rotate_left
  · blk_ext [idx m hO t]
  rw [ref_at _ _ _ s r e (by omega)]
  unfold prod
  pointwise [k0_pay1]
  refine Fin.sum_fin_congr fun x => congrArg₂ (fun a b : EReal => a * b) ?_ ?_
  all_goals blk_ext [iblk, V, idx m hO t]

/-- What a grid point leaves in its block. -/
theorem out_eq (c : Dev nD) (hO : Ok m) (t : Fin (cfgM m hO).N) : outsAt0 m hO c t = k0_pay1 (iblk m hO c 0 t) (iblk m hO c 1 t) := by
  unfold outsAt0
  frame_out
  exact congrArg₂ k0_pay1 (Memref.IsWhole.read_unread _ _) (Memref.IsWhole.read_unread _ _)

/-- The result array after the run. -/
theorem final (hO : Ok m) (c : Dev nD) : (dats m hO 0 c).arrAt 2 (cfgM m hO).N
    = REF0 (m ((c : Thread nD τ).loc main_arg0)) (m ((c : Thread nD τ).loc main_arg1)) (m ((c : Thread nD τ).loc main_arg2)) := by
  have h := (dats m hO 0 c).arrAt_eq_of_coversWhere (P := fun i : S8x4096x2048.Idx => 2 ≤ (i 0).val / 1 ∧ (i 0).val / 1 < 6) 2
    (REF0 (m ((c : Thread nD τ).loc main_arg0)) (m ((c : Thread nD τ).loc main_arg1)) (m ((c : Thread nD τ).loc main_arg2))) _ (covers' _ (adm_eq m hO))
    (fun t hf y => by
      blk_simp
      rw [after0_2, out_eq]
      exact point m c hO t y) (fun j => Iff.rfl)
  rw [h]
  refine funext fun (i : S8x4096x2048.Idx) => ?_
  by_cases hi : 2 ≤ (i 0).val / 1 ∧ (i 0).val / 1 < 6
  · exact if_pos hi
  · refine (if_neg hi).trans (Eq.trans ?_ (ref_keep _ _ _ i (by simpa using hi)).symm)
    rw [A_eq]
    rfl

end Cert.KernelFNIdeal.Value

end
-- ==== Proof.ValueFD.lean ====
/- The value of the in-projection over the columns of the chip across: each grid point writes one block of its two parts, the others stay. -/
module

public import proofs.«01_k».proof.Proof.Gen.KernelFDIdeal.Frame
public import proofs.«01_k».proof.Proof.Gen.ReferenceFDIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceFDIdeal.Value

open Cert.ReferenceFDIdeal Cert.ReferenceFDIdeal.Gen

/-- The term of the result 0 over the arguments. -/
abbrev REF0 (A0 : FVec Ideal S4096x4096 .bf16) (A1 : FVec Ideal S4096x4096 .bf16) (A2 : FVec Ideal S8x4096x2048 .f32) : FVec Ideal S8x4096x2048 .f32 :=
  concatenate S8x4096x2048 0 [⟨S6x4096x2048, (extractStridedSlice S6x4096x2048 ![0, 0, 0] A2 slices_S8x4096x2048_S6x4096x2048_0_0_0)⟩, ⟨S2x4096x2048, (transpose S2x4096x2048 [1, 0, 2] (shapeCast _ (Host.dotGeneral dot_S4096x4096_S4096x4096_S4096x4096_1_0_0_1_n_n none (extf .f32 A0 bitsLt_bf16_f32) (extf .f32 A1 bitsLt_bf16_f32)) shapeCasts_S4096x4096_S4096x2x2048) transposes_S4096x2x2048_S2x4096x2048_1_0_2)⟩] concatenates_S6x4096x2048_S2x4096x2048_S8x4096x2048_d0

end Cert.ReferenceFDIdeal.Value

namespace Cert.KernelFDIdeal.Value

open Cert.KernelFDIdeal Cert.KernelFDIdeal.Gen
open Cert.ReferenceFDIdeal.Value (REF0)

variable (m : (ℓ : Loc nD τ sig) → Buf (Elt Ideal) ℓ)

/-- An entry of the in-projection: of a part, a row and a column. -/
def prod (A0 : FVec Ideal S4096x4096 .bf16) (A1 : FVec Ideal S4096x4096 .bf16) (s r e : ℕ) (hs : s < 8) (hr : r < 4096)
    (he : e < 2048) : EReal :=
  ∑ x : Fin 4096, A0 (ix2 ⟨r, hr⟩ x) * A1 (ix2 x ⟨2048 * (s - 6) + e, by omega⟩)

/-- The reference in the far chip's part. -/
theorem ref_at (A0 : FVec Ideal S4096x4096 .bf16) (A1 : FVec Ideal S4096x4096 .bf16) (A2 : FVec Ideal S8x4096x2048 .f32)
    (s : Fin 8) (r : Fin 4096) (e : Fin 2048) (hs : 6 ≤ s.val) :
    REF0 A0 A1 A2 (ix3 s r e) = prod A0 A1 s.val r.val e.val s.isLt r.isLt e.isLt := by
  unfold prod
  pointwise [REF0]
  rw [dif_neg (by omega)]
  refine Fin.sum_fin_congr fun x => congrArg₂ (fun a b : EReal => a * b) rfl ?_
  blk_ext

/-- The reference in another part. -/
theorem ref_keep (A0 : FVec Ideal S4096x4096 .bf16) (A1 : FVec Ideal S4096x4096 .bf16) (A2 : FVec Ideal S8x4096x2048 .f32)
    (i : S8x4096x2048.Idx) (hs : ¬ 6 ≤ (i 0).val) :
    REF0 A0 A1 A2 i = A2 i := by
  pointwise [REF0]
  rw [dif_pos (by omega)]

/-- The table of the device at the mesh's origin. -/
def zero : pre0.Contents (Elt Ideal) := fun | ⟨0, _⟩ => fun _ => 0#32 | ⟨_ + 1, h⟩ => absurd h (by simp)

theorem tbl_eq : tbl m = zero := by
  funext j x
  match j with
  | ⟨0, _⟩ => rfl

theorem ok_zero : ok0 zero := by decide +kernel

theorem ok : Ok m := by
  unfold Ok; rw [tbl_eq m]; exact ok_zero

/-- The pipeline at that table. -/
abbrev at0 : (pcfg0 (F := Ideal)).Adm := ⟨zero, ok_zero⟩

theorem adm_eq (hO : Ok m) : adm m hO = at0 := Subtype.ext (tbl_eq m)

/-- The blocks' indices at a grid point. -/
theorem idx0 : ∀ t : Fin grid0.N, ix0 zero 0 (grid0.coords t) = ![t.val / 4, 0] ∧ ix0 zero 1 (grid0.coords t) = ![0, t.val % 4]
    ∧ ix0 zero 2 (grid0.coords t) = ![6 + t.val % 4 / 2, t.val / 4, t.val % 2] := by decide +kernel

theorem idx (hO : Ok m) (t : Fin (cfgM m hO).N) : ((cfgM m hO).win 0).index t = ![t.val / 4, 0]
    ∧ ((cfgM m hO).win 1).index t = ![0, t.val % 4]
    ∧ ((cfgM m hO).win 2).index t = ![6 + t.val % 4 / 2, t.val / 4, t.val % 2] := by
  have h := idx0 t
  refine ⟨h.1, ?_, ?_⟩
  · show ix0 (tbl m) 1 (grid0.coords t) = _
    rw [tbl_eq m]; exact h.2.1
  · show ix0 (tbl m) 2 (grid0.coords t) = _
    rw [tbl_eq m]; exact h.2.2

theorem covers : ((cfg0 at0).win 2).CoversWhere (fun β => 6 ≤ β (0 : Fin 3)) := by decide +kernel

theorem covers' : ∀ a : (pcfg0 (F := Ideal)).Adm, a = at0 → ((cfg0 a).win 2).CoversWhere (fun β => 6 ≤ β (0 : Fin 3)) := by
  rintro _ rfl; exact covers

/-- What a grid point stores at an index of its block is the in-projection's entry. -/
theorem point (c : Dev nD) (hO : Ok m) (t : Fin (cfgM m hO).N) (y : S1x1024x1024.Idx) : k0_pay1 (iblk m hO c 0 t) (iblk m hO c 1 t) y
    = REF0 (m ((c : Thread nD τ).loc main_arg0)) (m ((c : Thread nD τ).loc main_arg1)) (m ((c : Thread nD τ).loc main_arg2)) ((((cfgM m hO).win 2).blk t).view.emb y) := by
  have ht : t.val < 16 := lt_of_lt_of_eq t.isLt N_0
  idx_vars y
  obtain ⟨s, es⟩ : ∃ s : Fin 8, s.val = 6 + t.val % 4 / 2 := ⟨⟨6 + t.val % 4 / 2, by omega⟩, rfl⟩
  obtain ⟨r, er⟩ : ∃ r : Fin 4096, r.val = 1024 * (t.val / 4) + y1.val := ⟨⟨1024 * (t.val / 4) + y1.val, by omega⟩, rfl⟩
  obtain ⟨e, ee⟩ : ∃ e : Fin 2048, e.val = 1024 * (t.val % 2) + y2.val := ⟨⟨1024 * (t.val % 2) + y2.val, by omega⟩, rfl⟩
  refine Eq.trans ?_ (congrArg (REF0 (m ((c : Thread nD τ).loc main_arg0)) (m ((c : Thread nD τ).loc main_arg1)) (m ((c : Thread nD τ).loc main_arg2)))
    (?_ : ix3 s r e = _))
  rotate_left
  · blk_ext [idx m hO t]
  rw [ref_at _ _ _ s r e (by omega)]
  unfold prod
  pointwise [k0_pay1]
  refine Fin.sum_fin_congr fun x => congrArg₂ (fun a b : EReal => a * b) ?_ ?_
  all_goals blk_ext [iblk, V, idx m hO t]

/-- What a grid point leaves in its block. -/
theorem out_eq (c : Dev nD) (hO : Ok m) (t : Fin (cfgM m hO).N) : outsAt0 m hO c t = k0_pay1 (iblk m hO c 0 t) (iblk m hO c 1 t) := by
  unfold outsAt0
  frame_out
  exact congrArg₂ k0_pay1 (Memref.IsWhole.read_unread _ _) (Memref.IsWhole.read_unread _ _)

/-- The result array after the run. -/
theorem final (hO : Ok m) (c : Dev nD) : (dats m hO 0 c).arrAt 2 (cfgM m hO).N
    = REF0 (m ((c : Thread nD τ).loc main_arg0)) (m ((c : Thread nD τ).loc main_arg1)) (m ((c : Thread nD τ).loc main_arg2)) := by
  have h := (dats m hO 0 c).arrAt_eq_of_coversWhere (P := fun i : S8x4096x2048.Idx => 6 ≤ (i 0).val / 1) 2
    (REF0 (m ((c : Thread nD τ).loc main_arg0)) (m ((c : Thread nD τ).loc main_arg1)) (m ((c : Thread nD τ).loc main_arg2))) _ (covers' _ (adm_eq m hO))
    (fun t hf y => by
      blk_simp
      rw [after0_2, out_eq]
      exact point m c hO t y) (fun j => Iff.rfl)
  rw [h]
  refine funext fun (i : S8x4096x2048.Idx) => ?_
  by_cases hi : 6 ≤ (i 0).val / 1
  · exact if_pos hi
  · refine (if_neg hi).trans (Eq.trans ?_ (ref_keep _ _ _ i (by simpa using hi)).symm)
    rw [A_eq]
    rfl

end Cert.KernelFDIdeal.Value

end
-- ==== Proof.ValueM.lean ====
/- The values of the modulation's call. -/
module

public import proofs.«01_k».proof.Proof.Gen.KernelMIdeal.Frame
public import proofs.«01_k».proof.Proof.Gen.ReferenceMIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceMIdeal.Value

open Cert.ReferenceMIdeal Cert.ReferenceMIdeal.Gen

/-- The term of the result 0 over the arguments. -/
abbrev REF0 (A0 : FVec Ideal S16x4096 .f32) (A1 : FVec Ideal S4096x3072 .f32) (A2 : FVec Ideal S1x3072 .f32) : FVec Ideal S16x3072 .f32 :=
  addf (Host.dotGeneral dot_S16x4096_S4096x3072_S16x3072_1_0_0_1_n_n none (mulf A0 (Host.divf (broadcastInDim S16x4096 ![] bcast_S_S16x4096 (constant S_ .f32 0x3F800000#32)) (addf (broadcastInDim S16x4096 ![] bcast_S_S16x4096 (constant S_ .f32 0x3F800000#32)) (Host.exp (Host.negf A0))))) A1) (broadcastInDim S16x3072 ![0, 1] bcast_S1x3072_S16x3072_0_1 A2)

end Cert.ReferenceMIdeal.Value

namespace Cert.KernelMIdeal.Value

open Cert.KernelMIdeal Cert.KernelMIdeal.Gen
open Cert.ReferenceMIdeal.Value (REF0)

variable (m : (ℓ : Loc nD τ sig) → Buf (Elt Ideal) ℓ)

/-- The blocks' indices at a grid point. -/
theorem idx : ∀ t : Fin cfg0.N, win0_0.index t = ![0, t.val % 4] ∧ win0_1.index t = ![t.val % 4, t.val / 4] ∧ win0_2.index t = ![0, t.val / 4]
    ∧ win0_3.index t = ![0, t.val / 4] := (by decide +kernel : ∀ t : Fin grid0.N, _)

/-- A value times its logistic. -/
def swish (a : EReal) : EReal := a * Ideal.div 1 (1 + Ideal.exp (-a))

/-- The product of two blocks at an index. -/
def part (A : FVec Ideal S16x1024 .f32) (B : FVec Ideal S1024x512 .f32) (i : Fin 16) (j : Fin 512) : EReal :=
  ∑ x : Fin 1024, swish (A (ix2 i x)) * B (ix2 x j)

theorem pay1_at (a b) (i : Fin 16) (j : Fin 512) : k0_pay1 (F := Ideal) a b (ix2 i j) = part a b i j := by
  pointwise [k0_pay1]
  unfold part swish
  simp only [zero_sub]

theorem pay2_at (s a b) (i : Fin 16) (j : Fin 512) : k0_pay2 (F := Ideal) s a b (ix2 i j) = s (ix2 i j) + part a b i j := by
  pointwise [k0_pay2]
  unfold part swish
  simp only [zero_sub]

theorem pay3_at (s a b d) (i : Fin 16) (j : Fin 512) : k0_pay3 (F := Ideal) s a b d (ix2 i j) = s (ix2 i j) + part a b i j + d (ix2 0 j) := by
  pointwise [k0_pay3]
  unfold part swish
  simp only [zero_sub]

theorem accA (c : Dev nD) (t : Fin cfg0.N) (h : t.val % 4 = 0) (i : Fin 16) (j : Fin 512) :
    (outsAt0 m c t.val t.isLt).2 (ix2 i j) = part (iblk m c 0 t) (iblk m c 1 t) i j := by
  rw [outsAt0_A m c t h (by omega) (by omega)]; frame_out
  rw [pay1_at]

theorem accB (c : Dev nD) (t : Fin cfg0.N) (h : 1 ≤ t.val % 4 ∧ t.val % 4 ≤ 2) (i : Fin 16) (j : Fin 512) :
    (outsAt0 m c t.val t.isLt).2 (ix2 i j) = (outsAt0 m c (t.val - 1) (Nat.lt_of_le_of_lt (Nat.sub_le _ _) t.isLt)).2 (ix2 i j) + part (iblk m c 0 t) (iblk m c 1 t) i j := by
  rw [outsAt0_B m c t (by omega) h (by omega)]; frame_out
  rw [pay2_at]
  exact congrArg (fun s : EReal => s + part (iblk m c 0 t) (iblk m c 1 t) i j) (congrFun (Memref.IsWhole.read_unread _ _) _)

theorem accC (c : Dev nD) (t : Fin cfg0.N) (h : t.val % 4 = 3) (i : Fin 16) (j : Fin 512) :
    (outsAt0 m c t.val t.isLt).1 (ix2 i j) = (outsAt0 m c (t.val - 1) (Nat.lt_of_le_of_lt (Nat.sub_le _ _) t.isLt)).2 (ix2 i j) + part (iblk m c 0 t) (iblk m c 1 t) i j + iblk m c 2 t (ix2 0 j) := by
  rw [outsAt0_C m c t (by omega) (by omega) h]; frame_out
  rw [pay3_at]
  exact congrArg (fun s : EReal => s + part (iblk m c 0 t) (iblk m c 1 t) i j + iblk m c 2 t (ix2 0 j)) (congrFun (Memref.IsWhole.read_unread _ _) _)

/-- A quarter of an entry's sum. -/
def prod (A0 : FVec Ideal S16x4096 .f32) (A1 : FVec Ideal S4096x3072 .f32) (k : ℕ) (i : Fin 16) (j : Fin 3072) : EReal :=
  ∑ x : Fin 1024, swish (A0 (ix2 i ⟨k % 4 * 1024 + x.val, by omega⟩)) * A1 (ix2 ⟨k % 4 * 1024 + x.val, by omega⟩ j)

theorem part_at (c : Dev nD) (t : Fin cfg0.N) (i : Fin 16) (j : Fin 512) (s : Fin 3072) (hs : s.val = 512 * (t.val / 4) + j.val) :
    part (iblk m c 0 t) (iblk m c 1 t) i j = prod (m ((c : Thread nD τ).loc main_arg0)) (m ((c : Thread nD τ).loc main_arg1)) t.val i s := by
  unfold part prod
  refine Fin.sum_fin_congr fun x => congrArg₂ (fun a b : EReal => a * b) (congrArg swish ?_) ?_
  all_goals blk_ext [iblk, V, idx t]

theorem ref_at (A0 A1 A2) (i : Fin 16) (j : Fin 3072) : REF0 A0 A1 A2 (ix2 i j) = (∑ k : Fin 4, prod A0 A1 k.val i j) + A2 (ix2 0 j) := by
  pointwise [REF0]
  refine congrArg (fun s : EReal => s + A2 (ix2 0 j)) ?_
  rw [Fin.sum_univ_tiles 4 1024 rfl]
  refine Fin.sum_fin_congr fun k => ?_
  unfold prod
  refine Fin.sum_fin_congr fun x => congrArg₂ (fun a b : EReal => a * b) (congrArg swish ?_) ?_
  · refine congrArg (fun n => A0 (ix2 i n)) (Fin.ext ?_)
    show k.val * 1024 + x.val = k.val % 4 * 1024 + x.val; omega
  · refine congrArg (fun n => A1 (ix2 n j)) (Fin.ext ?_)
    show k.val * 1024 + x.val = k.val % 4 * 1024 + x.val; omega

/-- The result array after the run. -/
theorem final (c : Dev nD) : (dats m 0 c).arrAt 3 (cfgs 0).N = REF0 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have ht : t.val < 24 := lt_of_lt_of_eq t.isLt N_0
  have hN : cfg0.N = 24 := N_0
  blk_simp; rw [after0_3]
  idx_vars y
  obtain ⟨s, es⟩ : ∃ s : Fin 3072, s.val = 512 * (t.val / 4) + y1.val := ⟨⟨512 * (t.val / 4) + y1.val, by omega⟩, rfl⟩
  have ey : ((cfg0.win 3).blk t).view.emb (ix2 y0 y1) = ix2 y0 s := by blk_ext [idx t]
  refine Eq.trans ?_ (congrArg (REF0 (m ((c : Thread nD τ).loc main_arg0)) (m ((c : Thread nD τ).loc main_arg1)) (m ((c : Thread nD τ).loc main_arg2))) ey).symm
  obtain ⟨t0, e0⟩ : ∃ t0 : Fin cfg0.N, t0.val = t.val - 3 := ⟨⟨t.val - 3, by omega⟩, rfl⟩
  obtain ⟨t1, e1⟩ : ∃ t1 : Fin cfg0.N, t1.val = t.val - 2 := ⟨⟨t.val - 2, by omega⟩, rfl⟩
  obtain ⟨t2, e2⟩ : ∃ t2 : Fin cfg0.N, t2.val = t.val - 1 := ⟨⟨t.val - 1, by omega⟩, rfl⟩
  have hcongr : ∀ n n' (h : n < cfg0.N) (h' : n' < cfg0.N), n = n' → outsAt0 m c n h = outsAt0 m c n' h' := by
    rintro n _ h h' rfl; rfl
  rw [accC m c t h3 y0 y1, hcongr (t.val - 1) t2.val _ t2.isLt (by omega), accB m c t2 (by omega) y0 y1,
    hcongr (t2.val - 1) t1.val _ t1.isLt (by omega), accB m c t1 (by omega) y0 y1,
    hcongr (t1.val - 1) t0.val _ t0.isLt (by omega), accA m c t0 (by omega) y0 y1,
    part_at m c t0 y0 y1 s (by omega), part_at m c t1 y0 y1 s (by omega), part_at m c t2 y0 y1 s (by omega), part_at m c t y0 y1 s (by omega)]
  rw [ref_at, Fin.sum_univ_four]
  have hp : ∀ n k : ℕ, n % 4 = k % 4 → prod (m ((c : Thread nD τ).loc main_arg0)) (m ((c : Thread nD τ).loc main_arg1)) n y0 s = prod (m ((c : Thread nD τ).loc main_arg0)) (m ((c : Thread nD τ).loc main_arg1)) k y0 s := by
    intro n k e
    unfold prod
    simp only [e]
  refine congrArg₂ (fun a b : EReal => a + b) (congrArg₂ (fun a b : EReal => a + b) (congrArg₂ (fun a b : EReal => a + b) (congrArg₂ (fun a b : EReal => a + b) ?_ ?_) ?_) ?_) ?_
  · exact hp _ 0 (by omega)
  · exact hp _ 1 (by omega)
  · exact hp _ 2 (by omega)
  · exact hp _ 3 (by omega)
  · blk_ext [iblk, V, idx t]

end Cert.KernelMIdeal.Value

end
-- ==== Proof.ValueN.lean ====
/- The values of the adaptive norm's call. -/
module

public import proofs.«01_k».proof.Proof.Gen.KernelNIdeal.Frame
public import proofs.«01_k».proof.Proof.Gen.ReferenceNIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceNIdeal.Value

open Cert.ReferenceNIdeal Cert.ReferenceNIdeal.Gen

/-- The term of the result 0 over the arguments. -/
abbrev REF0 (A0 : FVec Ideal S2x2048x4096 .f32) (A1 : FVec Ideal S1x4096 .f32) (A2 : FVec Ideal S2x1x4096 .f32) (A3 : FVec Ideal S2x1x4096 .f32) : FVec Ideal S2x2048x4096 .bf16 :=
  truncf .bf16 (addf (mulf (mulf (mulf A0 (broadcastInDim S2x2048x4096 ![0, 1, 2] bcast_S2x2048x1_S2x2048x4096_0_1_2 (Host.rsqrt (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (broadcastInDim S2x2048x4096 ![0, 1, 2] bcast_S1x1x4096_S2x2048x4096_0_1_2 (broadcastInDim S1x1x4096 ![1, 2] bcast_S1x4096_S1x1x4096_1_2 A1))) (broadcastInDim S2x2048x4096 ![0, 1, 2] bcast_S2x1x4096_S2x2048x4096_0_1_2 (addf (broadcastInDim S2x1x4096 ![] bcast_S_S2x1x4096 (constant S_ .f32 0x3F800000#32)) A2))) (broadcastInDim S2x2048x4096 ![0, 1, 2] bcast_S2x1x4096_S2x2048x4096_0_1_2 A3)) bitsLt_bf16_f32

end Cert.ReferenceNIdeal.Value

namespace Cert.KernelNIdeal.Value

open Cert.KernelNIdeal Cert.KernelNIdeal.Gen
open Cert.ReferenceNIdeal.Value (REF0)

variable (m : (ℓ : Loc nD τ sig) → Buf (Elt Ideal) ℓ)

/-- The blocks' indices at a grid point. -/
theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![t.val / 8, t.val % 8, 0] := (by decide +kernel : ∀ t : Fin grid0.N, _)

/-- A block's value at an index is the reference's at that index of the array. -/
theorem point (c : Dev nD) (t : Fin cfg0.N) (y : S1x256x4096.Idx) : k0_pay1 (F := Ideal) (iblk m c 0 t) (iblk m c 1 t) (iblk m c 2 t) (iblk m c 3 t) y
    = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF0]
  have e0 : ∀ x, iblk m c 0 t (ix3 0 (y 1) x) = m ((c : Thread nD τ).loc main_arg0) (ix3 (((cfg0.win 4).blk t).view.emb y 0) (((cfg0.win 4).blk t).view.emb y 1) x) := by
    intro x; blk_ext [iblk, V, idx t]
  refine congrArg₂ (fun a b : EReal => a + b) (congrArg₂ (fun a b : EReal => a * b) (congrArg₂ (fun a b : EReal => a * b) (congrArg₂ (fun a b : EReal => a * b) ?_ (congrArg (fun a : EReal => Ideal.rsqrt (Ideal.div a _ + _)) ?_)) ?_) (congrArg (fun a : EReal => 1 + a) ?_)) ?_
  · blk_ext [iblk, V, idx t]
  · refine Fin.sum_fin_congr fun x => ?_
    exact congrArg₂ (fun a b : EReal => a * b) (e0 x) (e0 x)
  · blk_ext [iblk, V, idx t]
  · blk_ext [iblk, V, idx t]
  · blk_ext [iblk, V, idx t]

/-- The result array after the run. -/
theorem final (c : Dev nD) : (dats m 0 c).arrAt 4 (cfgs 0).N
    = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp; rw [after0_4]; frame_out
  exact point m c t y

end Cert.KernelNIdeal.Value

end
-- ==== Proof.ValueG.lean ====
/- The values of the adaptive norm's gradients. -/
module

public import proofs.«01_k».proof.Proof.Gen.KernelGIdeal.Frame
public import proofs.«01_k».proof.Proof.Gen.ReferenceGIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceGIdeal.Value

open Cert.ReferenceGIdeal Cert.ReferenceGIdeal.Gen

/-- The term of the result 0 over the arguments. -/
abbrev REF0 (A0 : FVec Ideal S2x2048x4096 .f32) (A1 : FVec Ideal S2x2048x4096 .f32) (A2 : FVec Ideal S2x2048x4096 .f32) (A3 : FVec Ideal S1x4096 .f32) (A4 : FVec Ideal S2x1x4096 .f32) : FVec Ideal S2x2048x4096 .f32 :=
  addf A2 (addf (addf (mulf (mulf (mulf (shapeCast _ A1 shapeCasts_S2x2048x4096_S2x2048x4096) (broadcastInDim S2x2048x4096 ![0, 1, 2] bcast_S2x1x4096_S2x2048x4096_0_1_2 (addf (broadcastInDim S2x1x4096 ![] bcast_S_S2x1x4096 (constant S_ .f32 0x3F800000#32)) A4))) (broadcastInDim S2x2048x4096 ![0, 1, 2] bcast_S1x1x4096_S2x2048x4096_0_1_2 (broadcastInDim S1x1x4096 ![1, 2] bcast_S1x4096_S1x1x4096_1_2 A3))) (broadcastInDim S2x2048x4096 ![0, 1, 2] bcast_S2x2048x1_S2x2048x4096_0_1_2 (Host.rsqrt (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (mulf A0 (broadcastInDim S2x2048x4096 ![0, 1] bcast_S2x2048_S2x2048x4096_0_1 (Host.reduceAdd (Host.divf (mulf (shapeCast _ (Host.reduceAdd (mulf A0 (mulf (mulf (shapeCast _ A1 shapeCasts_S2x2048x4096_S2x2048x4096) (broadcastInDim S2x2048x4096 ![0, 1, 2] bcast_S2x1x4096_S2x2048x4096_0_1_2 (addf (broadcastInDim S2x1x4096 ![] bcast_S_S2x1x4096 (constant S_ .f32 0x3F800000#32)) A4))) (broadcastInDim S2x2048x4096 ![0, 1, 2] bcast_S1x1x4096_S2x2048x4096_0_1_2 (broadcastInDim S1x1x4096 ![1, 2] bcast_S1x4096_S1x1x4096_1_2 A3)))) (constant S_ .f32 0x00000000#32) reducesTo_S2x2048x4096_S2x2048_d2 h_S_) shapeCasts_S2x2048_S2x2048x1) (mulf (broadcastInDim S2x2048x1 ![] bcast_S_S2x2048x1 (constant S_ .f32 0xBF000000#32)) (Host.divf (Host.rsqrt (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))) (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (broadcastInDim S2x2048x1 ![] bcast_S_S2x2048x1 (constant S_ .f32 0x45800000#32))) (constant S_ .f32 0x00000000#32) reducesTo_S2x2048x1_S2x2048_d2 h_S_)))) (mulf (broadcastInDim S2x2048x4096 ![0, 1] bcast_S2x2048_S2x2048x4096_0_1 (Host.reduceAdd (Host.divf (mulf (shapeCast _ (Host.reduceAdd (mulf A0 (mulf (mulf (shapeCast _ A1 shapeCasts_S2x2048x4096_S2x2048x4096) (broadcastInDim S2x2048x4096 ![0, 1, 2] bcast_S2x1x4096_S2x2048x4096_0_1_2 (addf (broadcastInDim S2x1x4096 ![] bcast_S_S2x1x4096 (constant S_ .f32 0x3F800000#32)) A4))) (broadcastInDim S2x2048x4096 ![0, 1, 2] bcast_S1x1x4096_S2x2048x4096_0_1_2 (broadcastInDim S1x1x4096 ![1, 2] bcast_S1x4096_S1x1x4096_1_2 A3)))) (constant S_ .f32 0x00000000#32) reducesTo_S2x2048x4096_S2x2048_d2 h_S_) shapeCasts_S2x2048_S2x2048x1) (mulf (broadcastInDim S2x2048x1 ![] bcast_S_S2x2048x1 (constant S_ .f32 0xBF000000#32)) (Host.divf (Host.rsqrt (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))) (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (broadcastInDim S2x2048x1 ![] bcast_S_S2x2048x1 (constant S_ .f32 0x45800000#32))) (constant S_ .f32 0x00000000#32) reducesTo_S2x2048x1_S2x2048_d2 h_S_)) A0))

/-- The term of the result 1 over the arguments. -/
abbrev REF1 (A0 : FVec Ideal S2x2048x4096 .f32) (A1 : FVec Ideal S2x2048x4096 .f32) (A2 : FVec Ideal S2x2048x4096 .f32) (A3 : FVec Ideal S1x4096 .f32) (A4 : FVec Ideal S2x1x4096 .f32) : FVec Ideal S2x1x4096 .f32 :=
  shapeCast _ (Host.reduceAdd A1 (constant S_ .f32 0x00000000#32) reducesTo_S2x2048x4096_S2x4096_d1 h_S_) shapeCasts_S2x4096_S2x1x4096

/-- The term of the result 2 over the arguments. -/
abbrev REF2 (A0 : FVec Ideal S2x2048x4096 .f32) (A1 : FVec Ideal S2x2048x4096 .f32) (A2 : FVec Ideal S2x2048x4096 .f32) (A3 : FVec Ideal S1x4096 .f32) (A4 : FVec Ideal S2x1x4096 .f32) : FVec Ideal S2x1x4096 .f32 :=
  shapeCast _ (Host.reduceAdd (mulf (mulf (mulf A0 (broadcastInDim S2x2048x4096 ![0, 1, 2] bcast_S2x2048x1_S2x2048x4096_0_1_2 (Host.rsqrt (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (broadcastInDim S2x2048x4096 ![0, 1, 2] bcast_S1x1x4096_S2x2048x4096_0_1_2 (broadcastInDim S1x1x4096 ![1, 2] bcast_S1x4096_S1x1x4096_1_2 A3))) (shapeCast _ A1 shapeCasts_S2x2048x4096_S2x2048x4096)) (constant S_ .f32 0x00000000#32) reducesTo_S2x2048x4096_S2x4096_d1 h_S_) shapeCasts_S2x4096_S2x1x4096

/-- The term of the result 3 over the arguments. -/
abbrev REF3 (A0 : FVec Ideal S2x2048x4096 .f32) (A1 : FVec Ideal S2x2048x4096 .f32) (A2 : FVec Ideal S2x2048x4096 .f32) (A3 : FVec Ideal S1x4096 .f32) (A4 : FVec Ideal S2x1x4096 .f32) : FVec Ideal S1x4096 .f32 :=
  broadcastInDim S1x4096 ![1] bcast_S4096_S1x4096_1 (Host.reduceAdd (shapeCast _ (Host.reduceAdd (mulf (mulf A0 (broadcastInDim S2x2048x4096 ![0, 1, 2] bcast_S2x2048x1_S2x2048x4096_0_1_2 (Host.rsqrt (addf (Host.divf (broadcastInDim S2x2048x1 ![0, 1] bcast_S2x2048_S2x2048x1_0_1 (Host.reduceAdd (mulf A0 A0) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (mulf (shapeCast _ A1 shapeCasts_S2x2048x4096_S2x2048x4096) (broadcastInDim S2x2048x4096 ![0, 1, 2] bcast_S2x1x4096_S2x2048x4096_0_1_2 (addf (broadcastInDim S2x1x4096 ![] bcast_S_S2x1x4096 (constant S_ .f32 0x3F800000#32)) A4)))) (constant S_ .f32 0x00000000#32) reducesTo_S2x2048x4096_S4096_d0_1 h_S_) shapeCasts_S4096_S1x1x4096) (constant S_ .f32 0x00000000#32) reducesTo_S1x1x4096_S4096_d0_1 h_S_)

end Cert.ReferenceGIdeal.Value

namespace Cert.KernelGIdeal.Value

open Cert.KernelGIdeal Cert.KernelGIdeal.Gen
open Cert.ReferenceGIdeal.Value (REF0 REF1 REF2 REF3)

variable (m : (ℓ : Loc nD τ sig) → Buf (Elt Ideal) ℓ)

/-- The blocks' indices at a grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![t.val / 8, 0, 0] ∧ win0_5.index t = ![t.val / 8, t.val % 8, 0]
    ∧ win0_6.index t = ![t.val / 8, 0, 0] ∧ win0_7.index t = ![t.val / 8, 0, 0] ∧ win0_8.index t = ![0, 0] := (by decide +kernel : ∀ t : Fin grid0.N, _)

/-- The cube of the reciprocal square root is that root over its argument, and a nonnegative number, where the argument is positive. -/
theorem cube (w : EReal) (hw : 0 < w) : ∃ ρ : ℝ, Ideal.rsqrt w * Ideal.rsqrt w * Ideal.rsqrt w = (ρ : EReal) ∧ Ideal.div (Ideal.rsqrt w) w = (ρ : EReal) ∧ 0 ≤ ρ := by
  induction w using EReal.rec with
  | bot => exact absurd hw (by simp)
  | top =>
    have e : Ideal.rsqrt ⊤ = 0 := rfl
    exact ⟨0, by simp [e], by simp [e, Ideal.div], le_refl _⟩
  | coe r =>
    have hr : 0 < r := by exact_mod_cast hw
    have hs : 0 < Real.sqrt r := Real.sqrt_pos.mpr hr
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    refine ⟨(Real.sqrt r)⁻¹ * (Real.sqrt r)⁻¹ * (Real.sqrt r)⁻¹, ?_, ?_, by positivity⟩
    · rw [e]; norm_cast
    · rw [e, Ideal.div_coe hr.ne', ← EReal.coe_mul]
      congr 1
      have h2 : Real.sqrt r * Real.sqrt r = r := Real.mul_self_sqrt hr.le
      have h3 : r⁻¹ = (Real.sqrt r)⁻¹ * (Real.sqrt r)⁻¹ := by rw [← mul_inv, h2]
      rw [one_div, h3, mul_assoc]

/-- Twice the product with half a number's negative is the negative of the product. -/
theorem halves (p : EReal) (c d : ℝ) (hc : 0 ≤ c) (hd : d + d = -c) : p * (d : EReal) + p * (d : EReal) = -(p * (c : EReal)) := by
  rcases hc.eq_or_lt with h | h
  · have : d = 0 := by linarith
    subst this; subst h; simp
  · have hd0 : d < 0 := by linarith
    induction p using EReal.rec with
    | bot => rw [EReal.bot_mul_coe_of_neg hd0, EReal.bot_mul_coe_of_pos h]; simp
    | top => rw [EReal.top_mul_coe_of_neg hd0, EReal.top_mul_coe_of_pos h]; simp
    | coe r =>
      norm_cast
      rw [← mul_add, hd]; ring

theorem n4096 : Ideal.ofBits .f32 0x45800000#32 = ((4096 : ℝ) : EReal) := by
  simp [Ideal.ofBits, Ideal.ieee, -EReal.coe_mul, -EReal.coe_neg]; norm_num

theorem nhalf : Ideal.ofBits .f32 0xBF000000#32 = ((-(1 / 2) : ℝ) : EReal) := by
  simp [Ideal.ofBits, Ideal.ieee, -EReal.coe_mul, -EReal.coe_neg]; norm_num

theorem neps : ∃ e : ℝ, 0 < e ∧ Ideal.ofBits .f32 0x358637BD#32 = (e : EReal) := by
  refine ⟨_, ?_, by simp [Ideal.ofBits, Ideal.ieee, -EReal.coe_mul]; rfl⟩
  positivity

/-- The two forms of the norm's gradient agree. -/
theorem grad (u x S w : EReal) (hw : 0 < w) : Ideal.rsqrt w * u - x * (Ideal.rsqrt w * Ideal.rsqrt w * Ideal.rsqrt w) * Ideal.div S (Ideal.ofBits .f32 0x45800000#32)
    = u * Ideal.rsqrt w + x * Ideal.div (S * (Ideal.ofBits .f32 0xBF000000#32 * Ideal.div (Ideal.rsqrt w) w)) (Ideal.ofBits .f32 0x45800000#32)
      + Ideal.div (S * (Ideal.ofBits .f32 0xBF000000#32 * Ideal.div (Ideal.rsqrt w) w)) (Ideal.ofBits .f32 0x45800000#32) * x := by
  obtain ⟨ρ, e1, e2, hρ⟩ := cube w hw
  rw [e1, e2, n4096, nhalf, Ideal.div_coe (by norm_num), Ideal.div_coe (by norm_num)]
  have h := halves (x * S) (ρ * (1 / 4096)) (-(1 / 2) * ρ * (1 / 4096)) (by positivity) (by ring)
  have e3 : x * (S * (((-(1 / 2) : ℝ) : EReal) * (ρ : EReal)) * ((1 / 4096 : ℝ) : EReal)) = x * S * ((-(1 / 2) * ρ * (1 / 4096) : ℝ) : EReal) := by
    rw [EReal.coe_mul, EReal.coe_mul]; simp only [mul_assoc]
  have e4 : x * (ρ : EReal) * (S * ((1 / 4096 : ℝ) : EReal)) = x * S * ((ρ * (1 / 4096) : ℝ) : EReal) := by
    rw [EReal.coe_mul]; simp only [mul_assoc, mul_left_comm, mul_comm]
  rw [mul_comm (_ * ((1 / 4096 : ℝ) : EReal)) x, e3, e4, add_assoc, h, sub_eq_add_neg, mul_comm u]

/-- The mean of a row's squares with the small number added is positive. -/
theorem pos (f : Fin 4096 → EReal) : 0 < Ideal.div (∑ x, f x * f x) (Ideal.ofBits .f32 0x45800000#32) + Ideal.ofBits .f32 0x358637BD#32 := by
  obtain ⟨e, he, h⟩ := neps
  rw [h, n4096, Ideal.div_coe (by norm_num)]
  have h0 : 0 ≤ (∑ x, f x * f x) * ((1 / 4096 : ℝ) : EReal) := by
    refine mul_nonneg (Finset.sum_nonneg fun x _ => ?_) (by exact_mod_cast (by norm_num : (0:ℝ) ≤ 1 / 4096))
    rcases le_total 0 (f x) with hx | hx
    · exact mul_nonneg hx hx
    · rw [← neg_mul_neg]; exact mul_nonneg (EReal.neg_nonneg.mpr hx) (EReal.neg_nonneg.mpr hx)
  exact lt_of_lt_of_le (by exact_mod_cast he) (le_add_of_nonneg_left h0)

theorem pay8_at (v8) (r : Fin 256) (j : Fin 4096) : k0_pay8 (F := Ideal) v8 (ix2 r j) = v8 (ix3 0 r j) * Ideal.rsqrt (Ideal.div (∑ x : Fin 4096, v8 (ix3 0 r x) * v8 (ix3 0 r x)) (Ideal.ofBits .f32 0x45800000#32) + Ideal.ofBits .f32 0x358637BD#32) := by
  pointwise [k0_pay8, k0_pay7, k0_pay5]

theorem pay9_at (v10 v23) (j : Fin 4096) : k0_pay9 (F := Ideal) v10 v23 (ix3 0 0 j) = v23 (ix3 0 0 j) + ∑ r : Fin 256, v10 (ix3 0 r j) := by
  pointwise [k0_pay9, k0_pay6]

theorem pay10_at (v10 v12 v22 v31) (j : Fin 4096) : k0_pay10 (F := Ideal) (k0_pay6 v10) v12 v22 v31 (ix3 0 0 j) = v31 (ix3 0 0 j) + ∑ r : Fin 256, v10 (ix3 0 r j) * (v22 (ix2 r j) * v12 (ix2 0 j)) := by
  pointwise [k0_pay10, k0_pay6]

theorem pay12_at (v10 v22 v42 v48) (j : Fin 4096) : k0_pay12 (F := Ideal) (k0_pay6 v10) v22 v42 v48 (ix2 0 j) = v48 (ix2 0 j) + ∑ r : Fin 256, v10 (ix3 0 r j) * (1 + v42 (ix3 0 0 j)) * v22 (ix2 r j) := by
  pointwise [k0_pay12, k0_pay11, k0_pay6]

/-- A reduction over the two first of three axes is the double sum along them. -/
theorem red01 {n0 n1 n2 : ℕ} (h : (⟨3, ![n0, n1, n2]⟩ : Shape).ReducesTo [0, 1] ⟨1, ![n2]⟩) (v : (⟨3, ![n0, n1, n2]⟩ : Shape).Idx → EReal) (z : EReal)
    (j : Fin n2) : Ideal.hostReduceAdd h v z (ix1 j) = z + ∑ a : Fin n0, ∑ b : Fin n1, v (ix3 a b j) := by
  unfold Ideal.hostReduceAdd
  refine congrArg (fun s : EReal => z + s) ?_
  rw [← Fintype.sum_prod_type' (fun a b => v (ix3 a b j))]
  refine (Finset.sum_bij (fun k _ => ix3 k.1 k.2 j) ?_ ?_ ?_ ?_).symm
  · intro k _
    refine Finset.mem_filter.mpr ⟨Finset.mem_univ _, funext fun a => Fin.ext ?_⟩
    match a with
    | ⟨0, _⟩ => rfl
  · intro k _ l _ e
    exact Prod.ext (congrFun e 0) (congrFun e 1)
  · intro i hi
    have e := (Finset.mem_filter.mp hi).2
    refine ⟨(i 0, i 1), Finset.mem_univ _, funext fun a => Fin.ext ?_⟩
    match a with
    | ⟨0, _⟩ => rfl
    | ⟨1, _⟩ => rfl
    | ⟨2, _⟩ => exact (congrArg Fin.val (congrFun e ⟨0, Nat.one_pos⟩)).symm
  · intro k _; rfl

/-- A row's reciprocal root mean square. -/
def rms (A : FVec Ideal S2x2048x4096 .f32) (b : Fin 2) (k : Fin 2048) : EReal :=
  Ideal.rsqrt (Ideal.div (∑ x : Fin 4096, A (ix3 b k x) * A (ix3 b k x)) (Ideal.ofBits .f32 0x45800000#32) + Ideal.ofBits .f32 0x358637BD#32)

/-- The part of a sum over the rows that one block's rows give. -/
def blkSum (T : Fin 2 → Fin 2048 → EReal) (s : ℕ) : EReal :=
  ∑ r : Fin 256, T ⟨s / 8 % 2, by omega⟩ ⟨s % 8 * 256 + r.val, by omega⟩

/-- The rows of one example are the rows of its eight blocks. -/
theorem rows (T : Fin 2 → Fin 2048 → EReal) (b : Fin 2) : ∑ s ∈ Finset.range 8, blkSum T (8 * b.val + s) = ∑ k : Fin 2048, T b k := by
  rw [Finset.sum_range, Fin.sum_univ_tiles 8 256 rfl]
  refine Fin.sum_fin_congr fun s => ?_
  unfold blkSum
  refine Fin.sum_fin_congr fun r => congrArg₂ T (Fin.ext ?_) (Fin.ext ?_)
  · show (8 * b.val + s.val) / 8 % 2 = b.val; omega
  · show (8 * b.val + s.val) % 8 * 256 + r.val = s.val * 256 + r.val; omega

/-- All rows are the rows of the sixteen blocks. -/
theorem rows2 (T : Fin 2 → Fin 2048 → EReal) : ∑ s ∈ Finset.range 16, blkSum T s = ∑ b : Fin 2, ∑ k : Fin 2048, T b k := by
  rw [Fin.sum_univ_two, ← rows T 0, ← rows T 1, Finset.sum_range_add _ 8 8]
  refine congrArg₂ (fun a b : EReal => a + b) (Finset.sum_congr rfl fun s _ => congrArg (blkSum T) ?_) (Finset.sum_congr rfl fun s _ => congrArg (blkSum T) ?_)
  · show s = 8 * 0 + s; omega
  · show 8 + s = 8 * 1 + s; omega

/-- The summands of the three sums over the rows. -/
def T1 (A1 : FVec Ideal S2x2048x4096 .f32) (j : Fin 4096) : Fin 2 → Fin 2048 → EReal := fun b k => A1 (ix3 b k j)
def T2 (A0 A1 : FVec Ideal S2x2048x4096 .f32) (A3 : FVec Ideal S1x4096 .f32) (j : Fin 4096) : Fin 2 → Fin 2048 → EReal :=
  fun b k => A0 (ix3 b k j) * rms A0 b k * A3 (ix2 0 j) * A1 (ix3 b k j)
def T3 (A0 A1 : FVec Ideal S2x2048x4096 .f32) (A4 : FVec Ideal S2x1x4096 .f32) (j : Fin 4096) : Fin 2 → Fin 2048 → EReal :=
  fun b k => A0 (ix3 b k j) * rms A0 b k * (A1 (ix3 b k j) * (1 + A4 (ix3 b 0 j)))

theorem x_at (c : Dev nD) (t : Fin cfg0.N) (r : Fin 256) (x : Fin 4096) :
    iblk m c 0 t (ix3 0 r x) = m ((c : Thread nD τ).loc main_arg0) (ix3 ⟨t.val / 8 % 2, by omega⟩ ⟨t.val % 8 * 256 + r.val, by omega⟩ x) := by
  have ht : t.val < 16 := lt_of_lt_of_eq t.isLt N_0
  blk_ext [iblk, V, idx t]

theorem dh_at (c : Dev nD) (t : Fin cfg0.N) (r : Fin 256) (x : Fin 4096) :
    iblk m c 1 t (ix3 0 r x) = m ((c : Thread nD τ).loc main_arg1) (ix3 ⟨t.val / 8 % 2, by omega⟩ ⟨t.val % 8 * 256 + r.val, by omega⟩ x) := by
  have ht : t.val < 16 := lt_of_lt_of_eq t.isLt N_0
  blk_ext [iblk, V, idx t]

theorem g_at (c : Dev nD) (t : Fin cfg0.N) (x : Fin 4096) : iblk m c 3 t (ix2 0 x) = m ((c : Thread nD τ).loc main_arg3) (ix2 0 x) := by
  blk_ext [iblk, V, idx t]

theorem sc_at (c : Dev nD) (t : Fin cfg0.N) (x : Fin 4096) :
    iblk m c 4 t (ix3 0 0 x) = m ((c : Thread nD τ).loc main_arg4) (ix3 ⟨t.val / 8 % 2, by omega⟩ 0 x) := by
  have ht : t.val < 16 := lt_of_lt_of_eq t.isLt N_0
  blk_ext [iblk, V, idx t]

theorem xh_at (c : Dev nD) (t : Fin cfg0.N) (r : Fin 256) (j : Fin 4096) : k0_pay8 (F := Ideal) (iblk m c 0 t) (ix2 r j)
    = HMul.hMul (α := EReal) (β := EReal) (γ := EReal) (m ((c : Thread nD τ).loc main_arg0) (ix3 ⟨t.val / 8 % 2, by omega⟩ ⟨t.val % 8 * 256 + r.val, by omega⟩ j))
      (rms (m ((c : Thread nD τ).loc main_arg0)) ⟨t.val / 8 % 2, by omega⟩ ⟨t.val % 8 * 256 + r.val, by omega⟩) := by
  rw [pay8_at]
  simp only [x_at m c t]
  rfl

/-- A block's additions to the three sums. -/
theorem add6 (c : Dev nD) (t : Fin cfg0.N) (v) (j : Fin 4096) : k0_pay9 (F := Ideal) (iblk m c 1 t) v (ix3 0 0 j)
    = v (ix3 0 0 j) + blkSum (T1 (m ((c : Thread nD τ).loc main_arg1)) j) t.val := by
  rw [pay9_at]
  exact congrArg (fun s : EReal => v (ix3 0 0 j) + s) (Fin.sum_fin_congr fun r => dh_at m c t r j)

theorem add7 (c : Dev nD) (t : Fin cfg0.N) (v) (j : Fin 4096) : k0_pay10 (F := Ideal) (k0_pay6 (iblk m c 1 t)) (iblk m c 3 t) (k0_pay8 (iblk m c 0 t)) v (ix3 0 0 j)
    = v (ix3 0 0 j) + blkSum (T2 (m ((c : Thread nD τ).loc main_arg0)) (m ((c : Thread nD τ).loc main_arg1)) (m ((c : Thread nD τ).loc main_arg3)) j) t.val := by
  rw [pay10_at]
  refine congrArg (fun s : EReal => v (ix3 0 0 j) + s) (Fin.sum_fin_congr fun r => ?_)
  rw [xh_at, dh_at, g_at]
  exact mul_comm (G := EReal) _ _

theorem add8 (c : Dev nD) (t : Fin cfg0.N) (v) (j : Fin 4096) : k0_pay12 (F := Ideal) (k0_pay6 (iblk m c 1 t)) (k0_pay8 (iblk m c 0 t)) (iblk m c 4 t) v (ix2 0 j)
    = v (ix2 0 j) + blkSum (T3 (m ((c : Thread nD τ).loc main_arg0)) (m ((c : Thread nD τ).loc main_arg1)) (m ((c : Thread nD τ).loc main_arg4)) j) t.val := by
  rw [pay12_at]
  refine congrArg (fun s : EReal => v (ix2 0 j) + s) (Fin.sum_fin_congr fun r => ?_)
  rw [xh_at, dh_at, sc_at]
  exact mul_comm (G := EReal) _ _

theorem zero6 (j : Fin 4096) : k0_pay2 (F := Ideal) (ix3 0 0 j) = 0 := by pointwise [k0_pay2]
theorem zero7 (j : Fin 4096) : k0_pay3 (F := Ideal) (ix3 0 0 j) = 0 := by pointwise [k0_pay3]
theorem zero8 (j : Fin 4096) : k0_pay4 (F := Ideal) (ix2 0 j) = 0 := by pointwise [k0_pay4]

theorem first6 (c : Dev nD) (t : Fin cfg0.N) (h : t.val % 8 = 0) (j : Fin 4096) : (outsAt0 m c t.val t.isLt).2.1 (ix3 0 0 j)
    = blkSum (T1 (m ((c : Thread nD τ).loc main_arg1)) j) t.val := by
  by_cases h' : t.val % 16 = 0
  · rw [outsAt0_A m c t h h']; frame_out
    rw [add6, zero6]; exact zero_add (M := EReal) _
  · rw [outsAt0_C m c t h h']; frame_out
    rw [add6, zero6]; exact zero_add (M := EReal) _

theorem next6 (c : Dev nD) (t : Fin cfg0.N) (h : ¬ t.val % 8 = 0) (j : Fin 4096) : (outsAt0 m c t.val t.isLt).2.1 (ix3 0 0 j)
    = (outsAt0 m c (t.val - 1) (Nat.lt_of_le_of_lt (Nat.sub_le _ _) t.isLt)).2.1 (ix3 0 0 j) + blkSum (T1 (m ((c : Thread nD τ).loc main_arg1)) j) t.val := by
  rw [outsAt0_B m c t h (by omega)]; frame_out
  rw [add6]

theorem first7 (c : Dev nD) (t : Fin cfg0.N) (h : t.val % 8 = 0) (j : Fin 4096) : (outsAt0 m c t.val t.isLt).2.2.1 (ix3 0 0 j)
    = blkSum (T2 (m ((c : Thread nD τ).loc main_arg0)) (m ((c : Thread nD τ).loc main_arg1)) (m ((c : Thread nD τ).loc main_arg3)) j) t.val := by
  by_cases h' : t.val % 16 = 0
  · rw [outsAt0_A m c t h h']; frame_out
    rw [add7, zero7]; exact zero_add (M := EReal) _
  · rw [outsAt0_C m c t h h']; frame_out
    rw [add7, zero7]; exact zero_add (M := EReal) _

theorem next7 (c : Dev nD) (t : Fin cfg0.N) (h : ¬ t.val % 8 = 0) (j : Fin 4096) : (outsAt0 m c t.val t.isLt).2.2.1 (ix3 0 0 j)
    = (outsAt0 m c (t.val - 1) (Nat.lt_of_le_of_lt (Nat.sub_le _ _) t.isLt)).2.2.1 (ix3 0 0 j) + blkSum (T2 (m ((c : Thread nD τ).loc main_arg0)) (m ((c : Thread nD τ).loc main_arg1)) (m ((c : Thread nD τ).loc main_arg3)) j) t.val := by
  rw [outsAt0_B m c t h (by omega)]; frame_out
  rw [add7]

theorem first8 (c : Dev nD) (t : Fin cfg0.N) (h : t.val % 16 = 0) (j : Fin 4096) : (outsAt0 m c t.val t.isLt).2.2.2 (ix2 0 j)
    = blkSum (T3 (m ((c : Thread nD τ).loc main_arg0)) (m ((c : Thread nD τ).loc main_arg1)) (m ((c : Thread nD τ).loc main_arg4)) j) t.val := by
  rw [outsAt0_A m c t (by omega) h]; frame_out
  rw [add8, zero8]; exact zero_add (M := EReal) _

theorem next8 (c : Dev nD) (t : Fin cfg0.N) (h : ¬ t.val % 16 = 0) (j : Fin 4096) : (outsAt0 m c t.val t.isLt).2.2.2 (ix2 0 j)
    = (outsAt0 m c (t.val - 1) (Nat.lt_of_le_of_lt (Nat.sub_le _ _) t.isLt)).2.2.2 (ix2 0 j) + blkSum (T3 (m ((c : Thread nD τ).loc main_arg0)) (m ((c : Thread nD τ).loc main_arg1)) (m ((c : Thread nD τ).loc main_arg4)) j) t.val := by
  by_cases h' : t.val % 8 = 0
  · rw [outsAt0_C m c t h' h]; frame_out
    rw [add8]
  · rw [outsAt0_B m c t h' h]; frame_out
    rw [add8]

/-- A value that starts anew at every `p`-th point and grows by a summand at the others is the sum of the summands since the start. -/
theorem accum (p N : ℕ) (f : (n : ℕ) → n < N → EReal) (B : ℕ → EReal) (h0 : ∀ n h, n % p = 0 → f n h = B n)
    (h1 : ∀ n h, ¬ n % p = 0 → f n h = f (n - 1) (Nat.lt_of_le_of_lt (Nat.sub_le _ _) h) + B n) :
    ∀ q k (h : p * q + k < N), k < p → f (p * q + k) h = ∑ s ∈ Finset.range (k + 1), B (p * q + s) := by
  intro q k
  induction k with
  | zero =>
    intro h hk
    rw [h0 _ h (by simp), Finset.sum_range_one]
  | succ k ih =>
    intro h hk
    have e : f (p * q + (k + 1) - 1) (Nat.lt_of_le_of_lt (Nat.sub_le _ _) h) = f (p * q + k) (by omega) := rfl
    rw [h1 _ h (by rw [Nat.mul_add_mod, Nat.mod_eq_of_lt hk]; omega), e, ih (by omega) (by omega), Finset.sum_range_succ (fun s => B (p * q + s)) (k + 1)]

theorem ref1_at (A0 A1 A2 A3 A4) (b : Fin 2) (j : Fin 4096) : REF1 A0 A1 A2 A3 A4 (ix3 b 0 j) = ∑ k : Fin 2048, T1 A1 j b k := by
  pointwise [REF1]
  rfl

theorem ref2_at (A0 A1 A2 A3 A4) (b : Fin 2) (j : Fin 4096) : REF2 A0 A1 A2 A3 A4 (ix3 b 0 j) = ∑ k : Fin 2048, T2 A0 A1 A3 j b k := by
  pointwise [REF2]
  rfl

theorem ref3_at (A0 A1 A2 A3 A4) (j : Fin 4096) : REF3 A0 A1 A2 A3 A4 (ix2 0 j) = ∑ b : Fin 2, ∑ k : Fin 2048, T3 A0 A1 A4 j b k := by
  pointwise [REF3]
  refine (red01 _ _ _ _).trans ?_
  rw [zero_add, Fin.sum_univ_one, Fin.sum_univ_one]
  pointwise
  refine (red01 _ _ _ _).trans ?_
  rw [zero_add]
  refine Fin.sum_fin_congr fun b => Fin.sum_fin_congr fun k => ?_
  pointwise
  rfl

/-- The input's gradient at an index. -/
theorem point5 (c : Dev nD) (t : Fin cfg0.N) (y : S1x256x4096.Idx) :
    k0_pay1 (F := Ideal) (k0_pay13 (k0_pay5 (iblk m c 0 t)) (k0_pay6 (iblk m c 1 t)) (iblk m c 3 t) (k0_pay7 (iblk m c 0 t)) (iblk m c 4 t)) (iblk m c 2 t) y
    = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 16 := lt_of_lt_of_eq t.isLt N_0
  idx_vars y
  have ey : ((cfg0.win 5).blk t).view.emb (ix3 0 y1 y2) = ix3 ⟨t.val / 8 % 2, by omega⟩ ⟨t.val % 8 * 256 + y1.val, by omega⟩ y2 := by blk_ext [idx t]
  have e2 : iblk m c 2 t (ix3 0 y1 y2) = m ((c : Thread nD τ).loc main_arg2) (ix3 ⟨t.val / 8 % 2, by omega⟩ ⟨t.val % 8 * 256 + y1.val, by omega⟩ y2) := by
    blk_ext [iblk, V, idx t]
  obtain rfl : y0 = 0 := Subsingleton.elim _ _
  refine Eq.trans ?_ (congrArg (REF0 (m ((c : Thread nD τ).loc main_arg0)) (m ((c : Thread nD τ).loc main_arg1)) (m ((c : Thread nD τ).loc main_arg2)) (m ((c : Thread nD τ).loc main_arg3)) (m ((c : Thread nD τ).loc main_arg4))) ey).symm
  pointwise [REF0, k0_pay1, k0_pay13, k0_pay5, k0_pay6, k0_pay7, k0_pay11]
  simp only [Finset.sum_const, Finset.card_univ, Fintype.card_fin, one_nsmul, x_at m c t, dh_at m c t, g_at m c t, sc_at m c t, e2]
  refine congrArg (fun s : EReal => HAdd.hAdd (α := EReal) (β := EReal) (γ := EReal) _ s) ?_
  refine (grad _ _ _ _ (pos fun x => m ((c : Thread nD τ).loc main_arg0) (ix3 ⟨t.val / 8 % 2, by omega⟩ ⟨t.val % 8 * 256 + y1.val, by omega⟩ x))).trans ?_
  refine congrArg₂ (fun a b : EReal => a + b) (congrArg₂ (fun a b : EReal => a + b) rfl (congrArg (fun a : EReal => HMul.hMul (α := EReal) (β := EReal) (γ := EReal) _ a) ?_))
    (congrArg (fun a : EReal => HMul.hMul (α := EReal) (β := EReal) (γ := EReal) a _) ?_)
  all_goals
    refine Eq.trans ?_ (Fin.sum_univ_one _).symm
    refine congrArg (fun a : EReal => Ideal.div (a * _) _) ?_
    exact Fin.sum_fin_congr fun x => mul_comm (G := EReal) _ _

theorem final5 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp; rw [after0_5]
  by_cases h : t.val % 8 = 0
  · by_cases h' : t.val % 16 = 0
    · rw [outsAt0_A m c t h h']; frame_out; exact point5 m c t y
    · rw [outsAt0_C m c t h h']; frame_out; exact point5 m c t y
  · rw [outsAt0_B m c t h (by omega)]; frame_out; exact point5 m c t y

/-- The result array 1 after the run. -/
theorem final6 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h7 : t.val % 8 = 7 := (flush0_6 t).mp hf
  have ht : t.val < 16 := lt_of_lt_of_eq t.isLt N_0
  blk_simp; rw [after0_6]
  idx_vars y
  obtain rfl : y0 = 0 := Subsingleton.elim _ _
  obtain rfl : y1 = 0 := Subsingleton.elim _ _
  obtain ⟨b, eb⟩ : ∃ b : Fin 2, b.val = t.val / 8 := ⟨⟨t.val / 8, by omega⟩, rfl⟩
  have ey : ((cfg0.win 6).blk t).view.emb (ix3 0 0 y2) = ix3 b 0 y2 := by blk_ext [idx t]
  refine Eq.trans ?_ (congrArg (REF1 (m ((c : Thread nD τ).loc main_arg0)) (m ((c : Thread nD τ).loc main_arg1)) (m ((c : Thread nD τ).loc main_arg2)) (m ((c : Thread nD τ).loc main_arg3)) (m ((c : Thread nD τ).loc main_arg4))) ey).symm
  have hs := accum 8 cfg0.N (fun n h => (outsAt0 m c n h).2.1 (ix3 0 0 y2)) (blkSum (T1 (m ((c : Thread nD τ).loc main_arg1)) y2))
    (fun n h e => first6 m c ⟨n, h⟩ e y2) (fun n h e => next6 m c ⟨n, h⟩ e y2) b.val 7
  have et : 8 * b.val + 7 = t.val := by omega
  simp only [et] at hs
  exact (hs t.isLt (by omega)).trans ((rows _ b).trans (ref1_at _ _ _ _ _ b y2).symm)

/-- The result array 2 after the run. -/
theorem final7 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h7 : t.val % 8 = 7 := (flush0_7 t).mp hf
  have ht : t.val < 16 := lt_of_lt_of_eq t.isLt N_0
  blk_simp; rw [after0_7]
  idx_vars y
  obtain rfl : y0 = 0 := Subsingleton.elim _ _
  obtain rfl : y1 = 0 := Subsingleton.elim _ _
  obtain ⟨b, eb⟩ : ∃ b : Fin 2, b.val = t.val / 8 := ⟨⟨t.val / 8, by omega⟩, rfl⟩
  have ey : ((cfg0.win 7).blk t).view.emb (ix3 0 0 y2) = ix3 b 0 y2 := by blk_ext [idx t]
  refine Eq.trans ?_ (congrArg (REF2 (m ((c : Thread nD τ).loc main_arg0)) (m ((c : Thread nD τ).loc main_arg1)) (m ((c : Thread nD τ).loc main_arg2)) (m ((c : Thread nD τ).loc main_arg3)) (m ((c : Thread nD τ).loc main_arg4))) ey).symm
  have hs := accum 8 cfg0.N (fun n h => (outsAt0 m c n h).2.2.1 (ix3 0 0 y2)) (blkSum (T2 (m ((c : Thread nD τ).loc main_arg0)) (m ((c : Thread nD τ).loc main_arg1)) (m ((c : Thread nD τ).loc main_arg3)) y2))
    (fun n h e => first7 m c ⟨n, h⟩ e y2) (fun n h e => next7 m c ⟨n, h⟩ e y2) b.val 7
  have et : 8 * b.val + 7 = t.val := by omega
  simp only [et] at hs
  exact (hs t.isLt (by omega)).trans ((rows _ b).trans (ref2_at _ _ _ _ _ b y2).symm)

/-- The result array 3 after the run. -/
theorem final8 (c : Dev nD) : (dats m 0 c).arrAt 8 (cfgs 0).N = REF3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht : t.val < 16 := lt_of_lt_of_eq t.isLt N_0
  have h15 : t.val % 16 = 15 := (flush0_8 t).mp hf
  blk_simp; rw [after0_8]
  idx_vars y
  obtain rfl : y0 = 0 := Subsingleton.elim _ _
  have ey : ((cfg0.win 8).blk t).view.emb (ix2 0 y1) = ix2 0 y1 := by blk_ext [idx t]
  refine Eq.trans ?_ (congrArg (REF3 (m ((c : Thread nD τ).loc main_arg0)) (m ((c : Thread nD τ).loc main_arg1)) (m ((c : Thread nD τ).loc main_arg2)) (m ((c : Thread nD τ).loc main_arg3)) (m ((c : Thread nD τ).loc main_arg4))) ey).symm
  have hs := accum 16 cfg0.N (fun n h => (outsAt0 m c n h).2.2.2 (ix2 0 y1)) (blkSum (T3 (m ((c : Thread nD τ).loc main_arg0)) (m ((c : Thread nD τ).loc main_arg1)) (m ((c : Thread nD τ).loc main_arg4)) y1))
    (fun n h e => first8 m c ⟨n, h⟩ e y1) (fun n h e => next8 m c ⟨n, h⟩ e y1) 0 15
  have et : 16 * 0 + 15 = t.val := by omega
  simp only [et] at hs
  refine (hs t.isLt (by omega)).trans (Eq.trans ?_ ((rows2 _).trans (ref3_at _ _ _ _ _ y1).symm))
  exact Finset.sum_congr rfl fun s _ => congrArg (blkSum _) (by omega)

end Cert.KernelGIdeal.Value

end
-- ==== Proof.ValueL0.lean ====
/- The values of the loss head. -/
module

public import proofs.«01_k».proof.Proof.Gen.KernelLIdeal.Frame
public import proofs.«01_k».proof.Proof.Gen.ReferenceLIdeal
public import Idealize.ShloMosaic.Lib.Pipeline.ValueKit
public import Idealize.ShloMosaic.Lib.Pointwise
public import Idealize.ShloMosaic.Lib.Claim
public import proofs.«01_k».proof.Proof.ValueG

@[expose] public section

set_option maxRecDepth 16384

noncomputable section

open Idealize.ShloMosaic Idealize.ShloMosaic.TcCoe Idealize.SL.Sem
open Idealize.ShloMosaic.Pipeline (Dat)

namespace Cert.ReferenceLIdeal.Value

open Cert.ReferenceLIdeal Cert.ReferenceLIdeal.Gen
open Cert.KernelGIdeal.Value (grad pos n4096 red01)

/-- The reference's values along the way: the residual, the mean of its squares, the inverse root, the factor of its gradient. -/
def V2 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .f32 :=
  addf A0 (mulf (broadcastInDim S2x2048x4096 ![0, 1, 2] bcast_S2x1x4096_S2x2048x4096_0_1_2 A2) A1)

def V9 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x1 .f32 :=
  addf (Host.divf (broadcastInDim S2x2048x1 ![0, 1] bcast_S2x2048_S2x2048x1_0_1 (Host.reduceAdd (mulf (V2 A0 A1 A2 A3 A4) (V2 A0 A1 A2 A3 A4)) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32))

def V10 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x1 .f32 :=
  Host.rsqrt (V9 A0 A1 A2 A3 A4)

def V13 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x1 .f32 :=
  mulf (broadcastInDim S2x2048x1 ![] bcast_S_S2x2048x1 (constant S_ .f32 0xBF000000#32)) (Host.divf (V10 A0 A1 A2 A3 A4) (V9 A0 A1 A2 A3 A4))

/-- The normalized residual, the error, its gradient, the same with the gain. -/
def V15 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .f32 :=
  mulf (V2 A0 A1 A2 A3 A4) (broadcastInDim S2x2048x4096 ![0, 1, 2] bcast_S2x2048x1_S2x2048x4096_0_1_2 (V10 A0 A1 A2 A3 A4))

def V19 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .f32 :=
  subf (mulf (V15 A0 A1 A2 A3 A4) (broadcastInDim S2x2048x4096 ![0, 1, 2] bcast_S1x1x4096_S2x2048x4096_0_1_2 (broadcastInDim S1x1x4096 ![1, 2] bcast_S1x4096_S1x1x4096_1_2 A3))) A4

def V33 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .f32 :=
  mulf (broadcastInDim S2x2048x4096 ![0, 1] bcast_S2x2048_S2x2048x4096_0_1 (Host.divf (broadcastInDim S2x2048 ![] bcast_S_S2x2048 (mulf (constant S_ .f32 0x3F000000#32) (constant S_ .f32 0x3F800000#32))) (broadcastInDim S2x2048 ![] bcast_S_S2x2048 (constant S_ .f32 0x45800000#32)))) (mulf (broadcastInDim S2x2048x4096 ![] bcast_S_S2x2048x4096 (constant S_ .f32 0x40000000#32)) (V19 A0 A1 A2 A3 A4))

def V38 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .f32 :=
  mulf (V33 A0 A1 A2 A3 A4) (broadcastInDim S2x2048x4096 ![0, 1, 2] bcast_S1x1x4096_S2x2048x4096_0_1_2 (broadcastInDim S1x1x4096 ![1, 2] bcast_S1x4096_S1x1x4096_1_2 A3))

/-- The part of the gradient through the inverse root. -/
def V49 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048 .f32 :=
  Host.reduceAdd (Host.divf (mulf (shapeCast _ (Host.reduceAdd (mulf (V2 A0 A1 A2 A3 A4) (V38 A0 A1 A2 A3 A4)) (constant S_ .f32 0x00000000#32) reducesTo_S2x2048x4096_S2x2048_d2 h_S_) shapeCasts_S2x2048_S2x2048x1) (V13 A0 A1 A2 A3 A4)) (broadcastInDim S2x2048x1 ![] bcast_S_S2x2048x1 (constant S_ .f32 0x45800000#32))) (constant S_ .f32 0x00000000#32) reducesTo_S2x2048x1_S2x2048_d2 h_S_

/-- The five results. -/
def REF0 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .f32 :=
  addf (addf (mulf (V38 A0 A1 A2 A3 A4) (broadcastInDim S2x2048x4096 ![0, 1, 2] bcast_S2x2048x1_S2x2048x4096_0_1_2 (V10 A0 A1 A2 A3 A4))) (mulf (V2 A0 A1 A2 A3 A4) (broadcastInDim S2x2048x4096 ![0, 1] bcast_S2x2048_S2x2048x4096_0_1 (V49 A0 A1 A2 A3 A4)))) (mulf (broadcastInDim S2x2048x4096 ![0, 1] bcast_S2x2048_S2x2048x4096_0_1 (V49 A0 A1 A2 A3 A4)) (V2 A0 A1 A2 A3 A4))

def REF1 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x2048x4096 .bf16 :=
  truncf .bf16 (mulf (broadcastInDim S2x2048x4096 ![0, 1, 2] bcast_S2x1x4096_S2x2048x4096_0_1_2 A2) (REF0 A0 A1 A2 A3 A4)) bitsLt_bf16_f32

def REF2 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S2x1x4096 .f32 :=
  shapeCast _ (Host.reduceAdd (mulf (REF0 A0 A1 A2 A3 A4) A1) (constant S_ .f32 0x00000000#32) reducesTo_S2x2048x4096_S2x4096_d1 h_S_) shapeCasts_S2x4096_S2x1x4096

def REF3 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S1x4096 .f32 :=
  broadcastInDim S1x4096 ![1] bcast_S4096_S1x4096_1 (Host.reduceAdd (shapeCast _ (Host.reduceAdd (mulf (V15 A0 A1 A2 A3 A4) (V33 A0 A1 A2 A3 A4)) (constant S_ .f32 0x00000000#32) reducesTo_S2x2048x4096_S4096_d0_1 h_S_) shapeCasts_S4096_S1x1x4096) (constant S_ .f32 0x00000000#32) reducesTo_S1x1x4096_S4096_d0_1 h_S_)

def REF4 (A0 : FVec Ideal S2x2048x4096 .f32) (A1 : FVec Ideal S2x2048x4096 .f32) (A2 : FVec Ideal S2x1x4096 .f32) (A3 : FVec Ideal S1x4096 .f32) (A4 : FVec Ideal S2x2048x4096 .f32) : FVec Ideal S1x128 .f32 :=
  broadcastInDim S1x128 ![] bcast_S_S1x128 (mulf (constant S_ .f32 0x3F000000#32) (Host.reduceAdd (Host.divf (Host.reduceAdd (mulf (V19 A0 A1 A2 A3 A4) (V19 A0 A1 A2 A3 A4)) (constant S_ .f32 0x00000000#32) reducesTo_S2x2048x4096_S2x2048_d2 h_S_) (broadcastInDim S2x2048 ![] bcast_S_S2x2048 (constant S_ .f32 0x45800000#32))) (constant S_ .f32 0x00000000#32) reducesTo_S2x2048_S_d0_1 h_S_))

/-- The same values as numbers. -/
def x1 (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) (j : Fin 4096) : EReal :=
  A0 (ix3 b k j) + A2 (ix3 b 0 j) * A1 (ix3 b k j)

def sq (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) : EReal :=
  Ideal.div (∑ x : Fin 4096, x1 A0 A1 A2 A3 A4 b k x * x1 A0 A1 A2 A3 A4 b k x) (Ideal.ofBits .f32 0x45800000#32) + Ideal.ofBits .f32 0x358637BD#32

def rt (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) : EReal :=
  Ideal.rsqrt (sq A0 A1 A2 A3 A4 b k)

def xh (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) (j : Fin 4096) : EReal :=
  x1 A0 A1 A2 A3 A4 b k j * rt A0 A1 A2 A3 A4 b k

def err (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) (j : Fin 4096) : EReal :=
  xh A0 A1 A2 A3 A4 b k j * A3 (ix2 0 j) - A4 (ix3 b k j)

def dfin (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) (j : Fin 4096) : EReal :=
  err A0 A1 A2 A3 A4 b k j * Ideal.ofBits .f32 0x39800000#32

def u (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) (j : Fin 4096) : EReal :=
  dfin A0 A1 A2 A3 A4 b k j * A3 (ix2 0 j)

def dx1 (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) (j : Fin 4096) : EReal :=
  rt A0 A1 A2 A3 A4 b k * u A0 A1 A2 A3 A4 b k j - x1 A0 A1 A2 A3 A4 b k j * (rt A0 A1 A2 A3 A4 b k * rt A0 A1 A2 A3 A4 b k * rt A0 A1 A2 A3 A4 b k) * Ideal.div (∑ x : Fin 4096, u A0 A1 A2 A3 A4 b k x * x1 A0 A1 A2 A3 A4 b k x) (Ideal.ofBits .f32 0x45800000#32)

def dgt (A0 : FVec Ideal S2x2048x4096 .f32) (A1 : FVec Ideal S2x2048x4096 .f32) (A2 : FVec Ideal S2x1x4096 .f32) (A3 : FVec Ideal S1x4096 .f32) (A4 : FVec Ideal S2x2048x4096 .f32) (j : Fin 4096) (b : Fin 2) (k : Fin 2048) : EReal :=
  dx1 A0 A1 A2 A3 A4 b k j * A1 (ix3 b k j)

def dgn (A0 : FVec Ideal S2x2048x4096 .f32) (A1 : FVec Ideal S2x2048x4096 .f32) (A2 : FVec Ideal S2x1x4096 .f32) (A3 : FVec Ideal S1x4096 .f32) (A4 : FVec Ideal S2x2048x4096 .f32) (j : Fin 4096) (b : Fin 2) (k : Fin 2048) : EReal :=
  dfin A0 A1 A2 A3 A4 b k j * xh A0 A1 A2 A3 A4 b k j

def mse (A0 : FVec Ideal S2x2048x4096 .f32) (A1 : FVec Ideal S2x2048x4096 .f32) (A2 : FVec Ideal S2x1x4096 .f32) (A3 : FVec Ideal S1x4096 .f32) (A4 : FVec Ideal S2x2048x4096 .f32) (b : Fin 2) (k : Fin 2048) : EReal :=
  Ideal.div (∑ x : Fin 4096, err A0 A1 A2 A3 A4 b k x * err A0 A1 A2 A3 A4 b k x) (Ideal.ofBits .f32 0x45800000#32)

theorem nhalfp : Ideal.ofBits .f32 0x3F000000#32 = ((1 / 2 : ℝ) : EReal) := by
  simp [Ideal.ofBits, Ideal.ieee, -EReal.coe_mul, -EReal.coe_neg]; norm_num

theorem ntwo : Ideal.ofBits .f32 0x40000000#32 = ((2 : ℝ) : EReal) := by
  simp [Ideal.ofBits, Ideal.ieee, -EReal.coe_mul, -EReal.coe_neg]; norm_num

theorem nrecip : Ideal.ofBits .f32 0x39800000#32 = ((1 / 4096 : ℝ) : EReal) := by
  simp [Ideal.ofBits, Ideal.ieee, -EReal.coe_mul, -EReal.coe_neg]; norm_num

/-- Half of twice a number over the width is the number over the width. -/
theorem scal (e : EReal) : Ideal.div (Ideal.ofBits .f32 0x3F000000#32) (Ideal.ofBits .f32 0x45800000#32) * (Ideal.ofBits .f32 0x40000000#32 * e)
    = e * Ideal.ofBits .f32 0x39800000#32 := by
  rw [nhalfp, ntwo, nrecip, n4096, Ideal.div_coe (by norm_num), ← mul_assoc, ← EReal.coe_mul, ← EReal.coe_mul, mul_comm]
  congr 2
  norm_num

/-- A nonnegative number distributes over a sum. -/
theorem half_sum {ι : Type} (s : Finset ι) (f : ι → EReal) : Ideal.ofBits .f32 0x3F000000#32 * ∑ i ∈ s, f i = ∑ i ∈ s, Ideal.ofBits .f32 0x3F000000#32 * f i := by
  classical
  rw [nhalfp]
  induction s using Finset.induction_on with
  | empty => simp
  | insert a s ha ih =>
    rw [Finset.sum_insert ha, Finset.sum_insert ha, EReal.left_distrib_of_nonneg_of_ne_top (by exact_mod_cast (by norm_num : (0:ℝ) ≤ 1 / 2)) (EReal.coe_ne_top _), ih]

variable (A0 : FVec Ideal S2x2048x4096 .f32) (A1 : FVec Ideal S2x2048x4096 .f32) (A2 : FVec Ideal S2x1x4096 .f32) (A3 : FVec Ideal S1x4096 .f32) (A4 : FVec Ideal S2x2048x4096 .f32)

theorem v2_at (b : Fin 2) (k : Fin 2048) (j : Fin 4096) : V2 A0 A1 A2 A3 A4 (ix3 b k j) = x1 A0 A1 A2 A3 A4 b k j := by
  pointwise [V2]
  rfl

theorem v9_at (b : Fin 2) (k : Fin 2048) : V9 A0 A1 A2 A3 A4 (ix3 b k 0) = sq A0 A1 A2 A3 A4 b k := by
  pointwise [V9]
  simp only [v2_at]
  rfl

theorem v10_at (b : Fin 2) (k : Fin 2048) : V10 A0 A1 A2 A3 A4 (ix3 b k 0) = rt A0 A1 A2 A3 A4 b k := by
  pointwise [V10]
  rw [v9_at]
  rfl

theorem v13_at (b : Fin 2) (k : Fin 2048) : V13 A0 A1 A2 A3 A4 (ix3 b k 0) = Ideal.ofBits .f32 0xBF000000#32 * Ideal.div (rt A0 A1 A2 A3 A4 b k) (sq A0 A1 A2 A3 A4 b k) := by
  pointwise [V13]
  rw [v9_at, v10_at]

theorem v15_at (b : Fin 2) (k : Fin 2048) (j : Fin 4096) : V15 A0 A1 A2 A3 A4 (ix3 b k j) = xh A0 A1 A2 A3 A4 b k j := by
  pointwise [V15]
  rw [v2_at, v10_at]
  rfl

theorem v19_at (b : Fin 2) (k : Fin 2048) (j : Fin 4096) : V19 A0 A1 A2 A3 A4 (ix3 b k j) = err A0 A1 A2 A3 A4 b k j := by
  pointwise [V19]
  rw [v15_at]
  rfl

theorem v33_at (b : Fin 2) (k : Fin 2048) (j : Fin 4096) : V33 A0 A1 A2 A3 A4 (ix3 b k j) = dfin A0 A1 A2 A3 A4 b k j := by
  pointwise [V33]
  rw [v19_at]
  exact scal _

theorem v38_at (b : Fin 2) (k : Fin 2048) (j : Fin 4096) : V38 A0 A1 A2 A3 A4 (ix3 b k j) = u A0 A1 A2 A3 A4 b k j := by
  pointwise [V38]
  rw [v33_at]
  rfl

theorem v49_at (b : Fin 2) (k : Fin 2048) : V49 A0 A1 A2 A3 A4 (ix2 b k) = Ideal.div ((∑ x : Fin 4096, u A0 A1 A2 A3 A4 b k x * x1 A0 A1 A2 A3 A4 b k x) * (Ideal.ofBits .f32 0xBF000000#32 * Ideal.div (rt A0 A1 A2 A3 A4 b k) (sq A0 A1 A2 A3 A4 b k))) (Ideal.ofBits .f32 0x45800000#32) := by
  pointwise [V49]
  refine (Fin.sum_univ_one _).trans ?_
  rw [v13_at]
  refine congrArg (fun a : EReal => Ideal.div (a * _) _) ?_
  refine Fin.sum_fin_congr fun x => ?_
  rw [v2_at, v38_at]
  exact mul_comm (G := EReal) _ _

theorem ref0_at (b : Fin 2) (k : Fin 2048) (j : Fin 4096) : REF0 A0 A1 A2 A3 A4 (ix3 b k j) = dx1 A0 A1 A2 A3 A4 b k j := by
  pointwise [REF0]
  rw [v2_at, v10_at, v38_at, v49_at]
  exact (grad _ _ _ _ (pos fun x => x1 A0 A1 A2 A3 A4 b k x)).symm

theorem ref1_at (b : Fin 2) (k : Fin 2048) (j : Fin 4096) : REF1 A0 A1 A2 A3 A4 (ix3 b k j) = HMul.hMul (α := EReal) (β := EReal) (γ := EReal) (A2 (ix3 b 0 j)) (dx1 A0 A1 A2 A3 A4 b k j) := by
  pointwise [REF1]
  rw [ref0_at]

theorem ref2_at (b : Fin 2) (j : Fin 4096) : REF2 A0 A1 A2 A3 A4 (ix3 b 0 j) = ∑ k : Fin 2048, dgt A0 A1 A2 A3 A4 j b k := by
  pointwise [REF2]
  refine Fin.sum_fin_congr fun k => ?_
  rw [ref0_at]
  rfl

theorem ref3_at (j : Fin 4096) : REF3 A0 A1 A2 A3 A4 (ix2 0 j) = ∑ b : Fin 2, ∑ k : Fin 2048, dgn A0 A1 A2 A3 A4 j b k := by
  pointwise [REF3]
  refine (red01 _ _ _ _).trans ?_
  rw [zero_add, Fin.sum_univ_one, Fin.sum_univ_one]
  pointwise
  refine (red01 _ _ _ _).trans ?_
  rw [zero_add]
  refine Fin.sum_fin_congr fun b => Fin.sum_fin_congr fun k => ?_
  pointwise
  rw [v15_at, v33_at]
  exact mul_comm (G := EReal) _ _

theorem ref4_at (j : Fin 128) : REF4 A0 A1 A2 A3 A4 (ix2 0 j) = Ideal.ofBits .f32 0x3F000000#32 * ∑ b : Fin 2, ∑ k : Fin 2048, mse A0 A1 A2 A3 A4 b k := by
  pointwise [REF4]
  refine congrArg (fun s : EReal => Ideal.ofBits .f32 0x3F000000#32 * s) ?_
  refine Fin.sum_fin_congr fun b => Fin.sum_fin_congr fun k => ?_
  simp only [v19_at]
  rfl

end Cert.ReferenceLIdeal.Value

end
-- ==== Proof.ValueL.lean ====
/- The values of the loss head, of the kernel. -/
module

public import proofs.«01_k».proof.Proof.Gen.KernelLIdeal.Frame
public import proofs.«01_k».proof.Proof.Gen.ReferenceLIdeal
public import Idealize.ShloMosaic.Lib.Pipeline.ValueKit
public import Idealize.ShloMosaic.Lib.Pointwise
public import Idealize.ShloMosaic.Lib.Claim
public import proofs.«01_k».proof.Proof.ValueL0

@[expose] public section

set_option maxRecDepth 16384

noncomputable section

open Idealize.ShloMosaic Idealize.ShloMosaic.TcCoe Idealize.SL.Sem
open Idealize.ShloMosaic.Pipeline (Dat)

namespace Cert.KernelLIdeal.Value

open Cert.KernelLIdeal Cert.KernelLIdeal.Gen
open Cert.ReferenceLIdeal.Value (REF0 REF1 REF2 REF3 REF4 x1 sq rt xh err dfin u dx1 dgt dgn mse half_sum ref0_at ref1_at ref2_at ref3_at ref4_at)
open Cert.KernelGIdeal.Value (blkSum rows rows2 accum)

variable (m : (ℓ : Loc nD τ sig) → Buf (Elt Ideal) ℓ)

/-- The blocks' indices at a grid point. -/
theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![t.val / 8, t.val % 8, 0] ∧ win0_5.index t = ![t.val / 8, t.val % 8, 0]
    ∧ win0_6.index t = ![t.val / 8, t.val % 8, 0] ∧ win0_7.index t = ![t.val / 8, 0, 0] ∧ win0_8.index t = ![0, 0] ∧ win0_9.index t = ![0, 0] := (by decide +kernel : ∀ t : Fin grid0.N, _)

theorem x_at (c : Dev nD) (t : Fin cfg0.N) (r : Fin 256) (x : Fin 4096) :
    iblk m c 0 t (ix3 0 r x) = (m ((c : Thread nD τ).loc main_arg0)) (ix3 ⟨t.val / 8 % 2, by omega⟩ ⟨t.val % 8 * 256 + r.val, by omega⟩ x) := by
  have ht : t.val < 16 := lt_of_lt_of_eq t.isLt N_0
  blk_ext [iblk, V, idx t]

theorem o_at (c : Dev nD) (t : Fin cfg0.N) (r : Fin 256) (x : Fin 4096) :
    iblk m c 1 t (ix3 0 r x) = (m ((c : Thread nD τ).loc main_arg1)) (ix3 ⟨t.val / 8 % 2, by omega⟩ ⟨t.val % 8 * 256 + r.val, by omega⟩ x) := by
  have ht : t.val < 16 := lt_of_lt_of_eq t.isLt N_0
  blk_ext [iblk, V, idx t]

theorem t_at (c : Dev nD) (t : Fin cfg0.N) (r : Fin 256) (x : Fin 4096) :
    iblk m c 4 t (ix3 0 r x) = (m ((c : Thread nD τ).loc main_arg4)) (ix3 ⟨t.val / 8 % 2, by omega⟩ ⟨t.val % 8 * 256 + r.val, by omega⟩ x) := by
  have ht : t.val < 16 := lt_of_lt_of_eq t.isLt N_0
  blk_ext [iblk, V, idx t]

theorem gt_at (c : Dev nD) (t : Fin cfg0.N) (x : Fin 4096) :
    iblk m c 2 t (ix3 0 0 x) = (m ((c : Thread nD τ).loc main_arg2)) (ix3 ⟨t.val / 8 % 2, by omega⟩ 0 x) := by
  have ht : t.val < 16 := lt_of_lt_of_eq t.isLt N_0
  blk_ext [iblk, V, idx t]

theorem g_at (c : Dev nD) (t : Fin cfg0.N) (x : Fin 4096) : iblk m c 3 t (ix2 0 x) = (m ((c : Thread nD τ).loc main_arg3)) (ix2 0 x) := by
  blk_ext [iblk, V, idx t]

/-- The body's values at a block's row. -/
theorem k9 (c : Dev nD) (t : Fin cfg0.N) (r : Fin 256) (j : Fin 4096) : k0_pay9 (F := Ideal) (iblk m c 1 t) (iblk m c 2 t) (iblk m c 0 t) (ix2 r j) = x1 (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 % 2, by omega⟩ ⟨t.val % 8 * 256 + r.val, by omega⟩ j := by
  pointwise [k0_pay9, k0_pay7, k0_pay8]
  rw [x_at m c t, o_at m c t, gt_at m c t]
  rfl

theorem k10 (c : Dev nD) (t : Fin cfg0.N) (r : Fin 256) : k0_pay10 (F := Ideal) (iblk m c 1 t) (iblk m c 2 t) (iblk m c 0 t) (ix2 r 0) = rt (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 % 2, by omega⟩ ⟨t.val % 8 * 256 + r.val, by omega⟩ := by
  pointwise [k0_pay10]
  simp only [k9 m c t]
  rfl

theorem k11 (c : Dev nD) (t : Fin cfg0.N) (r : Fin 256) (j : Fin 4096) : k0_pay11 (F := Ideal) (iblk m c 1 t) (iblk m c 2 t) (iblk m c 0 t) (ix2 r j) = xh (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 % 2, by omega⟩ ⟨t.val % 8 * 256 + r.val, by omega⟩ j := by
  pointwise [k0_pay11]
  rw [k9 m c t, k10 m c t]
  rfl

theorem k12 (c : Dev nD) (t : Fin cfg0.N) (r : Fin 256) (j : Fin 4096) : k0_pay12 (F := Ideal) (iblk m c 1 t) (iblk m c 2 t) (iblk m c 3 t) (iblk m c 0 t) (iblk m c 4 t) (ix2 r j) = err (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 % 2, by omega⟩ ⟨t.val % 8 * 256 + r.val, by omega⟩ j := by
  pointwise [k0_pay12]
  rw [k11 m c t, g_at m c t, t_at m c t]
  rfl

theorem k14 (c : Dev nD) (t : Fin cfg0.N) (r : Fin 256) (j : Fin 4096) : k0_pay14 (k0_pay12 (F := Ideal) (iblk m c 1 t) (iblk m c 2 t) (iblk m c 3 t) (iblk m c 0 t) (iblk m c 4 t)) (ix2 r j) = dfin (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 % 2, by omega⟩ ⟨t.val % 8 * 256 + r.val, by omega⟩ j := by
  pointwise [k0_pay14]
  rw [k12 m c t]
  rfl

theorem k16 (c : Dev nD) (t : Fin cfg0.N) (r : Fin 256) (j : Fin 4096) : k0_pay16 (F := Ideal) (iblk m c 3 t) (k0_pay9 (F := Ideal) (iblk m c 1 t) (iblk m c 2 t) (iblk m c 0 t)) (k0_pay10 (F := Ideal) (iblk m c 1 t) (iblk m c 2 t) (iblk m c 0 t)) (k0_pay12 (F := Ideal) (iblk m c 1 t) (iblk m c 2 t) (iblk m c 3 t) (iblk m c 0 t) (iblk m c 4 t)) (ix2 r j) = dx1 (m ((c : Thread nD τ).loc main_arg0)) (m ((c : Thread nD τ).loc main_arg1)) (m ((c : Thread nD τ).loc main_arg2)) (m ((c : Thread nD τ).loc main_arg3)) (m ((c : Thread nD τ).loc main_arg4)) ⟨t.val / 8 % 2, by omega⟩ ⟨t.val % 8 * 256 + r.val, by omega⟩ j := by
  pointwise [k0_pay16]
  simp only [k9 m c t, k10 m c t, k14 m c t, g_at m c t]
  rfl

/-- A block's additions to the three sums. -/
theorem add7 (c : Dev nD) (t : Fin cfg0.N) (v) (j : Fin 4096) : k0_pay2 (F := Ideal) (k0_pay7 (iblk m c 1 t)) (k0_pay16 (F := Ideal) (iblk m c 3 t) (k0_pay9 (F := Ideal) (iblk m c 1 t) (iblk m c 2 t) (iblk m c 0 t)) (k0_pay10 (F := Ideal) (iblk m c 1 t) (iblk m c 2 t) (iblk m c 0 t)) (k0_pay12 (F := Ideal) (iblk m c 1 t) (iblk m c 2 t) (iblk m c 3 t) (iblk m c 0 t) (iblk m c 4 t))) v (ix3 0 0 j)
    = v (ix3 0 0 j) + blkSum (dgt (m ((c : Thread nD τ).loc main_arg0)) (m ((c : Thread nD τ).loc main_arg1)) (m ((c : Thread nD τ).loc main_arg2)) (m ((c : Thread nD τ).loc main_arg3)) (m ((c : Thread nD τ).loc main_arg4)) j) t.val := by
  pointwise [k0_pay2, k0_pay7]
  refine congrArg (fun s : EReal => v (ix3 0 0 j) + s) (Fin.sum_fin_congr fun r => ?_)
  rw [k16 m c t, o_at m c t]
  rfl

theorem add8 (c : Dev nD) (t : Fin cfg0.N) (v) (j : Fin 4096) : k0_pay15 (F := Ideal) (k0_pay11 (F := Ideal) (iblk m c 1 t) (iblk m c 2 t) (iblk m c 0 t)) (k0_pay12 (F := Ideal) (iblk m c 1 t) (iblk m c 2 t) (iblk m c 3 t) (iblk m c 0 t) (iblk m c 4 t)) v (ix2 0 j)
    = v (ix2 0 j) + blkSum (dgn (m ((c : Thread nD τ).loc main_arg0)) (m ((c : Thread nD τ).loc main_arg1)) (m ((c : Thread nD τ).loc main_arg2)) (m ((c : Thread nD τ).loc main_arg3)) (m ((c : Thread nD τ).loc main_arg4)) j) t.val := by
  pointwise [k0_pay15]
  refine congrArg (fun s : EReal => v (ix2 0 j) + s) (Fin.sum_fin_congr fun r => ?_)
  rw [k14 m c t, k11 m c t]
  rfl

theorem add9 (c : Dev nD) (t : Fin cfg0.N) (v) (j : Fin 128) : k0_pay13 (F := Ideal) (k0_pay12 (F := Ideal) (iblk m c 1 t) (iblk m c 2 t) (iblk m c 3 t) (iblk m c 0 t) (iblk m c 4 t)) v (ix2 0 j)
    = v (ix2 0 j) + Ideal.ofBits .f32 0x3F000000#32 * blkSum (mse (m ((c : Thread nD τ).loc main_arg0)) (m ((c : Thread nD τ).loc main_arg1)) (m ((c : Thread nD τ).loc main_arg2)) (m ((c : Thread nD τ).loc main_arg3)) (m ((c : Thread nD τ).loc main_arg4))) t.val := by
  pointwise [k0_pay13]
  refine congrArg (fun s : EReal => v (ix2 0 j) + Ideal.ofBits .f32 0x3F000000#32 * s) (Fin.sum_fin_congr fun r => ?_)
  simp only [k12 m c t]
  first
    | exact Fin.sum_univ_one _
    | rfl

theorem zero7 (j : Fin 4096) : k0_pay4 (F := Ideal) (ix3 0 0 j) = 0 := by pointwise [k0_pay4]
theorem zero8 (j : Fin 4096) : k0_pay5 (F := Ideal) (ix2 0 j) = 0 := by pointwise [k0_pay5]
theorem zero9 (j : Fin 128) : k0_pay6 (F := Ideal) (ix2 0 j) = 0 := by pointwise [k0_pay6]

theorem first7 (c : Dev nD) (t : Fin cfg0.N) (h : t.val % 8 = 0) (j : Fin 4096) : (outsAt0 m c t.val t.isLt).2.2.1 (ix3 0 0 j)
    = blkSum (dgt (m ((c : Thread nD τ).loc main_arg0)) (m ((c : Thread nD τ).loc main_arg1)) (m ((c : Thread nD τ).loc main_arg2)) (m ((c : Thread nD τ).loc main_arg3)) (m ((c : Thread nD τ).loc main_arg4)) j) t.val := by
  by_cases h' : t.val % 16 = 0
  · rw [outsAt0_A m c t h h']; frame_out
    rw [add7, zero7]; exact zero_add (M := EReal) _
  · rw [outsAt0_C m c t h h']; frame_out
    rw [add7, zero7]; exact zero_add (M := EReal) _

theorem next7 (c : Dev nD) (t : Fin cfg0.N) (h : ¬ t.val % 8 = 0) (j : Fin 4096) : (outsAt0 m c t.val t.isLt).2.2.1 (ix3 0 0 j)
    = (outsAt0 m c (t.val - 1) (Nat.lt_of_le_of_lt (Nat.sub_le _ _) t.isLt)).2.2.1 (ix3 0 0 j) + blkSum (dgt (m ((c : Thread nD τ).loc main_arg0)) (m ((c : Thread nD τ).loc main_arg1)) (m ((c : Thread nD τ).loc main_arg2)) (m ((c : Thread nD τ).loc main_arg3)) (m ((c : Thread nD τ).loc main_arg4)) j) t.val := by
  rw [outsAt0_B m c t h (by omega)]; frame_out
  rw [add7]

theorem first8 (c : Dev nD) (t : Fin cfg0.N) (h : t.val % 16 = 0) (j : Fin 4096) : (outsAt0 m c t.val t.isLt).2.2.2.1 (ix2 0 j)
    = blkSum (dgn (m ((c : Thread nD τ).loc main_arg0)) (m ((c : Thread nD τ).loc main_arg1)) (m ((c : Thread nD τ).loc main_arg2)) (m ((c : Thread nD τ).loc main_arg3)) (m ((c : Thread nD τ).loc main_arg4)) j) t.val := by
  rw [outsAt0_A m c t (by omega) h]; frame_out
  rw [add8, zero8]; exact zero_add (M := EReal) _

theorem next8 (c : Dev nD) (t : Fin cfg0.N) (h : ¬ t.val % 16 = 0) (j : Fin 4096) : (outsAt0 m c t.val t.isLt).2.2.2.1 (ix2 0 j)
    = (outsAt0 m c (t.val - 1) (Nat.lt_of_le_of_lt (Nat.sub_le _ _) t.isLt)).2.2.2.1 (ix2 0 j) + blkSum (dgn (m ((c : Thread nD τ).loc main_arg0)) (m ((c : Thread nD τ).loc main_arg1)) (m ((c : Thread nD τ).loc main_arg2)) (m ((c : Thread nD τ).loc main_arg3)) (m ((c : Thread nD τ).loc main_arg4)) j) t.val := by
  by_cases h' : t.val % 8 = 0
  · rw [outsAt0_C m c t h' h]; frame_out
    rw [add8]
  · rw [outsAt0_B m c t h' h]; frame_out
    rw [add8]

theorem first9 (c : Dev nD) (t : Fin cfg0.N) (h : t.val % 16 = 0) (j : Fin 128) : (outsAt0 m c t.val t.isLt).2.2.2.2 (ix2 0 j)
    = Ideal.ofBits .f32 0x3F000000#32 * blkSum (mse (m ((c : Thread nD τ).loc main_arg0)) (m ((c : Thread nD τ).loc main_arg1)) (m ((c : Thread nD τ).loc main_arg2)) (m ((c : Thread nD τ).loc main_arg3)) (m ((c : Thread nD τ).loc main_arg4))) t.val := by
  rw [outsAt0_A m c t (by omega) h]; frame_out
  rw [add9, zero9]; exact zero_add (M := EReal) _

theorem next9 (c : Dev nD) (t : Fin cfg0.N) (h : ¬ t.val % 16 = 0) (j : Fin 128) : (outsAt0 m c t.val t.isLt).2.2.2.2 (ix2 0 j)
    = (outsAt0 m c (t.val - 1) (Nat.lt_of_le_of_lt (Nat.sub_le _ _) t.isLt)).2.2.2.2 (ix2 0 j) + Ideal.ofBits .f32 0x3F000000#32 * blkSum (mse (m ((c : Thread nD τ).loc main_arg0)) (m ((c : Thread nD τ).loc main_arg1)) (m ((c : Thread nD τ).loc main_arg2)) (m ((c : Thread nD τ).loc main_arg3)) (m ((c : Thread nD τ).loc main_arg4))) t.val := by
  by_cases h' : t.val % 8 = 0
  · rw [outsAt0_C m c t h' h]; frame_out
    rw [add9]
  · rw [outsAt0_B m c t h' h]; frame_out
    rw [add9]

theorem point5 (c : Dev nD) (t : Fin cfg0.N) (y : S1x256x4096.Idx) :
    k0_pay1 (F := Ideal) (k0_pay16 (F := Ideal) (iblk m c 3 t) (k0_pay9 (F := Ideal) (iblk m c 1 t) (iblk m c 2 t) (iblk m c 0 t)) (k0_pay10 (F := Ideal) (iblk m c 1 t) (iblk m c 2 t) (iblk m c 0 t)) (k0_pay12 (F := Ideal) (iblk m c 1 t) (iblk m c 2 t) (iblk m c 3 t) (iblk m c 0 t) (iblk m c 4 t))) y = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have ht : t.val < 16 := lt_of_lt_of_eq t.isLt N_0
  idx_vars y
  have ey : ((cfg0.win 5).blk t).view.emb (ix3 0 y1 y2) = ix3 ⟨t.val / 8 % 2, by omega⟩ ⟨t.val % 8 * 256 + y1.val, by omega⟩ y2 := by blk_ext [idx t]
  obtain rfl : y0 = 0 := Subsingleton.elim _ _
  refine Eq.trans ?_ (congrArg (REF0 (m ((c : Thread nD τ).loc main_arg0)) (m ((c : Thread nD τ).loc main_arg1)) (m ((c : Thread nD τ).loc main_arg2)) (m ((c : Thread nD τ).loc main_arg3)) (m ((c : Thread nD τ).loc main_arg4))) ey).symm
  pointwise [k0_pay1]
  rw [k16 m c t]
  exact (ref0_at _ _ _ _ _ _ _ _).symm

theorem final5 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp; rw [after0_5]
  by_cases h : t.val % 8 = 0
  · by_cases h' : t.val % 16 = 0
    · rw [outsAt0_A m c t h h']; frame_out; exact point5 m c t y
    · rw [outsAt0_C m c t h h']; frame_out; exact point5 m c t y
  · rw [outsAt0_B m c t h (by omega)]; frame_out; exact point5 m c t y

theorem point6 (c : Dev nD) (t : Fin cfg0.N) (y : S1x256x4096.Idx) :
    k0_pay3 (F := Ideal) (k0_pay8 (iblk m c 2 t)) (k0_pay16 (F := Ideal) (iblk m c 3 t) (k0_pay9 (F := Ideal) (iblk m c 1 t) (iblk m c 2 t) (iblk m c 0 t)) (k0_pay10 (F := Ideal) (iblk m c 1 t) (iblk m c 2 t) (iblk m c 0 t)) (k0_pay12 (F := Ideal) (iblk m c 1 t) (iblk m c 2 t) (iblk m c 3 t) (iblk m c 0 t) (iblk m c 4 t))) y = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have ht : t.val < 16 := lt_of_lt_of_eq t.isLt N_0
  idx_vars y
  have ey : ((cfg0.win 6).blk t).view.emb (ix3 0 y1 y2) = ix3 ⟨t.val / 8 % 2, by omega⟩ ⟨t.val % 8 * 256 + y1.val, by omega⟩ y2 := by blk_ext [idx t]
  obtain rfl : y0 = 0 := Subsingleton.elim _ _
  refine Eq.trans ?_ (congrArg (REF1 (m ((c : Thread nD τ).loc main_arg0)) (m ((c : Thread nD τ).loc main_arg1)) (m ((c : Thread nD τ).loc main_arg2)) (m ((c : Thread nD τ).loc main_arg3)) (m ((c : Thread nD τ).loc main_arg4))) ey).symm
  pointwise [k0_pay3, k0_pay8]
  rw [k16 m c t, gt_at m c t]
  exact (ref1_at _ _ _ _ _ _ _ _).symm

theorem final6 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp; rw [after0_6]
  by_cases h : t.val % 8 = 0
  · by_cases h' : t.val % 16 = 0
    · rw [outsAt0_A m c t h h']; frame_out; exact point6 m c t y
    · rw [outsAt0_C m c t h h']; frame_out; exact point6 m c t y
  · rw [outsAt0_B m c t h (by omega)]; frame_out; exact point6 m c t y

/-- The gate's gradient after the run. -/
theorem final7 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h7 : t.val % 8 = 7 := (flush0_7 t).mp hf
  have ht : t.val < 16 := lt_of_lt_of_eq t.isLt N_0
  blk_simp; rw [after0_7]
  idx_vars y
  obtain rfl : y0 = 0 := Subsingleton.elim _ _
  obtain rfl : y1 = 0 := Subsingleton.elim _ _
  obtain ⟨b, eb⟩ : ∃ b : Fin 2, b.val = t.val / 8 := ⟨⟨t.val / 8, by omega⟩, rfl⟩
  have ey : ((cfg0.win 7).blk t).view.emb (ix3 0 0 y2) = ix3 b 0 y2 := by blk_ext [idx t]
  refine Eq.trans ?_ (congrArg (REF2 (m ((c : Thread nD τ).loc main_arg0)) (m ((c : Thread nD τ).loc main_arg1)) (m ((c : Thread nD τ).loc main_arg2)) (m ((c : Thread nD τ).loc main_arg3)) (m ((c : Thread nD τ).loc main_arg4))) ey).symm
  have hs := accum 8 cfg0.N (fun n h => (outsAt0 m c n h).2.2.1 (ix3 0 0 y2)) (blkSum (dgt (m ((c : Thread nD τ).loc main_arg0)) (m ((c : Thread nD τ).loc main_arg1)) (m ((c : Thread nD τ).loc main_arg2)) (m ((c : Thread nD τ).loc main_arg3)) (m ((c : Thread nD τ).loc main_arg4)) y2))
    (fun n h e => first7 m c ⟨n, h⟩ e y2) (fun n h e => next7 m c ⟨n, h⟩ e y2) b.val 7
  have et : 8 * b.val + 7 = t.val := by omega
  simp only [et] at hs
  exact (hs t.isLt (by omega)).trans ((rows _ b).trans (ref2_at _ _ _ _ _ b y2).symm)

theorem final8 (c : Dev nD) : (dats m 0 c).arrAt 8 (cfgs 0).N = REF3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht : t.val < 16 := lt_of_lt_of_eq t.isLt N_0
  have h15 : t.val % 16 = 15 := (flush0_8 t).mp hf
  blk_simp; rw [after0_8]
  idx_vars y
  obtain rfl : y0 = 0 := Subsingleton.elim _ _
  have ey : ((cfg0.win 8).blk t).view.emb (ix2 0 y1) = ix2 0 y1 := by blk_ext [idx t]
  refine Eq.trans ?_ (congrArg (REF3 (m ((c : Thread nD τ).loc main_arg0)) (m ((c : Thread nD τ).loc main_arg1)) (m ((c : Thread nD τ).loc main_arg2)) (m ((c : Thread nD τ).loc main_arg3)) (m ((c : Thread nD τ).loc main_arg4))) ey).symm
  have hs := accum 16 cfg0.N (fun n h => (outsAt0 m c n h).2.2.2.1 (ix2 0 y1)) (blkSum (dgn (m ((c : Thread nD τ).loc main_arg0)) (m ((c : Thread nD τ).loc main_arg1)) (m ((c : Thread nD τ).loc main_arg2)) (m ((c : Thread nD τ).loc main_arg3)) (m ((c : Thread nD τ).loc main_arg4)) y1))
    (fun n h e => first8 m c ⟨n, h⟩ e y1) (fun n h e => next8 m c ⟨n, h⟩ e y1) 0 15
  have et : 16 * 0 + 15 = t.val := by omega
  simp only [et] at hs
  refine (hs t.isLt (by omega)).trans (Eq.trans ?_ ((rows2 _).trans (ref3_at _ _ _ _ _ y1).symm))
  exact Finset.sum_congr rfl fun s _ => congrArg (blkSum _) (by omega)

theorem final9 (c : Dev nD) : (dats m 0 c).arrAt 9 (cfgs 0).N = REF4 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have ht : t.val < 16 := lt_of_lt_of_eq t.isLt N_0
  have h15 : t.val % 16 = 15 := (flush0_9 t).mp hf
  blk_simp; rw [after0_9]
  idx_vars y
  obtain rfl : y0 = 0 := Subsingleton.elim _ _
  have ey : ((cfg0.win 9).blk t).view.emb (ix2 0 y1) = ix2 0 y1 := by blk_ext [idx t]
  refine Eq.trans ?_ (congrArg (REF4 (m ((c : Thread nD τ).loc main_arg0)) (m ((c : Thread nD τ).loc main_arg1)) (m ((c : Thread nD τ).loc main_arg2)) (m ((c : Thread nD τ).loc main_arg3)) (m ((c : Thread nD τ).loc main_arg4))) ey).symm
  have hs := accum 16 cfg0.N (fun n h => (outsAt0 m c n h).2.2.2.2 (ix2 0 y1)) (fun s => Ideal.ofBits .f32 0x3F000000#32 * blkSum (mse (m ((c : Thread nD τ).loc main_arg0)) (m ((c : Thread nD τ).loc main_arg1)) (m ((c : Thread nD τ).loc main_arg2)) (m ((c : Thread nD τ).loc main_arg3)) (m ((c : Thread nD τ).loc main_arg4))) s)
    (fun n h e => first9 m c ⟨n, h⟩ e y1) (fun n h e => next9 m c ⟨n, h⟩ e y1) 0 15
  have et : 16 * 0 + 15 = t.val := by omega
  simp only [et] at hs
  refine (hs t.isLt (by omega)).trans (Eq.trans ?_ (ref4_at _ _ _ _ _ y1).symm)
  rw [← rows2, half_sum]
  exact Finset.sum_congr rfl fun s _ => congrArg (fun n => Ideal.ofBits .f32 0x3F000000#32 * blkSum _ n) (by omega)

end Cert.KernelLIdeal.Value

end
-- ==== Proof.ValueC.lean ====
/- The value of the sum over the chips of the in-projection's gradient. -/
module

public import proofs.«01_k».proof.Proof.Gen.KernelCIdeal.Frame
public import proofs.«01_k».proof.Proof.Gen.ReferenceCIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceCIdeal.Value

open Cert.ReferenceCIdeal Cert.ReferenceCIdeal.Gen

/-- The term of the result 0 over the arguments. -/
abbrev REF0 (A0 : FVec Ideal S4x2048x4096 .bf16) (A1 : FVec Ideal S2048x4096 .f32) : FVec Ideal S2048x4096 .f32 :=
  addf A1 (Host.reduceAdd (extf .f32 (extractStridedSlice S3x2048x4096 ![1, 0, 0] A0 slices_S4x2048x4096_S3x2048x4096_1_0_0) bitsLt_bf16_f32) (constant S_ .f32 0x00000000#32) reducesTo_S3x2048x4096_S2048x4096_d0 h_S_)

end Cert.ReferenceCIdeal.Value

namespace Cert.KernelCIdeal.Value

open Cert.KernelCIdeal Cert.KernelCIdeal.Gen
open Cert.ReferenceCIdeal.Value (REF0)

variable (m : (ℓ : Loc nD τ sig) → Buf (Elt Ideal) ℓ)

/-- The sum of four numbers, in their order. -/
def four (a b c d : EReal) : EReal := a + b + c + d

/-- The reference at an index: the device's own part and those of the three other chips. -/
theorem ref_at (A0 : FVec Ideal S4x2048x4096 .bf16) (A1 : FVec Ideal S2048x4096 .f32) (r : Fin 2048) (e : Fin 4096) :
    REF0 A0 A1 (ix2 r e) = four (A1 (ix2 r e)) (A0 (ix3 1 r e)) (A0 (ix3 2 r e)) (A0 (ix3 3 r e)) := by
  unfold four
  pointwise [REF0]
  rw [Fin.sum_univ_three]
  have h1 : ∀ a b c d : EReal, a + (b + c + d) = a + b + c + d := fun a b c d => by rw [← add_assoc, ← add_assoc]
  exact h1 _ _ _ _

/-- The reference's rows in the whole array's shape, where the last rows repeat the first. -/
def full (A0 : FVec Ideal S4x2048x4096 .bf16) (A1 : FVec Ideal S2048x4096 .f32) : FVec Ideal S4096x4096 .f32 :=
  fun i => REF0 A0 A1 (ix2 ⟨(i 0).val % 2048, by omega⟩ (i 1))

/-- The table of the device at the mesh's origin. -/
def zero : pre0.Contents (Elt Ideal) := fun | ⟨0, _⟩ => fun _ => 0#32 | ⟨_ + 1, h⟩ => absurd h (by simp)

theorem tbl_eq : tbl m = zero := by
  funext j x
  match j with
  | ⟨0, _⟩ => rfl

theorem ok_zero : ok0 zero := by decide +kernel

theorem ok : Ok m := by
  unfold Ok; rw [tbl_eq m]; exact ok_zero

/-- The pipeline at that table. -/
abbrev at0 : (pcfg0 (F := Ideal)).Adm := ⟨zero, ok_zero⟩

theorem adm_eq (hO : Ok m) : adm m hO = at0 := Subtype.ext (tbl_eq m)

/-- The blocks' indices at a grid point. -/
theorem idx0 : ∀ t : Fin grid0.N, ix0 zero 0 (grid0.coords t) = ![0, t.val / 2, t.val % 2] ∧ ix0 zero 1 (grid0.coords t) = ![t.val / 2, t.val % 2]
    ∧ ix0 zero 2 (grid0.coords t) = ![t.val / 2, t.val % 2] := by decide +kernel

theorem idx (hO : Ok m) (t : Fin (cfgM m hO).N) : ((cfgM m hO).win 0).index t = ![0, t.val / 2, t.val % 2]
    ∧ ((cfgM m hO).win 1).index t = ![t.val / 2, t.val % 2]
    ∧ ((cfgM m hO).win 2).index t = ![t.val / 2, t.val % 2] := by
  have h := idx0 t
  refine ⟨h.1, h.2.1, ?_⟩
  show ix0 (tbl m) 2 (grid0.coords t) = _
  rw [tbl_eq m]; exact h.2.2

theorem covers : ((cfg0 at0).win 2).CoversWhere (fun β => β (0 : Fin 2) < 8) := by decide +kernel

theorem covers' : ∀ a : (pcfg0 (F := Ideal)).Adm, a = at0 → ((cfg0 a).win 2).CoversWhere (fun β => β (0 : Fin 2) < 8) := by
  rintro _ rfl; exact covers

/-- What a grid point leaves at an index of its block. -/
theorem out_eq (c : Dev nD) (hO : Ok m) (t : Fin (cfgM m hO).N) (y0 : Fin 256) (y1 : Fin 2048) : outsAt0 m hO c t (ix2 y0 y1)
    = four (iblk m hO c 1 t (ix2 y0 y1)) (iblk m hO c 0 t (ix3 1 y0 y1)) (iblk m hO c 0 t (ix3 2 y0 y1)) (iblk m hO c 0 t (ix3 3 y0 y1)) := by
  unfold outsAt0
  frame_out
  have hT : View.readAt (Elt Ideal) (View.whole main_v0) (Rect.unit ![1] ![1] inb_S2_S1_1).toLoadRect (tbl m 0)
      (Shape.Idx.first (by decide)) = (0#32 : BitVec 32) := by
    rw [tbl_eq m]
    rfl
  pointwise [k0_pay1]
  rw [hT]
  unfold four
  refine congrArg₂ (fun a b : EReal => a + b) (congrArg₂ (fun a b : EReal => a + b) (congrArg₂ (fun a b : EReal => a + b) ?_ ?_) ?_) ?_
  · exact congrFun (Memref.IsWhole.read_unread _ _) _
  · exact congrFun (Memref.IsWhole.read_unread _ _) _
  · exact congrFun (Memref.IsWhole.read_unread _ _) _
  · exact congrFun (Memref.IsWhole.read_unread _ _) _

/-- What a grid point stores at an index of its block is the reference there. -/
theorem point (c : Dev nD) (hO : Ok m) (t : Fin (cfgM m hO).N) (y : S256x2048.Idx) : outsAt0 m hO c t y
    = full (m ((c : Thread nD τ).loc main_arg0)) (m ((c : Thread nD τ).loc main_arg1)) ((((cfgM m hO).win 2).blk t).view.emb y) := by
  have ht : t.val < 16 := lt_of_lt_of_eq t.isLt N_0
  idx_vars y
  obtain ⟨r, er⟩ : ∃ r : Fin 2048, r.val = 256 * (t.val / 2) + y0.val := ⟨⟨256 * (t.val / 2) + y0.val, by omega⟩, rfl⟩
  obtain ⟨e, ee⟩ : ∃ e : Fin 4096, e.val = 2048 * (t.val % 2) + y1.val := ⟨⟨2048 * (t.val % 2) + y1.val, by omega⟩, rfl⟩
  have hf : full (m ((c : Thread nD τ).loc main_arg0)) (m ((c : Thread nD τ).loc main_arg1)) ((((cfgM m hO).win 2).blk t).view.emb (ix2 y0 y1))
      = REF0 (m ((c : Thread nD τ).loc main_arg0)) (m ((c : Thread nD τ).loc main_arg1)) (ix2 r e) := by
    unfold full
    refine congrArg (REF0 (m ((c : Thread nD τ).loc main_arg0)) (m ((c : Thread nD τ).loc main_arg1))) ?_
    blk_ext [idx m hO t]
  rw [hf, ref_at _ _ r e, out_eq]
  unfold four
  refine congrArg₂ (fun a b : EReal => a + b) (congrArg₂ (fun a b : EReal => a + b) (congrArg₂ (fun a b : EReal => a + b) ?_ ?_) ?_) ?_
  all_goals blk_ext [iblk, V, idx m hO t]

/-- The first rows of an array that agrees with the reference there. -/
theorem slice_eq (A0 : FVec Ideal S4x2048x4096 .bf16) (A1 : FVec Ideal S2048x4096 .f32) (A : FVec Ideal S4096x4096 .f32)
    (h : ∀ i : S4096x4096.Idx, (i 0).val < 2048 → A i = full A0 A1 i) :
    extractStridedSlice S2048x4096 ![0, 0] A slices_S4096x4096_S2048x4096_0_0 = REF0 A0 A1 := by
  refine funext fun (i : S2048x4096.Idx) => ?_
  idx_vars i
  have e : extractStridedSlice S2048x4096 ![0, 0] A slices_S4096x4096_S2048x4096_0_0 (ix2 i0 i1)
      = A (ix2 ⟨i0.val, by omega⟩ i1) := by
    pointwise
    try (refine congrArg A ?_; blk_ext)
  rw [e, h _ i0.isLt]
  unfold full
  refine congrArg (REF0 A0 A1) ?_
  blk_ext

/-- The first rows of the array after the run. -/
theorem final (hO : Ok m) (c : Dev nD) (A : FVec Ideal S4096x4096 .f32) (hA : A = (dats m hO 0 c).arrAt 2 (cfgM m hO).N) :
    extractStridedSlice S2048x4096 ![0, 0] A slices_S4096x4096_S2048x4096_0_0
    = REF0 (m ((c : Thread nD τ).loc main_arg0)) (m ((c : Thread nD τ).loc main_arg1)) := by
  have h := (dats m hO 0 c).arrAt_eq_of_coversWhere (P := fun i : S4096x4096.Idx => (i 0).val / 256 < 8) 2
    (full (m ((c : Thread nD τ).loc main_arg0)) (m ((c : Thread nD τ).loc main_arg1))) _ (covers' _ (adm_eq m hO))
    (fun t hf y => by
      blk_simp
      rw [after0_2]
      exact point m c hO t y) (fun j => Iff.rfl)
  refine slice_eq _ _ A fun i hi => ?_
  rw [hA, h]
  exact if_pos (show (i 0).val / 256 < 8 by omega)

/-- The slice after the call reads the array the call leaves. -/
theorem tail (hO : Ok m) (c : Dev nD) (A : FVec Ideal S4096x4096 .f32) (hA : A = (dats m hO 0 c).arrAt 2 (cfgM m hO).N) :
    Pipeline.afterTail pcfgs (fun _ => adm m hO) (dats m hO) 0 (V0 m) [hostOps1] c main_v2
    = extractStridedSlice S2048x4096 ![0, 0] A slices_S4096x4096_S2048x4096_0_0 := by
  unfold Pipeline.afterTail
  simp only [List.flatten_cons, List.flatten_nil, List.append_nil]
  rw [StableHlo.after_cons, StableHlo.after_nil, StableHlo.unary_result]
  refine congrArg (fun a : FVec Ideal S4096x4096 .f32 => extractStridedSlice S2048x4096 ![0, 0] a slices_S4096x4096_S2048x4096_0_0) ?_
  exact (Pipeline.withArrays_arr spec0 (by decide) c _ _ 2).trans hA.symm

end Cert.KernelCIdeal.Value

end
-- ==== Proof.ValueCO.lean ====
/- The value of the sum over the chips of the out-projection's gradient. -/
module

public import proofs.«01_k».proof.Proof.Gen.KernelCOIdeal.Frame
public import proofs.«01_k».proof.Proof.Gen.ReferenceCOIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceCOIdeal.Value

open Cert.ReferenceCOIdeal Cert.ReferenceCOIdeal.Gen

/-- The term of the result 0 over the arguments. -/
abbrev REF0 (A0 : FVec Ideal S4x512x4096 .bf16) (A1 : FVec Ideal S512x4096 .f32) : FVec Ideal S512x4096 .f32 :=
  addf A1 (Host.reduceAdd (extf .f32 (extractStridedSlice S3x512x4096 ![1, 0, 0] A0 slices_S4x512x4096_S3x512x4096_1_0_0) bitsLt_bf16_f32) (constant S_ .f32 0x00000000#32) reducesTo_S3x512x4096_S512x4096_d0 h_S_)

end Cert.ReferenceCOIdeal.Value

namespace Cert.KernelCOIdeal.Value

open Cert.KernelCOIdeal Cert.KernelCOIdeal.Gen
open Cert.ReferenceCOIdeal.Value (REF0)

variable (m : (ℓ : Loc nD τ sig) → Buf (Elt Ideal) ℓ)

/-- The sum of four numbers, in their order. -/
def four (a b c d : EReal) : EReal := a + b + c + d

/-- The reference at an index: the device's own part and those of the three other chips. -/
theorem ref_at (A0 : FVec Ideal S4x512x4096 .bf16) (A1 : FVec Ideal S512x4096 .f32) (r : Fin 512) (e : Fin 4096) :
    REF0 A0 A1 (ix2 r e) = four (A1 (ix2 r e)) (A0 (ix3 1 r e)) (A0 (ix3 2 r e)) (A0 (ix3 3 r e)) := by
  unfold four
  pointwise [REF0]
  rw [Fin.sum_univ_three]
  have h1 : ∀ a b c d : EReal, a + (b + c + d) = a + b + c + d := fun a b c d => by rw [← add_assoc, ← add_assoc]
  exact h1 _ _ _ _

/-- The reference's rows in the whole array's shape, where the last rows repeat the first. -/
def full (A0 : FVec Ideal S4x512x4096 .bf16) (A1 : FVec Ideal S512x4096 .f32) : FVec Ideal S1024x4096 .f32 :=
  fun i => REF0 A0 A1 (ix2 ⟨(i 0).val % 512, by omega⟩ (i 1))

/-- The table of the device at the mesh's origin. -/
def zero : pre0.Contents (Elt Ideal) := fun | ⟨0, _⟩ => fun _ => 0#32 | ⟨_ + 1, h⟩ => absurd h (by simp)

theorem tbl_eq : tbl m = zero := by
  funext j x
  match j with
  | ⟨0, _⟩ => rfl

theorem ok_zero : ok0 zero := by decide +kernel

theorem ok : Ok m := by
  unfold Ok; rw [tbl_eq m]; exact ok_zero

/-- The pipeline at that table. -/
abbrev at0 : (pcfg0 (F := Ideal)).Adm := ⟨zero, ok_zero⟩

theorem adm_eq (hO : Ok m) : adm m hO = at0 := Subtype.ext (tbl_eq m)

/-- The blocks' indices at a grid point. -/
theorem idx0 : ∀ t : Fin grid0.N, ix0 zero 0 (grid0.coords t) = ![0, t.val / 2, t.val % 2] ∧ ix0 zero 1 (grid0.coords t) = ![t.val / 2, t.val % 2]
    ∧ ix0 zero 2 (grid0.coords t) = ![t.val / 2, t.val % 2] := by decide +kernel

theorem idx (hO : Ok m) (t : Fin (cfgM m hO).N) : ((cfgM m hO).win 0).index t = ![0, t.val / 2, t.val % 2]
    ∧ ((cfgM m hO).win 1).index t = ![t.val / 2, t.val % 2]
    ∧ ((cfgM m hO).win 2).index t = ![t.val / 2, t.val % 2] := by
  have h := idx0 t
  refine ⟨h.1, h.2.1, ?_⟩
  show ix0 (tbl m) 2 (grid0.coords t) = _
  rw [tbl_eq m]; exact h.2.2

theorem covers : ((cfg0 at0).win 2).CoversWhere (fun β => β (0 : Fin 2) < 2) := by decide +kernel

theorem covers' : ∀ a : (pcfg0 (F := Ideal)).Adm, a = at0 → ((cfg0 a).win 2).CoversWhere (fun β => β (0 : Fin 2) < 2) := by
  rintro _ rfl; exact covers

/-- What a grid point leaves at an index of its block. -/
theorem out_eq (c : Dev nD) (hO : Ok m) (t : Fin (cfgM m hO).N) (y0 : Fin 256) (y1 : Fin 2048) : outsAt0 m hO c t (ix2 y0 y1)
    = four (iblk m hO c 1 t (ix2 y0 y1)) (iblk m hO c 0 t (ix3 1 y0 y1)) (iblk m hO c 0 t (ix3 2 y0 y1)) (iblk m hO c 0 t (ix3 3 y0 y1)) := by
  unfold outsAt0
  frame_out
  have hT : View.readAt (Elt Ideal) (View.whole main_v0) (Rect.unit ![1] ![1] inb_S2_S1_1).toLoadRect (tbl m 0)
      (Shape.Idx.first (by decide)) = (0#32 : BitVec 32) := by
    rw [tbl_eq m]
    rfl
  pointwise [k0_pay1]
  rw [hT]
  unfold four
  refine congrArg₂ (fun a b : EReal => a + b) (congrArg₂ (fun a b : EReal => a + b) (congrArg₂ (fun a b : EReal => a + b) ?_ ?_) ?_) ?_
  · exact congrFun (Memref.IsWhole.read_unread _ _) _
  · exact congrFun (Memref.IsWhole.read_unread _ _) _
  · exact congrFun (Memref.IsWhole.read_unread _ _) _
  · exact congrFun (Memref.IsWhole.read_unread _ _) _

/-- What a grid point stores at an index of its block is the reference there. -/
theorem point (c : Dev nD) (hO : Ok m) (t : Fin (cfgM m hO).N) (y : S256x2048.Idx) : outsAt0 m hO c t y
    = full (m ((c : Thread nD τ).loc main_arg0)) (m ((c : Thread nD τ).loc main_arg1)) ((((cfgM m hO).win 2).blk t).view.emb y) := by
  have ht : t.val < 4 := lt_of_lt_of_eq t.isLt N_0
  idx_vars y
  obtain ⟨r, er⟩ : ∃ r : Fin 512, r.val = 256 * (t.val / 2) + y0.val := ⟨⟨256 * (t.val / 2) + y0.val, by omega⟩, rfl⟩
  obtain ⟨e, ee⟩ : ∃ e : Fin 4096, e.val = 2048 * (t.val % 2) + y1.val := ⟨⟨2048 * (t.val % 2) + y1.val, by omega⟩, rfl⟩
  have hf : full (m ((c : Thread nD τ).loc main_arg0)) (m ((c : Thread nD τ).loc main_arg1)) ((((cfgM m hO).win 2).blk t).view.emb (ix2 y0 y1))
      = REF0 (m ((c : Thread nD τ).loc main_arg0)) (m ((c : Thread nD τ).loc main_arg1)) (ix2 r e) := by
    unfold full
    refine congrArg (REF0 (m ((c : Thread nD τ).loc main_arg0)) (m ((c : Thread nD τ).loc main_arg1))) ?_
    blk_ext [idx m hO t]
  rw [hf, ref_at _ _ r e, out_eq]
  unfold four
  refine congrArg₂ (fun a b : EReal => a + b) (congrArg₂ (fun a b : EReal => a + b) (congrArg₂ (fun a b : EReal => a + b) ?_ ?_) ?_) ?_
  all_goals blk_ext [iblk, V, idx m hO t]

/-- The first rows of an array that agrees with the reference there. -/
theorem slice_eq (A0 : FVec Ideal S4x512x4096 .bf16) (A1 : FVec Ideal S512x4096 .f32) (A : FVec Ideal S1024x4096 .f32)
    (h : ∀ i : S1024x4096.Idx, (i 0).val < 512 → A i = full A0 A1 i) :
    extractStridedSlice S512x4096 ![0, 0] A slices_S1024x4096_S512x4096_0_0 = REF0 A0 A1 := by
  refine funext fun (i : S512x4096.Idx) => ?_
  idx_vars i
  have e : extractStridedSlice S512x4096 ![0, 0] A slices_S1024x4096_S512x4096_0_0 (ix2 i0 i1)
      = A (ix2 ⟨i0.val, by omega⟩ i1) := by
    pointwise
    try (refine congrArg A ?_; blk_ext)
  rw [e, h _ i0.isLt]
  unfold full
  refine congrArg (REF0 A0 A1) ?_
  blk_ext

/-- The first rows of the array after the run. -/
theorem final (hO : Ok m) (c : Dev nD) (A : FVec Ideal S1024x4096 .f32) (hA : A = (dats m hO 0 c).arrAt 2 (cfgM m hO).N) :
    extractStridedSlice S512x4096 ![0, 0] A slices_S1024x4096_S512x4096_0_0
    = REF0 (m ((c : Thread nD τ).loc main_arg0)) (m ((c : Thread nD τ).loc main_arg1)) := by
  have h := (dats m hO 0 c).arrAt_eq_of_coversWhere (P := fun i : S1024x4096.Idx => (i 0).val / 256 < 2) 2
    (full (m ((c : Thread nD τ).loc main_arg0)) (m ((c : Thread nD τ).loc main_arg1))) _ (covers' _ (adm_eq m hO))
    (fun t hf y => by
      blk_simp
      rw [after0_2]
      exact point m c hO t y) (fun j => Iff.rfl)
  refine slice_eq _ _ A fun i hi => ?_
  rw [hA, h]
  exact if_pos (show (i 0).val / 256 < 2 by omega)

/-- The slice after the call reads the array the call leaves. -/
theorem tail (hO : Ok m) (c : Dev nD) (A : FVec Ideal S1024x4096 .f32) (hA : A = (dats m hO 0 c).arrAt 2 (cfgM m hO).N) :
    Pipeline.afterTail pcfgs (fun _ => adm m hO) (dats m hO) 0 (V0 m) [hostOps1] c main_v2
    = extractStridedSlice S512x4096 ![0, 0] A slices_S1024x4096_S512x4096_0_0 := by
  unfold Pipeline.afterTail
  simp only [List.flatten_cons, List.flatten_nil, List.append_nil]
  rw [StableHlo.after_cons, StableHlo.after_nil, StableHlo.unary_result]
  refine congrArg (fun a : FVec Ideal S1024x4096 .f32 => extractStridedSlice S512x4096 ![0, 0] a slices_S1024x4096_S512x4096_0_0) ?_
  exact (Pipeline.withArrays_arr spec0 (by decide) c _ _ 2).trans hA.symm

end Cert.KernelCOIdeal.Value

end
-- ==== Proof.lean ====
module

public import proofs.«01_k».proof.Proof.Gen.KernelOF.Frame
public import proofs.«01_k».proof.Proof.Gen.KernelOFIdeal.Frame
public import proofs.«01_k».proof.Proof.Gen.ReferenceOFIdeal.Run
public import proofs.«01_k».proof.Proof.Gen.KernelUI.Frame
public import proofs.«01_k».proof.Proof.Gen.KernelUIIdeal.Frame
public import proofs.«01_k».proof.Proof.Gen.ReferenceUIIdeal.Run
public import proofs.«01_k».proof.Proof.Gen.KernelUO.Frame
public import proofs.«01_k».proof.Proof.Gen.KernelUOIdeal.Frame
public import proofs.«01_k».proof.Proof.Gen.ReferenceUOIdeal.Run
public import proofs.«01_k».proof.Proof.Gen.KernelS.Frame
public import proofs.«01_k».proof.Proof.Gen.KernelSIdeal.Frame
public import proofs.«01_k».proof.Proof.Gen.ReferenceSIdeal.Run
public import proofs.«01_k».proof.Proof.Gen.KernelA.Frame
public import proofs.«01_k».proof.Proof.Gen.KernelAIdeal.Frame
public import proofs.«01_k».proof.Proof.Gen.ReferenceAIdeal.Run
public import proofs.«01_k».proof.Proof.Gen.KernelX.Frame
public import proofs.«01_k».proof.Proof.Gen.KernelXIdeal.Frame
public import proofs.«01_k».proof.Proof.Gen.ReferenceXIdeal.Run
public import proofs.«01_k».proof.Proof.Gen.KernelOY.Frame
public import proofs.«01_k».proof.Proof.Gen.KernelOYIdeal.Frame
public import proofs.«01_k».proof.Proof.Gen.ReferenceOYIdeal.Run
public import proofs.«01_k».proof.Proof.Gen.KernelOW.Frame
public import proofs.«01_k».proof.Proof.Gen.KernelOWIdeal.Frame
public import proofs.«01_k».proof.Proof.Gen.ReferenceOWIdeal.Run
public import proofs.«01_k».proof.Proof.Gen.KernelW.Frame
public import proofs.«01_k».proof.Proof.Gen.KernelWIdeal.Frame
public import proofs.«01_k».proof.Proof.Gen.ReferenceWIdeal.Run
public import proofs.«01_k».proof.Proof.ValueW
public import proofs.«01_k».proof.Proof.ValueX
public import proofs.«01_k».proof.Proof.ValueOY
public import proofs.«01_k».proof.Proof.ValueOW
public import proofs.«01_k».proof.Proof.ValueOF
public import proofs.«01_k».proof.Proof.ValueUI
public import proofs.«01_k».proof.Proof.ValueUO
public import proofs.«01_k».proof.Proof.ValueS
public import proofs.«01_k».proof.Proof.ValueA
public import Idealize.ShloMosaic.Lib.Claim
public import proofs.«01_k».proof.Defs
public import proofs.«01_k».proof.Proof.FrameI
public import proofs.«01_k».proof.Proof.FrameK
public import proofs.«01_k».proof.Proof.Gen.ReferenceIdeal
public import proofs.«01_k».proof.Proof.Gen.ReferenceIdeal.Run
public import proofs.«01_k».proof.Proof.Gen.KernelFO.Frame
public import proofs.«01_k».proof.Proof.Gen.KernelFOIdeal.Frame
public import proofs.«01_k».proof.Proof.Gen.ReferenceFOIdeal.Run
public import proofs.«01_k».proof.Proof.ValueFO
public import proofs.«01_k».proof.Proof.Gen.KernelFN.Frame
public import proofs.«01_k».proof.Proof.Gen.KernelFNIdeal.Frame
public import proofs.«01_k».proof.Proof.Gen.ReferenceFNIdeal.Run
public import proofs.«01_k».proof.Proof.ValueFN
public import proofs.«01_k».proof.Proof.Gen.KernelFD.Frame
public import proofs.«01_k».proof.Proof.Gen.KernelFDIdeal.Frame
public import proofs.«01_k».proof.Proof.Gen.ReferenceFDIdeal.Run
public import proofs.«01_k».proof.Proof.ValueFD
public import proofs.«01_k».proof.Proof.Gen.KernelM.Frame
public import proofs.«01_k».proof.Proof.Gen.KernelMIdeal.Frame
public import proofs.«01_k».proof.Proof.Gen.KernelMIdeal.Value
public import proofs.«01_k».proof.Proof.Gen.ReferenceMIdeal.Run
public import proofs.«01_k».proof.Proof.ValueM
public import proofs.«01_k».proof.Proof.Gen.KernelN.Frame
public import proofs.«01_k».proof.Proof.Gen.KernelNIdeal.Frame
public import proofs.«01_k».proof.Proof.Gen.KernelNIdeal.Value
public import proofs.«01_k».proof.Proof.Gen.ReferenceNIdeal.Run
public import proofs.«01_k».proof.Proof.ValueN
public import proofs.«01_k».proof.Proof.Gen.KernelG.Frame
public import proofs.«01_k».proof.Proof.Gen.KernelGIdeal.Frame
public import proofs.«01_k».proof.Proof.Gen.KernelGIdeal.Value
public import proofs.«01_k».proof.Proof.Gen.ReferenceGIdeal.Run
public import proofs.«01_k».proof.Proof.ValueG
public import proofs.«01_k».proof.Proof.Gen.KernelL.Frame
public import proofs.«01_k».proof.Proof.Gen.KernelLIdeal.Frame
public import proofs.«01_k».proof.Proof.Gen.ReferenceLIdeal.Run
public import proofs.«01_k».proof.Proof.ValueL
public import proofs.«01_k».proof.Proof.Gen.KernelC.Frame
public import proofs.«01_k».proof.Proof.Gen.KernelCIdeal.Frame
public import proofs.«01_k».proof.Proof.Gen.ReferenceCIdeal.Run
public import proofs.«01_k».proof.Proof.ValueC
public import proofs.«01_k».proof.Proof.Gen.KernelCO.Frame
public import proofs.«01_k».proof.Proof.Gen.KernelCOIdeal.Frame
public import proofs.«01_k».proof.Proof.Gen.ReferenceCOIdeal.Run
public import proofs.«01_k».proof.Proof.ValueCO

@[expose] public section

set_option maxRecDepth 16384

noncomputable section

namespace Cert.Proof

open Idealize.ShloMosaic Idealize.SL.Sem

/-- The reference runs, its arguments end unchanged; it declares no semaphore. -/
theorem frame_r : Cert.quiescent_ReferenceIdeal := fun m ρ _ =>
  (θ_run Cert.ReferenceIdeal.defs _ _).mono (fun r h => ⟨fun c => ⟨(h c).2.2.1, (h c).2.2.2.1, (h c).2.2.2.2⟩,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem frame_rW : Cert.quiescent_ReferenceWIdeal := fun m ρ _ =>
  (θ_run Cert.ReferenceWIdeal.defs _ _).mono (fun r h => ⟨fun c => ⟨(h c).2.1, (h c).2.2⟩,
      Idealize.ShloMosaic.sem_eq_zero_of_no_sems (by decide) r.2⟩)
    (Cert.ReferenceWIdeal.Value.run (F := Ideal) m ρ)

theorem algebraicW : Cert.algebraic_KernelWIdeal_ReferenceWIdeal := by
  pair_intro
  · run_from Cert.KernelWIdeal.Gen.run_main m g
  · run_from Cert.ReferenceWIdeal.Value.run m' g'
    exact (Cert.KernelWIdeal.Value.final m c).symm

theorem frame_rX : Cert.quiescent_ReferenceXIdeal := fun m ρ _ =>
  (θ_run Cert.ReferenceXIdeal.defs _ _).mono (fun r h => ⟨fun c => ⟨(h c).2.1, (h c).2.2⟩,
      Idealize.ShloMosaic.sem_eq_zero_of_no_sems (by decide) r.2⟩)
    (Cert.ReferenceXIdeal.Value.run (F := Ideal) m ρ)

theorem algebraicX : Cert.algebraic_KernelXIdeal_ReferenceXIdeal := by
  pair_intro
  · run_from Cert.KernelXIdeal.Gen.run_main m g
  · refine θ_run_mono (Cert.ReferenceXIdeal.Value.run m' g') fun r hr c => ⟨(hr c).1.trans ?_, (hr c).2.1, (hr c).2.2⟩
    rw [(hagree c).1, (hagree c).2]
    exact (Cert.KernelXIdeal.Value.final m c).symm

theorem frame_rOY : Cert.quiescent_ReferenceOYIdeal := fun m ρ _ =>
  (θ_run Cert.ReferenceOYIdeal.defs _ _).mono (fun r h => ⟨fun c => ⟨(h c).2.1, (h c).2.2⟩,
      Idealize.ShloMosaic.sem_eq_zero_of_no_sems (by decide) r.2⟩)
    (Cert.ReferenceOYIdeal.Value.run (F := Ideal) m ρ)

theorem algebraicOY : Cert.algebraic_KernelOYIdeal_ReferenceOYIdeal := by
  pair_intro
  · run_from Cert.KernelOYIdeal.Gen.run_main m g
  · run_from Cert.ReferenceOYIdeal.Value.run m' g'
    exact (Cert.KernelOYIdeal.Value.final m c).symm

theorem frame_rOW : Cert.quiescent_ReferenceOWIdeal := fun m ρ _ =>
  (θ_run Cert.ReferenceOWIdeal.defs _ _).mono (fun r h => ⟨fun c => ⟨(h c).2.1, (h c).2.2⟩,
      Idealize.ShloMosaic.sem_eq_zero_of_no_sems (by decide) r.2⟩)
    (Cert.ReferenceOWIdeal.Value.run (F := Ideal) m ρ)

theorem algebraicOW : Cert.algebraic_KernelOWIdeal_ReferenceOWIdeal := by
  pair_intro
  · run_from Cert.KernelOWIdeal.Gen.run_main m g
  · run_from Cert.ReferenceOWIdeal.Value.run m' g'
    exact (Cert.KernelOWIdeal.Value.final m c).symm

theorem frame_rOF : Cert.quiescent_ReferenceOFIdeal := fun m ρ _ =>
  (θ_run Cert.ReferenceOFIdeal.defs _ _).mono (fun r h => ⟨fun c => ⟨(h c).2.1, (h c).2.2⟩,
      Idealize.ShloMosaic.sem_eq_zero_of_no_sems (by decide) r.2⟩)
    (Cert.ReferenceOFIdeal.Value.run (F := Ideal) m ρ)

set_option maxHeartbeats 1000000 in
theorem algebraicOF : Cert.algebraic_KernelOFIdeal_ReferenceOFIdeal := by
  pair_intro
  · run_from Cert.KernelOFIdeal.Gen.run_main m g
  · refine θ_run_mono (Cert.ReferenceOFIdeal.Value.run m' g') fun r hr c => ⟨(hr c).1.trans ?_, (hr c).2.1, (hr c).2.2⟩
    · show Cert.ReferenceOFIdeal.Value.REF0 (m' ((c.tc : Thread Cert.ReferenceOFIdeal.nD Cert.ReferenceOFIdeal.τ).loc Cert.ReferenceOFIdeal.main_arg0)) (m' ((c.tc : Thread Cert.ReferenceOFIdeal.nD Cert.ReferenceOFIdeal.τ).loc Cert.ReferenceOFIdeal.main_arg1)) = _
      rw [(hagree c).1, (hagree c).2]; exact (Cert.KernelOFIdeal.Value.final m c).symm

theorem frame_rUI : Cert.quiescent_ReferenceUIIdeal := fun m ρ _ =>
  (θ_run Cert.ReferenceUIIdeal.defs _ _).mono (fun r h => ⟨fun c => ⟨(h c).2.2.2.2.1, (h c).2.2.2.2.2.1, (h c).2.2.2.2.2.2.1, (h c).2.2.2.2.2.2.2⟩,
      Idealize.ShloMosaic.sem_eq_zero_of_no_sems (by decide) r.2⟩)
    (Cert.ReferenceUIIdeal.Value.run (F := Ideal) m ρ)

set_option maxHeartbeats 1000000 in
theorem algebraicUI : Cert.algebraic_KernelUIIdeal_ReferenceUIIdeal := by
  pair_intro
  · run_from Cert.KernelUIIdeal.Gen.run_main m g
  · refine θ_run_mono (Cert.ReferenceUIIdeal.Value.run m' g') fun r hr c => ⟨(hr c).1.trans ?_, (hr c).2.1.trans ?_, (hr c).2.2.1.trans ?_, (hr c).2.2.2.1.trans ?_, (hr c).2.2.2.2.1, (hr c).2.2.2.2.2.1, (hr c).2.2.2.2.2.2.1, (hr c).2.2.2.2.2.2.2⟩
    · show Cert.ReferenceUIIdeal.Value.REF0 (m' ((c.tc : Thread Cert.ReferenceUIIdeal.nD Cert.ReferenceUIIdeal.τ).loc Cert.ReferenceUIIdeal.main_arg0)) (m' ((c.tc : Thread Cert.ReferenceUIIdeal.nD Cert.ReferenceUIIdeal.τ).loc Cert.ReferenceUIIdeal.main_arg1)) (m' ((c.tc : Thread Cert.ReferenceUIIdeal.nD Cert.ReferenceUIIdeal.τ).loc Cert.ReferenceUIIdeal.main_arg2)) (m' ((c.tc : Thread Cert.ReferenceUIIdeal.nD Cert.ReferenceUIIdeal.τ).loc Cert.ReferenceUIIdeal.main_arg3)) = _
      rw [(hagree c).1, (hagree c).2.1, (hagree c).2.2.1, (hagree c).2.2.2]; exact (Cert.KernelUIIdeal.Value.final4 m c).symm
    · show Cert.ReferenceUIIdeal.Value.REF1 (m' ((c.tc : Thread Cert.ReferenceUIIdeal.nD Cert.ReferenceUIIdeal.τ).loc Cert.ReferenceUIIdeal.main_arg0)) (m' ((c.tc : Thread Cert.ReferenceUIIdeal.nD Cert.ReferenceUIIdeal.τ).loc Cert.ReferenceUIIdeal.main_arg1)) (m' ((c.tc : Thread Cert.ReferenceUIIdeal.nD Cert.ReferenceUIIdeal.τ).loc Cert.ReferenceUIIdeal.main_arg2)) (m' ((c.tc : Thread Cert.ReferenceUIIdeal.nD Cert.ReferenceUIIdeal.τ).loc Cert.ReferenceUIIdeal.main_arg3)) = _
      rw [(hagree c).1, (hagree c).2.1, (hagree c).2.2.1, (hagree c).2.2.2]; exact (Cert.KernelUIIdeal.Value.final5 m c).symm
    · show Cert.ReferenceUIIdeal.Value.REF2 (m' ((c.tc : Thread Cert.ReferenceUIIdeal.nD Cert.ReferenceUIIdeal.τ).loc Cert.ReferenceUIIdeal.main_arg0)) (m' ((c.tc : Thread Cert.ReferenceUIIdeal.nD Cert.ReferenceUIIdeal.τ).loc Cert.ReferenceUIIdeal.main_arg1)) (m' ((c.tc : Thread Cert.ReferenceUIIdeal.nD Cert.ReferenceUIIdeal.τ).loc Cert.ReferenceUIIdeal.main_arg2)) (m' ((c.tc : Thread Cert.ReferenceUIIdeal.nD Cert.ReferenceUIIdeal.τ).loc Cert.ReferenceUIIdeal.main_arg3)) = _
      rw [(hagree c).1, (hagree c).2.1, (hagree c).2.2.1, (hagree c).2.2.2]; exact (Cert.KernelUIIdeal.Value.final6 m c).symm
    · show Cert.ReferenceUIIdeal.Value.REF3 (m' ((c.tc : Thread Cert.ReferenceUIIdeal.nD Cert.ReferenceUIIdeal.τ).loc Cert.ReferenceUIIdeal.main_arg0)) (m' ((c.tc : Thread Cert.ReferenceUIIdeal.nD Cert.ReferenceUIIdeal.τ).loc Cert.ReferenceUIIdeal.main_arg1)) (m' ((c.tc : Thread Cert.ReferenceUIIdeal.nD Cert.ReferenceUIIdeal.τ).loc Cert.ReferenceUIIdeal.main_arg2)) (m' ((c.tc : Thread Cert.ReferenceUIIdeal.nD Cert.ReferenceUIIdeal.τ).loc Cert.ReferenceUIIdeal.main_arg3)) = _
      rw [(hagree c).1, (hagree c).2.1, (hagree c).2.2.1, (hagree c).2.2.2]; exact (Cert.KernelUIIdeal.Value.final7 m c).symm

theorem frame_rUO : Cert.quiescent_ReferenceUOIdeal := fun m ρ _ =>
  (θ_run Cert.ReferenceUOIdeal.defs _ _).mono (fun r h => ⟨fun c => ⟨(h c).2.2.2.2.1, (h c).2.2.2.2.2.1, (h c).2.2.2.2.2.2.1, (h c).2.2.2.2.2.2.2⟩,
      Idealize.ShloMosaic.sem_eq_zero_of_no_sems (by decide) r.2⟩)
    (Cert.ReferenceUOIdeal.Value.run (F := Ideal) m ρ)

set_option maxHeartbeats 1000000 in
theorem algebraicUO : Cert.algebraic_KernelUOIdeal_ReferenceUOIdeal := by
  pair_intro
  · run_from Cert.KernelUOIdeal.Gen.run_main m g
  · refine θ_run_mono (Cert.ReferenceUOIdeal.Value.run m' g') fun r hr c => ⟨(hr c).1.trans ?_, (hr c).2.1.trans ?_, (hr c).2.2.1.trans ?_, (hr c).2.2.2.1.trans ?_, (hr c).2.2.2.2.1, (hr c).2.2.2.2.2.1, (hr c).2.2.2.2.2.2.1, (hr c).2.2.2.2.2.2.2⟩
    · show Cert.ReferenceUOIdeal.Value.REF0 (m' ((c.tc : Thread Cert.ReferenceUOIdeal.nD Cert.ReferenceUOIdeal.τ).loc Cert.ReferenceUOIdeal.main_arg0)) (m' ((c.tc : Thread Cert.ReferenceUOIdeal.nD Cert.ReferenceUOIdeal.τ).loc Cert.ReferenceUOIdeal.main_arg1)) (m' ((c.tc : Thread Cert.ReferenceUOIdeal.nD Cert.ReferenceUOIdeal.τ).loc Cert.ReferenceUOIdeal.main_arg2)) (m' ((c.tc : Thread Cert.ReferenceUOIdeal.nD Cert.ReferenceUOIdeal.τ).loc Cert.ReferenceUOIdeal.main_arg3)) = _
      rw [(hagree c).1, (hagree c).2.1, (hagree c).2.2.1, (hagree c).2.2.2]; exact (Cert.KernelUOIdeal.Value.final4 m c).symm
    · show Cert.ReferenceUOIdeal.Value.REF1 (m' ((c.tc : Thread Cert.ReferenceUOIdeal.nD Cert.ReferenceUOIdeal.τ).loc Cert.ReferenceUOIdeal.main_arg0)) (m' ((c.tc : Thread Cert.ReferenceUOIdeal.nD Cert.ReferenceUOIdeal.τ).loc Cert.ReferenceUOIdeal.main_arg1)) (m' ((c.tc : Thread Cert.ReferenceUOIdeal.nD Cert.ReferenceUOIdeal.τ).loc Cert.ReferenceUOIdeal.main_arg2)) (m' ((c.tc : Thread Cert.ReferenceUOIdeal.nD Cert.ReferenceUOIdeal.τ).loc Cert.ReferenceUOIdeal.main_arg3)) = _
      rw [(hagree c).1, (hagree c).2.1, (hagree c).2.2.1, (hagree c).2.2.2]; exact (Cert.KernelUOIdeal.Value.final5 m c).symm
    · show Cert.ReferenceUOIdeal.Value.REF2 (m' ((c.tc : Thread Cert.ReferenceUOIdeal.nD Cert.ReferenceUOIdeal.τ).loc Cert.ReferenceUOIdeal.main_arg0)) (m' ((c.tc : Thread Cert.ReferenceUOIdeal.nD Cert.ReferenceUOIdeal.τ).loc Cert.ReferenceUOIdeal.main_arg1)) (m' ((c.tc : Thread Cert.ReferenceUOIdeal.nD Cert.ReferenceUOIdeal.τ).loc Cert.ReferenceUOIdeal.main_arg2)) (m' ((c.tc : Thread Cert.ReferenceUOIdeal.nD Cert.ReferenceUOIdeal.τ).loc Cert.ReferenceUOIdeal.main_arg3)) = _
      rw [(hagree c).1, (hagree c).2.1, (hagree c).2.2.1, (hagree c).2.2.2]; exact (Cert.KernelUOIdeal.Value.final6 m c).symm
    · show Cert.ReferenceUOIdeal.Value.REF3 (m' ((c.tc : Thread Cert.ReferenceUOIdeal.nD Cert.ReferenceUOIdeal.τ).loc Cert.ReferenceUOIdeal.main_arg0)) (m' ((c.tc : Thread Cert.ReferenceUOIdeal.nD Cert.ReferenceUOIdeal.τ).loc Cert.ReferenceUOIdeal.main_arg1)) (m' ((c.tc : Thread Cert.ReferenceUOIdeal.nD Cert.ReferenceUOIdeal.τ).loc Cert.ReferenceUOIdeal.main_arg2)) (m' ((c.tc : Thread Cert.ReferenceUOIdeal.nD Cert.ReferenceUOIdeal.τ).loc Cert.ReferenceUOIdeal.main_arg3)) = _
      rw [(hagree c).1, (hagree c).2.1, (hagree c).2.2.1, (hagree c).2.2.2]; exact (Cert.KernelUOIdeal.Value.final7 m c).symm

theorem frame_rS : Cert.quiescent_ReferenceSIdeal := fun m ρ _ =>
  (θ_run Cert.ReferenceSIdeal.defs _ _).mono (fun r h => ⟨fun c => ⟨(h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceSIdeal.Value.run (F := Ideal) m ρ)

set_option maxHeartbeats 1000000 in
theorem algebraicS : Cert.algebraic_KernelSIdeal_ReferenceSIdeal := by
  pair_intro
  · run_from Cert.KernelSIdeal.Gen.run_main m g
  · refine θ_run_mono (Cert.ReferenceSIdeal.Value.run m' g') fun r hr c => ⟨(hr c).1.trans ?_, (hr c).2.1.trans ?_, (hr c).2.2.1.trans ?_, (hr c).2.2.2.1.trans ?_, (hr c).2.2.2.2.1.trans ?_, (hr c).2.2.2.2.2.1, (hr c).2.2.2.2.2.2.1, (hr c).2.2.2.2.2.2.2.1, (hr c).2.2.2.2.2.2.2.2⟩
    · show Cert.ReferenceSIdeal.Value.REF0 (m' ((c.tc : Thread Cert.ReferenceSIdeal.nD Cert.ReferenceSIdeal.τ).loc Cert.ReferenceSIdeal.main_arg0)) (m' ((c.tc : Thread Cert.ReferenceSIdeal.nD Cert.ReferenceSIdeal.τ).loc Cert.ReferenceSIdeal.main_arg1)) (m' ((c.tc : Thread Cert.ReferenceSIdeal.nD Cert.ReferenceSIdeal.τ).loc Cert.ReferenceSIdeal.main_arg2)) (m' ((c.tc : Thread Cert.ReferenceSIdeal.nD Cert.ReferenceSIdeal.τ).loc Cert.ReferenceSIdeal.main_arg3)) = _
      rw [(hagree c).1, (hagree c).2.1, (hagree c).2.2.1, (hagree c).2.2.2]; exact (Cert.KernelSIdeal.Value.final4 m c).symm
    · show Cert.ReferenceSIdeal.Value.REF1 (m' ((c.tc : Thread Cert.ReferenceSIdeal.nD Cert.ReferenceSIdeal.τ).loc Cert.ReferenceSIdeal.main_arg0)) (m' ((c.tc : Thread Cert.ReferenceSIdeal.nD Cert.ReferenceSIdeal.τ).loc Cert.ReferenceSIdeal.main_arg1)) (m' ((c.tc : Thread Cert.ReferenceSIdeal.nD Cert.ReferenceSIdeal.τ).loc Cert.ReferenceSIdeal.main_arg2)) (m' ((c.tc : Thread Cert.ReferenceSIdeal.nD Cert.ReferenceSIdeal.τ).loc Cert.ReferenceSIdeal.main_arg3)) = _
      rw [(hagree c).1, (hagree c).2.1, (hagree c).2.2.1, (hagree c).2.2.2]; exact (Cert.KernelSIdeal.Value.final5 m c).symm
    · show Cert.ReferenceSIdeal.Value.REF2 (m' ((c.tc : Thread Cert.ReferenceSIdeal.nD Cert.ReferenceSIdeal.τ).loc Cert.ReferenceSIdeal.main_arg0)) (m' ((c.tc : Thread Cert.ReferenceSIdeal.nD Cert.ReferenceSIdeal.τ).loc Cert.ReferenceSIdeal.main_arg1)) (m' ((c.tc : Thread Cert.ReferenceSIdeal.nD Cert.ReferenceSIdeal.τ).loc Cert.ReferenceSIdeal.main_arg2)) (m' ((c.tc : Thread Cert.ReferenceSIdeal.nD Cert.ReferenceSIdeal.τ).loc Cert.ReferenceSIdeal.main_arg3)) = _
      rw [(hagree c).1, (hagree c).2.1, (hagree c).2.2.1, (hagree c).2.2.2]; exact (Cert.KernelSIdeal.Value.final6 m c).symm
    · show Cert.ReferenceSIdeal.Value.REF3 (m' ((c.tc : Thread Cert.ReferenceSIdeal.nD Cert.ReferenceSIdeal.τ).loc Cert.ReferenceSIdeal.main_arg0)) (m' ((c.tc : Thread Cert.ReferenceSIdeal.nD Cert.ReferenceSIdeal.τ).loc Cert.ReferenceSIdeal.main_arg1)) (m' ((c.tc : Thread Cert.ReferenceSIdeal.nD Cert.ReferenceSIdeal.τ).loc Cert.ReferenceSIdeal.main_arg2)) (m' ((c.tc : Thread Cert.ReferenceSIdeal.nD Cert.ReferenceSIdeal.τ).loc Cert.ReferenceSIdeal.main_arg3)) = _
      rw [(hagree c).1, (hagree c).2.1, (hagree c).2.2.1, (hagree c).2.2.2]; exact (Cert.KernelSIdeal.Value.final7 m c).symm
    · show Cert.ReferenceSIdeal.Value.REF4 (m' ((c.tc : Thread Cert.ReferenceSIdeal.nD Cert.ReferenceSIdeal.τ).loc Cert.ReferenceSIdeal.main_arg0)) (m' ((c.tc : Thread Cert.ReferenceSIdeal.nD Cert.ReferenceSIdeal.τ).loc Cert.ReferenceSIdeal.main_arg1)) (m' ((c.tc : Thread Cert.ReferenceSIdeal.nD Cert.ReferenceSIdeal.τ).loc Cert.ReferenceSIdeal.main_arg2)) (m' ((c.tc : Thread Cert.ReferenceSIdeal.nD Cert.ReferenceSIdeal.τ).loc Cert.ReferenceSIdeal.main_arg3)) = _
      rw [(hagree c).1, (hagree c).2.1, (hagree c).2.2.1, (hagree c).2.2.2]; exact (Cert.KernelSIdeal.Value.final8 m c).symm

theorem frame_rA : Cert.quiescent_ReferenceAIdeal := fun m ρ _ =>
  (θ_run Cert.ReferenceAIdeal.defs _ _).mono (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceAIdeal.Value.run (F := Ideal) m ρ)

set_option maxHeartbeats 1000000 in
theorem algebraicA : Cert.algebraic_KernelAIdeal_ReferenceAIdeal := by
  pair_intro
  · run_from Cert.KernelAIdeal.Gen.run_main m g
  · refine θ_run_mono (Cert.ReferenceAIdeal.Value.run m' g') fun r hr c => ⟨(hr c).1.trans ?_, (hr c).2.1.trans ?_, (hr c).2.2.1.trans ?_, (hr c).2.2.2.1.trans ?_, (hr c).2.2.2.2.1, (hr c).2.2.2.2.2.1, (hr c).2.2.2.2.2.2.1, (hr c).2.2.2.2.2.2.2.1, (hr c).2.2.2.2.2.2.2.2⟩
    · show Cert.ReferenceAIdeal.Value.REF0 (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) = _
      rw [(hagree c).1, (hagree c).2.1, (hagree c).2.2.1, (hagree c).2.2.2.1, (hagree c).2.2.2.2]; exact (Cert.KernelAIdeal.Value.final5 m c).symm
    · show Cert.ReferenceAIdeal.Value.REF1 (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) = _
      rw [(hagree c).1, (hagree c).2.1, (hagree c).2.2.1, (hagree c).2.2.2.1, (hagree c).2.2.2.2]; exact (Cert.KernelAIdeal.Value.final6 m c).symm
    · show Cert.ReferenceAIdeal.Value.REF2 (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) = _
      rw [(hagree c).1, (hagree c).2.1, (hagree c).2.2.1, (hagree c).2.2.2.1, (hagree c).2.2.2.2]; exact (Cert.KernelAIdeal.Value.final7 m c).symm
    · show Cert.ReferenceAIdeal.Value.REF3 (m' ((c.tc : Thread Cert.ReferenceAIdeal.nD Cert.ReferenceAIdeal.τ).loc Cert.ReferenceAIdeal.main_arg0)) (m' ((c.tc : Thread Cert.ReferenceAIdeal.nD Cert.ReferenceAIdeal.τ).loc Cert.ReferenceAIdeal.main_arg1)) (m' ((c.tc : Thread Cert.ReferenceAIdeal.nD Cert.ReferenceAIdeal.τ).loc Cert.ReferenceAIdeal.main_arg2)) (m' ((c.tc : Thread Cert.ReferenceAIdeal.nD Cert.ReferenceAIdeal.τ).loc Cert.ReferenceAIdeal.main_arg3)) (m' ((c.tc : Thread Cert.ReferenceAIdeal.nD Cert.ReferenceAIdeal.τ).loc Cert.ReferenceAIdeal.main_arg4)) = _
      rw [(hagree c).1, (hagree c).2.1, (hagree c).2.2.1, (hagree c).2.2.2.1, (hagree c).2.2.2.2]; exact (Cert.KernelAIdeal.Value.final8 m c).symm

/-! ## The forward in-projection's calls: the table each prefetches is the constant zero, so its side condition holds. -/

theorem okFO (m : (ℓ : Loc Cert.KernelFO.nD Cert.KernelFO.τ Cert.KernelFO.sig) → Buf (Elt Bits) ℓ) : Cert.KernelFO.Gen.Ok m := by
  have h : Cert.KernelFO.Gen.tbl m = fun | ⟨0, _⟩ => fun _ => 0#32 | ⟨_ + 1, h⟩ => absurd h (by simp) := by
    funext j x
    match j with
    | ⟨0, _⟩ => rfl
  unfold Cert.KernelFO.Gen.Ok
  rw [h]
  decide +kernel

theorem frame_rFO : Cert.quiescent_ReferenceFOIdeal := fun m ρ _ =>
  (θ_run Cert.ReferenceFOIdeal.defs _ _).mono (fun r h => ⟨fun c => ⟨(h c).2.1, (h c).2.2⟩,
      Idealize.ShloMosaic.sem_eq_zero_of_no_sems (by decide) r.2⟩)
    (Cert.ReferenceFOIdeal.Value.run (F := Ideal) m ρ)

set_option maxHeartbeats 1000000 in
theorem algebraicFO : Cert.algebraic_KernelFOIdeal_ReferenceFOIdeal := by
  intro m g m' g' _ hagree
  refine ⟨fun c => Cert.ReferenceFOIdeal.Value.REF0 (m ((c.tc : Thread Cert.KernelFOIdeal.nD Cert.KernelFOIdeal.τ).loc Cert.KernelFOIdeal.main_arg0)) (m ((c.tc : Thread Cert.KernelFOIdeal.nD Cert.KernelFOIdeal.τ).loc Cert.KernelFOIdeal.main_arg1)), ?_, ?_⟩
  · refine θ_run_mono (θ_run_and (Cert.KernelFOIdeal.Gen.run_main m g (Cert.KernelFOIdeal.Value.ok m)) (Cert.KernelFOIdeal.Gen.unchanged m g (Cert.KernelFOIdeal.Value.ok m)))
      fun r hr c => ⟨((hr.1 c).2 Cert.KernelFOIdeal.main_v2 (show _ ∈ Pipeline.restRefs Cert.KernelFOIdeal.sig Cert.KernelFOIdeal.spec0 by decide)).trans
        ((Cert.KernelFOIdeal.Value.tail m (Cert.KernelFOIdeal.Value.ok m) c _ rfl).trans (Cert.KernelFOIdeal.Value.final m (Cert.KernelFOIdeal.Value.ok m) c _ rfl)), hr.2 c⟩
  · refine θ_run_mono (Cert.ReferenceFOIdeal.Value.run m' g') fun r hr c => ⟨(hr c).1.trans ?_, (hr c).2.1, (hr c).2.2⟩
    · show Cert.ReferenceFOIdeal.Value.REF0 (m' ((c.tc : Thread Cert.ReferenceFOIdeal.nD Cert.ReferenceFOIdeal.τ).loc Cert.ReferenceFOIdeal.main_arg0)) (m' ((c.tc : Thread Cert.ReferenceFOIdeal.nD Cert.ReferenceFOIdeal.τ).loc Cert.ReferenceFOIdeal.main_arg1)) = _
      rw [(hagree c).1, (hagree c).2]

theorem okFN (m : (ℓ : Loc Cert.KernelFN.nD Cert.KernelFN.τ Cert.KernelFN.sig) → Buf (Elt Bits) ℓ) : Cert.KernelFN.Gen.Ok m := by
  have h : Cert.KernelFN.Gen.tbl m = fun | ⟨0, _⟩ => fun _ => 0#32 | ⟨_ + 1, h⟩ => absurd h (by simp) := by
    funext j x
    match j with
    | ⟨0, _⟩ => rfl
  unfold Cert.KernelFN.Gen.Ok
  rw [h]
  decide +kernel

theorem frame_rFN : Cert.quiescent_ReferenceFNIdeal := fun m ρ _ =>
  (θ_run Cert.ReferenceFNIdeal.defs _ _).mono (fun r h => ⟨fun c => ⟨(h c).2.1, (h c).2.2.1, (h c).2.2.2⟩,
      Idealize.ShloMosaic.sem_eq_zero_of_no_sems (by decide) r.2⟩)
    (Cert.ReferenceFNIdeal.Value.run (F := Ideal) m ρ)

set_option maxHeartbeats 1000000 in
theorem algebraicFN : Cert.algebraic_KernelFNIdeal_ReferenceFNIdeal := by
  intro m g m' g' _ hagree
  refine ⟨fun c => Cert.ReferenceFNIdeal.Value.REF0 (m ((c.tc : Thread Cert.KernelFNIdeal.nD Cert.KernelFNIdeal.τ).loc Cert.KernelFNIdeal.main_arg0)) (m ((c.tc : Thread Cert.KernelFNIdeal.nD Cert.KernelFNIdeal.τ).loc Cert.KernelFNIdeal.main_arg1)) (m ((c.tc : Thread Cert.KernelFNIdeal.nD Cert.KernelFNIdeal.τ).loc Cert.KernelFNIdeal.main_arg2)), ?_, ?_⟩
  · exact θ_run_mono (θ_run_and (Cert.KernelFNIdeal.Gen.run_main m g (Cert.KernelFNIdeal.Value.ok m)) (Cert.KernelFNIdeal.Gen.unchanged m g (Cert.KernelFNIdeal.Value.ok m)))
      fun r hr c => ⟨show r.2.mem ((c.tc : Thread Cert.KernelFNIdeal.nD Cert.KernelFNIdeal.τ).loc Cert.KernelFNIdeal.main_v1) = Cert.ReferenceFNIdeal.Value.REF0 (m ((c.tc : Thread Cert.KernelFNIdeal.nD Cert.KernelFNIdeal.τ).loc Cert.KernelFNIdeal.main_arg0)) (m ((c.tc : Thread Cert.KernelFNIdeal.nD Cert.KernelFNIdeal.τ).loc Cert.KernelFNIdeal.main_arg1)) (m ((c.tc : Thread Cert.KernelFNIdeal.nD Cert.KernelFNIdeal.τ).loc Cert.KernelFNIdeal.main_arg2)) from
        ((hr.1 c).1 2).trans (Cert.KernelFNIdeal.Value.final m (Cert.KernelFNIdeal.Value.ok m) c), hr.2 c⟩
  · refine θ_run_mono (Cert.ReferenceFNIdeal.Value.run m' g') fun r hr c => ⟨(hr c).1.trans ?_, (hr c).2.1, (hr c).2.2.1, (hr c).2.2.2⟩
    · show Cert.ReferenceFNIdeal.Value.REF0 (m' ((c.tc : Thread Cert.ReferenceFNIdeal.nD Cert.ReferenceFNIdeal.τ).loc Cert.ReferenceFNIdeal.main_arg0)) (m' ((c.tc : Thread Cert.ReferenceFNIdeal.nD Cert.ReferenceFNIdeal.τ).loc Cert.ReferenceFNIdeal.main_arg1)) (m' ((c.tc : Thread Cert.ReferenceFNIdeal.nD Cert.ReferenceFNIdeal.τ).loc Cert.ReferenceFNIdeal.main_arg2)) = _
      rw [(hagree c).1, (hagree c).2.1, (hagree c).2.2]

theorem okFD (m : (ℓ : Loc Cert.KernelFD.nD Cert.KernelFD.τ Cert.KernelFD.sig) → Buf (Elt Bits) ℓ) : Cert.KernelFD.Gen.Ok m := by
  have h : Cert.KernelFD.Gen.tbl m = fun | ⟨0, _⟩ => fun _ => 0#32 | ⟨_ + 1, h⟩ => absurd h (by simp) := by
    funext j x
    match j with
    | ⟨0, _⟩ => rfl
  unfold Cert.KernelFD.Gen.Ok
  rw [h]
  decide +kernel

theorem frame_rFD : Cert.quiescent_ReferenceFDIdeal := fun m ρ _ =>
  (θ_run Cert.ReferenceFDIdeal.defs _ _).mono (fun r h => ⟨fun c => ⟨(h c).2.1, (h c).2.2.1, (h c).2.2.2⟩,
      Idealize.ShloMosaic.sem_eq_zero_of_no_sems (by decide) r.2⟩)
    (Cert.ReferenceFDIdeal.Value.run (F := Ideal) m ρ)

set_option maxHeartbeats 1000000 in
theorem algebraicFD : Cert.algebraic_KernelFDIdeal_ReferenceFDIdeal := by
  intro m g m' g' _ hagree
  refine ⟨fun c => Cert.ReferenceFDIdeal.Value.REF0 (m ((c.tc : Thread Cert.KernelFDIdeal.nD Cert.KernelFDIdeal.τ).loc Cert.KernelFDIdeal.main_arg0)) (m ((c.tc : Thread Cert.KernelFDIdeal.nD Cert.KernelFDIdeal.τ).loc Cert.KernelFDIdeal.main_arg1)) (m ((c.tc : Thread Cert.KernelFDIdeal.nD Cert.KernelFDIdeal.τ).loc Cert.KernelFDIdeal.main_arg2)), ?_, ?_⟩
  · exact θ_run_mono (θ_run_and (Cert.KernelFDIdeal.Gen.run_main m g (Cert.KernelFDIdeal.Value.ok m)) (Cert.KernelFDIdeal.Gen.unchanged m g (Cert.KernelFDIdeal.Value.ok m)))
      fun r hr c => ⟨show r.2.mem ((c.tc : Thread Cert.KernelFDIdeal.nD Cert.KernelFDIdeal.τ).loc Cert.KernelFDIdeal.main_v1) = Cert.ReferenceFDIdeal.Value.REF0 (m ((c.tc : Thread Cert.KernelFDIdeal.nD Cert.KernelFDIdeal.τ).loc Cert.KernelFDIdeal.main_arg0)) (m ((c.tc : Thread Cert.KernelFDIdeal.nD Cert.KernelFDIdeal.τ).loc Cert.KernelFDIdeal.main_arg1)) (m ((c.tc : Thread Cert.KernelFDIdeal.nD Cert.KernelFDIdeal.τ).loc Cert.KernelFDIdeal.main_arg2)) from
        ((hr.1 c).1 2).trans (Cert.KernelFDIdeal.Value.final m (Cert.KernelFDIdeal.Value.ok m) c), hr.2 c⟩
  · refine θ_run_mono (Cert.ReferenceFDIdeal.Value.run m' g') fun r hr c => ⟨(hr c).1.trans ?_, (hr c).2.1, (hr c).2.2.1, (hr c).2.2.2⟩
    · show Cert.ReferenceFDIdeal.Value.REF0 (m' ((c.tc : Thread Cert.ReferenceFDIdeal.nD Cert.ReferenceFDIdeal.τ).loc Cert.ReferenceFDIdeal.main_arg0)) (m' ((c.tc : Thread Cert.ReferenceFDIdeal.nD Cert.ReferenceFDIdeal.τ).loc Cert.ReferenceFDIdeal.main_arg1)) (m' ((c.tc : Thread Cert.ReferenceFDIdeal.nD Cert.ReferenceFDIdeal.τ).loc Cert.ReferenceFDIdeal.main_arg2)) = _
      rw [(hagree c).1, (hagree c).2.1, (hagree c).2.2]

theorem frame_rM : Cert.quiescent_ReferenceMIdeal := fun m ρ _ =>
  (θ_run Cert.ReferenceMIdeal.defs _ _).mono (fun r h => ⟨fun c => ⟨(h c).2.1, (h c).2.2.1, (h c).2.2.2⟩,
      Idealize.ShloMosaic.sem_eq_zero_of_no_sems (by decide) r.2⟩)
    (Cert.ReferenceMIdeal.Value.run (F := Ideal) m ρ)

set_option maxHeartbeats 1000000 in
theorem algebraicM : Cert.algebraic_KernelMIdeal_ReferenceMIdeal := by
  pair_intro
  · run_from Cert.KernelMIdeal.Gen.run_main m g
  · refine θ_run_mono (Cert.ReferenceMIdeal.Value.run m' g') fun r hr c => ⟨(hr c).1.trans ?_, (hr c).2.1, (hr c).2.2.1, (hr c).2.2.2⟩
    · show Cert.ReferenceMIdeal.Value.REF0 (m' ((c.tc : Thread Cert.ReferenceMIdeal.nD Cert.ReferenceMIdeal.τ).loc Cert.ReferenceMIdeal.main_arg0)) (m' ((c.tc : Thread Cert.ReferenceMIdeal.nD Cert.ReferenceMIdeal.τ).loc Cert.ReferenceMIdeal.main_arg1)) (m' ((c.tc : Thread Cert.ReferenceMIdeal.nD Cert.ReferenceMIdeal.τ).loc Cert.ReferenceMIdeal.main_arg2)) = _
      rw [(hagree c).1, (hagree c).2.1, (hagree c).2.2]; exact (Cert.KernelMIdeal.Value.final m c).symm

theorem frame_rN : Cert.quiescent_ReferenceNIdeal := fun m ρ _ =>
  (θ_run Cert.ReferenceNIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.ReferenceNIdeal.Value.run (F := Ideal) m ρ)

set_option maxHeartbeats 1000000 in
theorem algebraicN : Cert.algebraic_KernelNIdeal_ReferenceNIdeal := by
  pair_intro
  · run_from Cert.KernelNIdeal.Gen.run_main m g
  · refine θ_run_mono (Cert.ReferenceNIdeal.Value.run m' g') fun r hr c => ⟨(hr c).1.trans ?_, (hr c).2.1, (hr c).2.2.1, (hr c).2.2.2.1, (hr c).2.2.2.2⟩
    · show Cert.ReferenceNIdeal.Value.REF0 (m' ((c.tc : Thread Cert.ReferenceNIdeal.nD Cert.ReferenceNIdeal.τ).loc Cert.ReferenceNIdeal.main_arg0)) (m' ((c.tc : Thread Cert.ReferenceNIdeal.nD Cert.ReferenceNIdeal.τ).loc Cert.ReferenceNIdeal.main_arg1)) (m' ((c.tc : Thread Cert.ReferenceNIdeal.nD Cert.ReferenceNIdeal.τ).loc Cert.ReferenceNIdeal.main_arg2)) (m' ((c.tc : Thread Cert.ReferenceNIdeal.nD Cert.ReferenceNIdeal.τ).loc Cert.ReferenceNIdeal.main_arg3)) = _
      rw [(hagree c).1, (hagree c).2.1, (hagree c).2.2.1, (hagree c).2.2.2]; exact (Cert.KernelNIdeal.Value.final m c).symm

theorem frame_rG : Cert.quiescent_ReferenceGIdeal := fun m ρ _ =>
  (θ_run Cert.ReferenceGIdeal.defs _ _).mono (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceGIdeal.Value.run (F := Ideal) m ρ)

set_option maxHeartbeats 1000000 in
theorem algebraicG : Cert.algebraic_KernelGIdeal_ReferenceGIdeal := by
  pair_intro
  · run_from Cert.KernelGIdeal.Gen.run_main m g
  · refine θ_run_mono (Cert.ReferenceGIdeal.Value.run m' g') fun r hr c => ⟨(hr c).1.trans ?_, (hr c).2.1.trans ?_, (hr c).2.2.1.trans ?_, (hr c).2.2.2.1.trans ?_, (hr c).2.2.2.2.1, (hr c).2.2.2.2.2.1, (hr c).2.2.2.2.2.2.1, (hr c).2.2.2.2.2.2.2.1, (hr c).2.2.2.2.2.2.2.2⟩
    · show Cert.ReferenceGIdeal.Value.REF0 (m' ((c.tc : Thread Cert.ReferenceGIdeal.nD Cert.ReferenceGIdeal.τ).loc Cert.ReferenceGIdeal.main_arg0)) (m' ((c.tc : Thread Cert.ReferenceGIdeal.nD Cert.ReferenceGIdeal.τ).loc Cert.ReferenceGIdeal.main_arg1)) (m' ((c.tc : Thread Cert.ReferenceGIdeal.nD Cert.ReferenceGIdeal.τ).loc Cert.ReferenceGIdeal.main_arg2)) (m' ((c.tc : Thread Cert.ReferenceGIdeal.nD Cert.ReferenceGIdeal.τ).loc Cert.ReferenceGIdeal.main_arg3)) (m' ((c.tc : Thread Cert.ReferenceGIdeal.nD Cert.ReferenceGIdeal.τ).loc Cert.ReferenceGIdeal.main_arg4)) = _
      rw [(hagree c).1, (hagree c).2.1, (hagree c).2.2.1, (hagree c).2.2.2.1, (hagree c).2.2.2.2]; exact (Cert.KernelGIdeal.Value.final5 m c).symm
    · show Cert.ReferenceGIdeal.Value.REF1 (m' ((c.tc : Thread Cert.ReferenceGIdeal.nD Cert.ReferenceGIdeal.τ).loc Cert.ReferenceGIdeal.main_arg0)) (m' ((c.tc : Thread Cert.ReferenceGIdeal.nD Cert.ReferenceGIdeal.τ).loc Cert.ReferenceGIdeal.main_arg1)) (m' ((c.tc : Thread Cert.ReferenceGIdeal.nD Cert.ReferenceGIdeal.τ).loc Cert.ReferenceGIdeal.main_arg2)) (m' ((c.tc : Thread Cert.ReferenceGIdeal.nD Cert.ReferenceGIdeal.τ).loc Cert.ReferenceGIdeal.main_arg3)) (m' ((c.tc : Thread Cert.ReferenceGIdeal.nD Cert.ReferenceGIdeal.τ).loc Cert.ReferenceGIdeal.main_arg4)) = _
      rw [(hagree c).1, (hagree c).2.1, (hagree c).2.2.1, (hagree c).2.2.2.1, (hagree c).2.2.2.2]; exact (Cert.KernelGIdeal.Value.final6 m c).symm
    · show Cert.ReferenceGIdeal.Value.REF2 (m' ((c.tc : Thread Cert.ReferenceGIdeal.nD Cert.ReferenceGIdeal.τ).loc Cert.ReferenceGIdeal.main_arg0)) (m' ((c.tc : Thread Cert.ReferenceGIdeal.nD Cert.ReferenceGIdeal.τ).loc Cert.ReferenceGIdeal.main_arg1)) (m' ((c.tc : Thread Cert.ReferenceGIdeal.nD Cert.ReferenceGIdeal.τ).loc Cert.ReferenceGIdeal.main_arg2)) (m' ((c.tc : Thread Cert.ReferenceGIdeal.nD Cert.ReferenceGIdeal.τ).loc Cert.ReferenceGIdeal.main_arg3)) (m' ((c.tc : Thread Cert.ReferenceGIdeal.nD Cert.ReferenceGIdeal.τ).loc Cert.ReferenceGIdeal.main_arg4)) = _
      rw [(hagree c).1, (hagree c).2.1, (hagree c).2.2.1, (hagree c).2.2.2.1, (hagree c).2.2.2.2]; exact (Cert.KernelGIdeal.Value.final7 m c).symm
    · show Cert.ReferenceGIdeal.Value.REF3 (m' ((c.tc : Thread Cert.ReferenceGIdeal.nD Cert.ReferenceGIdeal.τ).loc Cert.ReferenceGIdeal.main_arg0)) (m' ((c.tc : Thread Cert.ReferenceGIdeal.nD Cert.ReferenceGIdeal.τ).loc Cert.ReferenceGIdeal.main_arg1)) (m' ((c.tc : Thread Cert.ReferenceGIdeal.nD Cert.ReferenceGIdeal.τ).loc Cert.ReferenceGIdeal.main_arg2)) (m' ((c.tc : Thread Cert.ReferenceGIdeal.nD Cert.ReferenceGIdeal.τ).loc Cert.ReferenceGIdeal.main_arg3)) (m' ((c.tc : Thread Cert.ReferenceGIdeal.nD Cert.ReferenceGIdeal.τ).loc Cert.ReferenceGIdeal.main_arg4)) = _
      rw [(hagree c).1, (hagree c).2.1, (hagree c).2.2.1, (hagree c).2.2.2.1, (hagree c).2.2.2.2]; exact (Cert.KernelGIdeal.Value.final8 m c).symm

theorem frame_rL : Cert.quiescent_ReferenceLIdeal := fun m ρ _ =>
  (θ_run Cert.ReferenceLIdeal.defs _ _).mono (fun r h => ⟨fun c => ⟨(h c).2.2.2.2.2.1, (h c).2.2.2.2.2.2.1, (h c).2.2.2.2.2.2.2.1, (h c).2.2.2.2.2.2.2.2.1, (h c).2.2.2.2.2.2.2.2.2⟩,
      Idealize.ShloMosaic.sem_eq_zero_of_no_sems (by decide) r.2⟩)
    (Cert.ReferenceLIdeal.Value.run (F := Ideal) m ρ)

set_option maxHeartbeats 1000000 in
theorem algebraicL : Cert.algebraic_KernelLIdeal_ReferenceLIdeal := by
  pair_intro
  · run_from Cert.KernelLIdeal.Gen.run_main m g
  · refine θ_run_mono (Cert.ReferenceLIdeal.Value.run m' g') fun r hr c => ⟨(hr c).1.trans ?_, (hr c).2.1.trans ?_, (hr c).2.2.1.trans ?_, (hr c).2.2.2.1.trans ?_, (hr c).2.2.2.2.1.trans ?_, (hr c).2.2.2.2.2.1, (hr c).2.2.2.2.2.2.1, (hr c).2.2.2.2.2.2.2.1, (hr c).2.2.2.2.2.2.2.2.1, (hr c).2.2.2.2.2.2.2.2.2⟩
    · show Cert.ReferenceLIdeal.Value.REF0 (m' ((c.tc : Thread Cert.ReferenceLIdeal.nD Cert.ReferenceLIdeal.τ).loc Cert.ReferenceLIdeal.main_arg0)) (m' ((c.tc : Thread Cert.ReferenceLIdeal.nD Cert.ReferenceLIdeal.τ).loc Cert.ReferenceLIdeal.main_arg1)) (m' ((c.tc : Thread Cert.ReferenceLIdeal.nD Cert.ReferenceLIdeal.τ).loc Cert.ReferenceLIdeal.main_arg2)) (m' ((c.tc : Thread Cert.ReferenceLIdeal.nD Cert.ReferenceLIdeal.τ).loc Cert.ReferenceLIdeal.main_arg3)) (m' ((c.tc : Thread Cert.ReferenceLIdeal.nD Cert.ReferenceLIdeal.τ).loc Cert.ReferenceLIdeal.main_arg4)) = _
      rw [(hagree c).1, (hagree c).2.1, (hagree c).2.2.1, (hagree c).2.2.2.1, (hagree c).2.2.2.2]; exact (Cert.KernelLIdeal.Value.final5 m c).symm
    · show Cert.ReferenceLIdeal.Value.REF1 (m' ((c.tc : Thread Cert.ReferenceLIdeal.nD Cert.ReferenceLIdeal.τ).loc Cert.ReferenceLIdeal.main_arg0)) (m' ((c.tc : Thread Cert.ReferenceLIdeal.nD Cert.ReferenceLIdeal.τ).loc Cert.ReferenceLIdeal.main_arg1)) (m' ((c.tc : Thread Cert.ReferenceLIdeal.nD Cert.ReferenceLIdeal.τ).loc Cert.ReferenceLIdeal.main_arg2)) (m' ((c.tc : Thread Cert.ReferenceLIdeal.nD Cert.ReferenceLIdeal.τ).loc Cert.ReferenceLIdeal.main_arg3)) (m' ((c.tc : Thread Cert.ReferenceLIdeal.nD Cert.ReferenceLIdeal.τ).loc Cert.ReferenceLIdeal.main_arg4)) = _
      rw [(hagree c).1, (hagree c).2.1, (hagree c).2.2.1, (hagree c).2.2.2.1, (hagree c).2.2.2.2]; exact (Cert.KernelLIdeal.Value.final6 m c).symm
    · show Cert.ReferenceLIdeal.Value.REF2 (m' ((c.tc : Thread Cert.ReferenceLIdeal.nD Cert.ReferenceLIdeal.τ).loc Cert.ReferenceLIdeal.main_arg0)) (m' ((c.tc : Thread Cert.ReferenceLIdeal.nD Cert.ReferenceLIdeal.τ).loc Cert.ReferenceLIdeal.main_arg1)) (m' ((c.tc : Thread Cert.ReferenceLIdeal.nD Cert.ReferenceLIdeal.τ).loc Cert.ReferenceLIdeal.main_arg2)) (m' ((c.tc : Thread Cert.ReferenceLIdeal.nD Cert.ReferenceLIdeal.τ).loc Cert.ReferenceLIdeal.main_arg3)) (m' ((c.tc : Thread Cert.ReferenceLIdeal.nD Cert.ReferenceLIdeal.τ).loc Cert.ReferenceLIdeal.main_arg4)) = _
      rw [(hagree c).1, (hagree c).2.1, (hagree c).2.2.1, (hagree c).2.2.2.1, (hagree c).2.2.2.2]; exact (Cert.KernelLIdeal.Value.final7 m c).symm
    · show Cert.ReferenceLIdeal.Value.REF3 (m' ((c.tc : Thread Cert.ReferenceLIdeal.nD Cert.ReferenceLIdeal.τ).loc Cert.ReferenceLIdeal.main_arg0)) (m' ((c.tc : Thread Cert.ReferenceLIdeal.nD Cert.ReferenceLIdeal.τ).loc Cert.ReferenceLIdeal.main_arg1)) (m' ((c.tc : Thread Cert.ReferenceLIdeal.nD Cert.ReferenceLIdeal.τ).loc Cert.ReferenceLIdeal.main_arg2)) (m' ((c.tc : Thread Cert.ReferenceLIdeal.nD Cert.ReferenceLIdeal.τ).loc Cert.ReferenceLIdeal.main_arg3)) (m' ((c.tc : Thread Cert.ReferenceLIdeal.nD Cert.ReferenceLIdeal.τ).loc Cert.ReferenceLIdeal.main_arg4)) = _
      rw [(hagree c).1, (hagree c).2.1, (hagree c).2.2.1, (hagree c).2.2.2.1, (hagree c).2.2.2.2]; exact (Cert.KernelLIdeal.Value.final8 m c).symm
    · show Cert.ReferenceLIdeal.Value.REF4 (m' ((c.tc : Thread Cert.ReferenceLIdeal.nD Cert.ReferenceLIdeal.τ).loc Cert.ReferenceLIdeal.main_arg0)) (m' ((c.tc : Thread Cert.ReferenceLIdeal.nD Cert.ReferenceLIdeal.τ).loc Cert.ReferenceLIdeal.main_arg1)) (m' ((c.tc : Thread Cert.ReferenceLIdeal.nD Cert.ReferenceLIdeal.τ).loc Cert.ReferenceLIdeal.main_arg2)) (m' ((c.tc : Thread Cert.ReferenceLIdeal.nD Cert.ReferenceLIdeal.τ).loc Cert.ReferenceLIdeal.main_arg3)) (m' ((c.tc : Thread Cert.ReferenceLIdeal.nD Cert.ReferenceLIdeal.τ).loc Cert.ReferenceLIdeal.main_arg4)) = _
      rw [(hagree c).1, (hagree c).2.1, (hagree c).2.2.1, (hagree c).2.2.2.1, (hagree c).2.2.2.2]; exact (Cert.KernelLIdeal.Value.final9 m c).symm

theorem okC (m : (ℓ : Loc Cert.KernelC.nD Cert.KernelC.τ Cert.KernelC.sig) → Buf (Elt Bits) ℓ) : Cert.KernelC.Gen.Ok m := by
  have h : Cert.KernelC.Gen.tbl m = fun | ⟨0, _⟩ => fun _ => 0#32 | ⟨_ + 1, h⟩ => absurd h (by simp) := by
    funext j x
    match j with
    | ⟨0, _⟩ => rfl
  unfold Cert.KernelC.Gen.Ok
  rw [h]
  decide +kernel

theorem frame_rC : Cert.quiescent_ReferenceCIdeal := fun m ρ _ =>
  (θ_run Cert.ReferenceCIdeal.defs _ _).mono (fun r h => ⟨fun c => ⟨(h c).2.1, (h c).2.2⟩,
      Idealize.ShloMosaic.sem_eq_zero_of_no_sems (by decide) r.2⟩)
    (Cert.ReferenceCIdeal.Value.run (F := Ideal) m ρ)

set_option maxHeartbeats 1000000 in
theorem algebraicC : Cert.algebraic_KernelCIdeal_ReferenceCIdeal := by
  intro m g m' g' _ hagree
  refine ⟨fun c => Cert.ReferenceCIdeal.Value.REF0 (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)), ?_, ?_⟩
  · refine θ_run_mono (θ_run_and (Cert.KernelCIdeal.Gen.run_main m g (Cert.KernelCIdeal.Value.ok m)) (Cert.KernelCIdeal.Gen.unchanged m g (Cert.KernelCIdeal.Value.ok m)))
      fun r hr c => ⟨((hr.1 c).2 Cert.KernelCIdeal.main_v2 (show _ ∈ Pipeline.restRefs Cert.KernelCIdeal.sig Cert.KernelCIdeal.spec0 by decide)).trans
        ((Cert.KernelCIdeal.Value.tail m (Cert.KernelCIdeal.Value.ok m) c _ rfl).trans (Cert.KernelCIdeal.Value.final m (Cert.KernelCIdeal.Value.ok m) c _ rfl)), hr.2 c⟩
  · refine θ_run_mono (Cert.ReferenceCIdeal.Value.run m' g') fun r hr c => ⟨(hr c).1.trans ?_, (hr c).2.1, (hr c).2.2⟩
    · show Cert.ReferenceCIdeal.Value.REF0 (m' ((c.tc : Thread Cert.ReferenceCIdeal.nD Cert.ReferenceCIdeal.τ).loc Cert.ReferenceCIdeal.main_arg0)) (m' ((c.tc : Thread Cert.ReferenceCIdeal.nD Cert.ReferenceCIdeal.τ).loc Cert.ReferenceCIdeal.main_arg1)) = _
      rw [(hagree c).1, (hagree c).2]

theorem okCO (m : (ℓ : Loc Cert.KernelCO.nD Cert.KernelCO.τ Cert.KernelCO.sig) → Buf (Elt Bits) ℓ) : Cert.KernelCO.Gen.Ok m := by
  have h : Cert.KernelCO.Gen.tbl m = fun | ⟨0, _⟩ => fun _ => 0#32 | ⟨_ + 1, h⟩ => absurd h (by simp) := by
    funext j x
    match j with
    | ⟨0, _⟩ => rfl
  unfold Cert.KernelCO.Gen.Ok
  rw [h]
  decide +kernel

theorem frame_rCO : Cert.quiescent_ReferenceCOIdeal := fun m ρ _ =>
  (θ_run Cert.ReferenceCOIdeal.defs _ _).mono (fun r h => ⟨fun c => ⟨(h c).2.1, (h c).2.2⟩,
      Idealize.ShloMosaic.sem_eq_zero_of_no_sems (by decide) r.2⟩)
    (Cert.ReferenceCOIdeal.Value.run (F := Ideal) m ρ)

set_option maxHeartbeats 1000000 in
theorem algebraicCO : Cert.algebraic_KernelCOIdeal_ReferenceCOIdeal := by
  intro m g m' g' _ hagree
  refine ⟨fun c => Cert.ReferenceCOIdeal.Value.REF0 (m ((c.tc : Thread Cert.KernelCOIdeal.nD Cert.KernelCOIdeal.τ).loc Cert.KernelCOIdeal.main_arg0)) (m ((c.tc : Thread Cert.KernelCOIdeal.nD Cert.KernelCOIdeal.τ).loc Cert.KernelCOIdeal.main_arg1)), ?_, ?_⟩
  · refine θ_run_mono (θ_run_and (Cert.KernelCOIdeal.Gen.run_main m g (Cert.KernelCOIdeal.Value.ok m)) (Cert.KernelCOIdeal.Gen.unchanged m g (Cert.KernelCOIdeal.Value.ok m)))
      fun r hr c => ⟨((hr.1 c).2 Cert.KernelCOIdeal.main_v2 (show _ ∈ Pipeline.restRefs Cert.KernelCOIdeal.sig Cert.KernelCOIdeal.spec0 by decide)).trans
        ((Cert.KernelCOIdeal.Value.tail m (Cert.KernelCOIdeal.Value.ok m) c _ rfl).trans (Cert.KernelCOIdeal.Value.final m (Cert.KernelCOIdeal.Value.ok m) c _ rfl)), hr.2 c⟩
  · refine θ_run_mono (Cert.ReferenceCOIdeal.Value.run m' g') fun r hr c => ⟨(hr c).1.trans ?_, (hr c).2.1, (hr c).2.2⟩
    · show Cert.ReferenceCOIdeal.Value.REF0 (m' ((c.tc : Thread Cert.ReferenceCOIdeal.nD Cert.ReferenceCOIdeal.τ).loc Cert.ReferenceCOIdeal.main_arg0)) (m' ((c.tc : Thread Cert.ReferenceCOIdeal.nD Cert.ReferenceCOIdeal.τ).loc Cert.ReferenceCOIdeal.main_arg1)) = _
      rw [(hagree c).1, (hagree c).2]

theorem claim : Cert.Claim := ⟨Cert.Kernel.Gen.facts, Cert.KernelIdeal.Gen.facts, Cert.ReferenceIdeal.Gen.facts, Cert.KernelW.Gen.facts, Cert.KernelWIdeal.Gen.facts, Cert.ReferenceWIdeal.Gen.facts, Cert.KernelX.Gen.facts, Cert.KernelXIdeal.Gen.facts, Cert.ReferenceXIdeal.Gen.facts, Cert.KernelOY.Gen.facts, Cert.KernelOYIdeal.Gen.facts, Cert.ReferenceOYIdeal.Gen.facts, Cert.KernelOW.Gen.facts, Cert.KernelOWIdeal.Gen.facts, Cert.ReferenceOWIdeal.Gen.facts, Cert.KernelOF.Gen.facts, Cert.KernelOFIdeal.Gen.facts, Cert.ReferenceOFIdeal.Gen.facts, Cert.KernelUI.Gen.facts, Cert.KernelUIIdeal.Gen.facts, Cert.ReferenceUIIdeal.Gen.facts, Cert.KernelUO.Gen.facts, Cert.KernelUOIdeal.Gen.facts, Cert.ReferenceUOIdeal.Gen.facts, Cert.KernelS.Gen.facts, Cert.KernelSIdeal.Gen.facts, Cert.ReferenceSIdeal.Gen.facts, Cert.KernelA.Gen.facts, Cert.KernelAIdeal.Gen.facts, Cert.ReferenceAIdeal.Gen.facts, Cert.KernelFO.Gen.facts, Cert.KernelFOIdeal.Gen.facts, Cert.ReferenceFOIdeal.Gen.facts, Cert.KernelFN.Gen.facts, Cert.KernelFNIdeal.Gen.facts, Cert.ReferenceFNIdeal.Gen.facts, Cert.KernelFD.Gen.facts, Cert.KernelFDIdeal.Gen.facts, Cert.ReferenceFDIdeal.Gen.facts, Cert.KernelM.Gen.facts, Cert.KernelMIdeal.Gen.facts, Cert.ReferenceMIdeal.Gen.facts, Cert.KernelN.Gen.facts, Cert.KernelNIdeal.Gen.facts, Cert.ReferenceNIdeal.Gen.facts, Cert.KernelG.Gen.facts, Cert.KernelGIdeal.Gen.facts, Cert.ReferenceGIdeal.Gen.facts, Cert.KernelL.Gen.facts, Cert.KernelLIdeal.Gen.facts, Cert.ReferenceLIdeal.Gen.facts, Cert.KernelC.Gen.facts, Cert.KernelCIdeal.Gen.facts, Cert.ReferenceCIdeal.Gen.facts, Cert.KernelCO.Gen.facts, Cert.KernelCOIdeal.Gen.facts, Cert.ReferenceCOIdeal.Gen.facts,
  fun m ρ _ => Cert.Proof.Kernel.frameF m ρ, fun m ρ _ => Cert.Proof.KernelIdeal.frameF m ρ, frame_r, fun m ρ _ => Cert.KernelW.Gen.frame m ρ, fun m ρ _ => Cert.KernelWIdeal.Gen.frame m ρ, frame_rW, fun m ρ _ => Cert.KernelX.Gen.frame m ρ, fun m ρ _ => Cert.KernelXIdeal.Gen.frame m ρ, frame_rX, fun m ρ _ => Cert.KernelOY.Gen.frame m ρ, fun m ρ _ => Cert.KernelOYIdeal.Gen.frame m ρ, frame_rOY, fun m ρ _ => Cert.KernelOW.Gen.frame m ρ, fun m ρ _ => Cert.KernelOWIdeal.Gen.frame m ρ, frame_rOW, fun m ρ _ => Cert.KernelOF.Gen.frame m ρ, fun m ρ _ => Cert.KernelOFIdeal.Gen.frame m ρ, frame_rOF, fun m ρ _ => Cert.KernelUI.Gen.frame m ρ, fun m ρ _ => Cert.KernelUIIdeal.Gen.frame m ρ, frame_rUI, fun m ρ _ => Cert.KernelUO.Gen.frame m ρ, fun m ρ _ => Cert.KernelUOIdeal.Gen.frame m ρ, frame_rUO, fun m ρ _ => Cert.KernelS.Gen.frame m ρ, fun m ρ _ => Cert.KernelSIdeal.Gen.frame m ρ, frame_rS, fun m ρ _ => Cert.KernelA.Gen.frame m ρ, fun m ρ _ => Cert.KernelAIdeal.Gen.frame m ρ, frame_rA, fun m ρ _ => Cert.KernelFO.Gen.frame m ρ (okFO m), fun m ρ _ => Cert.KernelFOIdeal.Gen.frame m ρ (Cert.KernelFOIdeal.Value.ok m), frame_rFO, fun m ρ _ => Cert.KernelFN.Gen.frame m ρ (okFN m), fun m ρ _ => Cert.KernelFNIdeal.Gen.frame m ρ (Cert.KernelFNIdeal.Value.ok m), frame_rFN, fun m ρ _ => Cert.KernelFD.Gen.frame m ρ (okFD m), fun m ρ _ => Cert.KernelFDIdeal.Gen.frame m ρ (Cert.KernelFDIdeal.Value.ok m), frame_rFD, fun m ρ _ => Cert.KernelM.Gen.frame m ρ, fun m ρ _ => Cert.KernelMIdeal.Gen.frame m ρ, frame_rM, fun m ρ _ => Cert.KernelN.Gen.frame m ρ, fun m ρ _ => Cert.KernelNIdeal.Gen.frame m ρ, frame_rN, fun m ρ _ => Cert.KernelG.Gen.frame m ρ, fun m ρ _ => Cert.KernelGIdeal.Gen.frame m ρ, frame_rG, fun m ρ _ => Cert.KernelL.Gen.frame m ρ, fun m ρ _ => Cert.KernelLIdeal.Gen.frame m ρ, frame_rL, fun m ρ _ => Cert.KernelC.Gen.frame m ρ (okC m), fun m ρ _ => Cert.KernelCIdeal.Gen.frame m ρ (Cert.KernelCIdeal.Value.ok m), frame_rC, fun m ρ _ => Cert.KernelCO.Gen.frame m ρ (okCO m), fun m ρ _ => Cert.KernelCOIdeal.Gen.frame m ρ (Cert.KernelCOIdeal.Value.ok m), frame_rCO,
  preserves, trivial, algebraicW, trivial, algebraicX, trivial, algebraicOY, trivial, algebraicOW, trivial, algebraicOF, trivial, algebraicUI, trivial, algebraicUO, trivial, algebraicS, trivial, algebraicA, trivial, algebraicFO, trivial, algebraicFN, trivial, algebraicFD, trivial, algebraicM, trivial, algebraicN, trivial, algebraicG, trivial, algebraicL, trivial, algebraicC, trivial, algebraicCO⟩

end Cert.Proof

end
